-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gamma_bounded [hPre_gamma_bounded : Cert.Pre_gamma_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_gamma_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gamma_bounded [hPre_gamma_bounded : Cert.Pre_gamma_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gamma_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_gamma_bounded [hKernelIdeal : Cert.KernelIdeal.Facts] [hPre_gamma_bounded : Cert.Pre_gamma_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gamma_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_gamma_bounded [hReferenceIdeal : Cert.ReferenceIdeal.Facts] [hPre_gamma_bounded : Cert.Pre_gamma_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gamma_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_d_out" .f32 0x39888889#32 ((1 / 3840 : ℝ) : EReal)

def algebraic_KernelIdeal_ReferenceIdeal_pre_gamma_bounded [hKernelIdeal : Cert.KernelIdeal.Facts] [hReferenceIdeal : Cert.ReferenceIdeal.Facts] [hPre_gamma_bounded : Cert.Pre_gamma_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gamma_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5_0) = v0 c
          ∧ r.2.mem ((c.tc : Thread Cert.ReferenceIdeal.nD Cert.ReferenceIdeal.τ).loc Cert.ReferenceIdeal.main_v5_1) = v1 c
          ∧ r.2.mem ((c.tc : Thread Cert.ReferenceIdeal.nD Cert.ReferenceIdeal.τ).loc Cert.ReferenceIdeal.main_v6) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_gamma_bounded : Cert.Pre_gamma_bounded.Facts),
    quiescent_Kernel (hKernel := hKernel)
    ∧ quiescent_KernelIdeal (hKernelIdeal := hKernelIdeal)
    ∧ quiescent_KernelIdeal_pre_gamma_bounded (hKernelIdeal := hKernelIdeal) (hPre_gamma_bounded := hPre_gamma_bounded)
    ∧ quiescent_ReferenceIdeal (hReferenceIdeal := hReferenceIdeal)
    ∧ quiescent_ReferenceIdeal_pre_gamma_bounded (hReferenceIdeal := hReferenceIdeal) (hPre_gamma_bounded := hPre_gamma_bounded)
    ∧ preserves_Kernel_KernelIdeal
    ∧ algebraic_KernelIdeal_ReferenceIdeal_pre_gamma_bounded (hKernelIdeal := hKernelIdeal) (hReferenceIdeal := hReferenceIdeal) (hPre_gamma_bounded := hPre_gamma_bounded)
-- ==== Pre_gamma_bounded.lean ====
abbrev S16x2048x4096 : Shape := ⟨3, ![16, 2048, 4096]⟩
abbrev S16x2048x1 : Shape := ⟨3, ![16, 2048, 1]⟩
abbrev S4096x3840 : Shape := ⟨2, ![4096, 3840]⟩
abbrev S3840 : Shape := ⟨1, ![3840]⟩
abbrev S16x2048x3840 : Shape := ⟨3, ![16, 2048, 3840]⟩
abbrev S_ : Shape := ⟨0, ![]⟩

class Facts : Prop where
  bcast_S_S3840 : S_.BroadcastsInDim S3840 (![] : Fin 0 → Fin S3840.rank)

variable [Facts]

def fn {F : FTy → Type} [FloatOps F] (main_arg0 : FVec F S16x2048x4096 .fp8e4m3) (main_arg1 : FVec F S16x2048x1 .f32) (main_arg2 : FVec F S4096x3840 .fp8e4m3) (main_arg3 : FVec F S3840 .f32) (main_arg4 : FVec F S16x2048x3840 .bf16) (main_arg5 : FVec F S3840 .f32) : IVec S3840 1 :=
  let main_v0 : FVec F S3840 .f32 := Host.absf main_arg5
  let main_cst : FVec F S_ .f32 := constant S_ .f32 0x7F7FFFFF#32
  let main_v1 : FVec F S3840 .f32 := broadcastInDim S3840 ![] bcast_S_S3840 main_cst
  let main_v2 : IVec S3840 1 := cmpf .ole main_v0 main_v1
  main_v2
-- ==== Kernel.lean ====
abbrev S16x2048x4096 : Shape := ⟨3, ![16, 2048, 4096]⟩
abbrev S16x2048x1 : Shape := ⟨3, ![16, 2048, 1]⟩
abbrev S4096x3840 : Shape := ⟨2, ![4096, 3840]⟩
abbrev S3840 : Shape := ⟨1, ![3840]⟩
abbrev S16x2048x3840 : Shape := ⟨3, ![16, 2048, 3840]⟩
abbrev S32768x4096 : Shape := ⟨2, ![32768, 4096]⟩
abbrev S16x2048 : Shape := ⟨2, ![16, 2048]⟩
abbrev S1x3840 : Shape := ⟨2, ![1, 3840]⟩
abbrev S32768x3840 : Shape := ⟨2, ![32768, 3840]⟩
abbrev S512x4096 : Shape := ⟨2, ![512, 4096]⟩
abbrev S512x3840 : Shape := ⟨2, ![512, 3840]⟩
abbrev S2x512x3840 : Shape := ⟨3, ![2, 512, 3840]⟩
abbrev S512x128 : Shape := ⟨2, ![512, 128]⟩
abbrev S1x512x3840 : Shape := ⟨3, ![1, 512, 3840]⟩
abbrev S512 : Shape := ⟨1, ![512]⟩
abbrev S512x1 : Shape := ⟨2, ![512, 1]⟩
abbrev S1x512 : Shape := ⟨2, ![1, 512]⟩
abbrev S128x512 : Shape := ⟨2, ![128, 512]⟩
abbrev S4096x256 : Shape := ⟨2, ![4096, 256]⟩
abbrev S512x256 : Shape := ⟨2, ![512, 256]⟩
abbrev S1x512x256 : Shape := ⟨3, ![1, 512, 256]⟩
abbrev S1x256 : Shape := ⟨2, ![1, 256]⟩

abbrev nBuf : Space → Nat
  | .hbm => 14
  | .vmem => 15
  | .smem => 0
  | _ => 0

abbrev bufTy : (tb : Table) → Fin (tcTables nBuf tb) → BufTy
  | .hbm, ⟨0, _⟩ => ⟨S16x2048x4096, .fp8e4m3⟩
  | .hbm, ⟨1, _⟩ => ⟨S16x2048x1, .f32⟩
  | .hbm, ⟨2, _⟩ => ⟨S4096x3840, .fp8e4m3⟩
  | .hbm, ⟨3, _⟩ => ⟨S3840, .f32⟩
  | .hbm, ⟨4, _⟩ => ⟨S16x2048x3840, .bf16⟩
  | .hbm, ⟨5, _⟩ => ⟨S3840, .f32⟩
  | .hbm, ⟨6, _⟩ => ⟨S32768x4096, .fp8e4m3⟩
  | .hbm, ⟨7, _⟩ => ⟨S16x2048, .f32⟩
  | .hbm, ⟨8, _⟩ => ⟨S1x3840, .f32⟩
  | .hbm, ⟨9, _⟩ => ⟨S32768x3840, .bf16⟩
  | .hbm, ⟨10, _⟩ => ⟨S1x3840, .f32⟩
  | .hbm, ⟨11, _⟩ => ⟨S32768x3840, .bf16⟩
  | .hbm, ⟨12, _⟩ => ⟨S32768x3840, .fp8e4m3⟩
  | .hbm, ⟨13, _⟩ => ⟨S16x2048, .f32⟩
  | .local _ .vmem, ⟨0, _⟩ => ⟨S512x4096, .fp8e4m3⟩
  | .local _ .vmem, ⟨1, _⟩ => ⟨S512x4096, .fp8e4m3⟩
  | .local _ .vmem, ⟨2, _⟩ => ⟨S16x2048, .f32⟩
  | .local _ .vmem, ⟨3, _⟩ => ⟨S4096x3840, .fp8e4m3⟩
  | .local _ .vmem, ⟨4, _⟩ => ⟨S1x3840, .f32⟩
  | .local _ .vmem, ⟨5, _⟩ => ⟨S512x3840, .bf16⟩
  | .local _ .vmem, ⟨6, _⟩ => ⟨S512x3840, .bf16⟩
  | .local _ .vmem, ⟨7, _⟩ => ⟨S1x3840, .f32⟩
  | .local _ .vmem, ⟨8, _⟩ => ⟨S512x3840, .bf16⟩
  | .local _ .vmem, ⟨9, _⟩ => ⟨S512x3840, .bf16⟩
  | .local _ .vmem, ⟨10, _⟩ => ⟨S512x3840, .fp8e4m3⟩
  | .local _ .vmem, ⟨11, _⟩ => ⟨S512x3840, .fp8e4m3⟩
  | .local _ .vmem, ⟨12, _⟩ => ⟨S16x2048, .f32⟩
  | .local _ .vmem, ⟨13, _⟩ => ⟨S2x512x3840, .bf16⟩
  | .local _ .vmem, ⟨14, _⟩ => ⟨S512x128, .f32⟩
  | _, _ => ⟨S16x2048x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12

abbrev nD : Nat := 1
abbrev τ : Topo := Topo.v7x

variable {F : FTy → Type} [FloatOps F]

abbrev grid0 : Pipeline.Grid := ⟨1, ![65], ![false]⟩

def k0_cond2 (i : grid0.Coords) : BitVec 1 :=
  let arg0 : BitVec 32 := BitVec.ofNat 32 (i 0).val
  let c64_i32 : BitVec 32 := 64#32
  let v14 : BitVec 1 := Scalar.cmpi .slt arg0 c64_i32
  let v15 : BitVec 32 := Scalar.extui v14
  let c0_i32_6 : BitVec 32 := 0#32
  let v16 : BitVec 1 := Scalar.cmpi .ne v15 c0_i32_6
  v16

def k0_off1 (i : grid0.Coords) : Fin 2 → Nat :=
  let arg0 : BitVec 32 := BitVec.ofNat 32 (i 0).val
  let c0_i32_12 : BitVec 32 := 0#32
  let v31 : BitVec 1 := Scalar.cmpi .sgt arg0 c0_i32_12
  let v32 : BitVec 32 := Scalar.extui v31
  let c0_i32_13 : BitVec 32 := 0#32
  let v33 : BitVec 1 := Scalar.cmpi .slt arg0 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi arg0 c4_i32
  let c0_i32_16 : BitVec 32 := 0#32
  let v43 : BitVec 1 := Scalar.cmpi .ne v42 c0_i32_16
  let v44 : BitVec 1 := Scalar.andi v41 v43
  let v30 : BitVec 32 := Scalar.divsi arg0 c4_i32
  let c1_i32_17 : BitVec 32 := 1#32
  let v45 : BitVec 32 := Scalar.subi v30 c1_i32_17
  let v46 : BitVec 32 := Scalar.select v44 v45 v30
  let v58 : Index := Scalar.indexCast v46
  let c4_i32_18 : BitVec 32 := 4#32
  let c0_i32_19 : BitVec 32 := 0#32
  let v47 : BitVec 1 := Scalar.cmpi .eq c4_i32_18 c0_i32_19
  let c1_i32_20 : BitVec 32 := 1#32
  let v48 : BitVec 32 := Scalar.select v47 c1_i32_20 c4_i32_18
  let v49 : BitVec 32 := Scalar.remsi arg0 v48
  let c0_i32_22 : BitVec 32 := 0#32
  let v51 : BitVec 1 := Scalar.cmpi .slt v49 c0_i32_22
  let c0_i32_23 : BitVec 32 := 0#32
  let v52 : BitVec 1 := Scalar.cmpi .slt v48 c0_i32_23
  let v53 : BitVec 1 := Scalar.xori v51 v52
  let c0_i32_21 : BitVec 32 := 0#32
  let v50 : BitVec 1 := Scalar.cmpi .ne v49 c0_i32_21
  let v54 : BitVec 1 := Scalar.andi v53 v50
  let v55 : BitVec 32 := Scalar.addi v49 v48
  let v56 : BitVec 32 := Scalar.select v54 v55 v49
  let c512_i32 : BitVec 32 := 512#32
  let v57 : BitVec 32 := Scalar.muli v56 c512_i32
  let v59 : Index := Scalar.indexCast v57
  ![v58.toNat, v59.toNat]
def k0_off2 (i : grid0.Coords) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v69 : Index := Scalar.indexCast v10
  let c0_29 : Index := 0#32
  let c0_30 : Index := 0#32
  ![v69.toNat, 0, 0]
def k0_off3 (i : grid0.Coords) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v83 : Index := Scalar.indexCast v10
  let c0_33 : Index := 0#32
  let c1792 : Index := 1792#32
  ![v83.toNat, 0, 1792]
def k0_off4 (i : grid0.Coords) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v98 : Index := Scalar.indexCast v10
  let c0_36 : Index := 0#32
  let c3584 : Index := 3584#32
  ![v98.toNat, 0, 3584]
def k0_off5 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v125 : Index := Scalar.indexCast v9
  let c0_45 : Index := 0#32
  let c0_46 : Index := 0#32
  ![v125.toNat, 0, 0]
def k0_off6 (i : grid0.Coords) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v138 : Index := Scalar.indexCast v10
  let c0_51 : Index := 0#32
  let c256_52 : Index := 256#32
  ![v138.toNat, 0, 256]
def k0_off7 (i : grid0.Coords) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v153 : Index := Scalar.indexCast v10
  let c0_55 : Index := 0#32
  let c2048 : Index := 2048#32
  ![v153.toNat, 0, 2048]
def k0_off8 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v180 : Index := Scalar.indexCast v9
  let c0_64 : Index := 0#32
  let c256_65 : Index := 256#32
  ![v180.toNat, 0, 256]
def k0_off9 (i : grid0.Coords) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v194 : Index := Scalar.indexCast v10
  let c0_70 : Index := 0#32
  let c512_71 : Index := 512#32
  ![v194.toNat, 0, 512]
def k0_off10 (i : grid0.Coords) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v209 : Index := Scalar.indexCast v10
  let c0_74 : Index := 0#32
  let c2304 : Index := 2304#32
  ![v209.toNat, 0, 2304]
def k0_off11 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v236 : Index := Scalar.indexCast v9
  let c0_83 : Index := 0#32
  let c512_84 : Index := 512#32
  ![v236.toNat, 0, 512]
def k0_off12 (i : grid0.Coords) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v250 : Index := Scalar.indexCast v10
  let c0_89 : Index := 0#32
  let c768_90 : Index := 768#32
  ![v250.toNat, 0, 768]
def k0_off13 (i : grid0.Coords) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v265 : Index := Scalar.indexCast v10
  let c0_93 : Index := 0#32
  let c2560 : Index := 2560#32
  ![v265.toNat, 0, 2560]
def k0_off14 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v292 : Index := Scalar.indexCast v9
  let c0_102 : Index := 0#32
  let c768_103 : Index := 768#32
  ![v292.toNat, 0, 768]
def k0_off15 (i : grid0.Coords) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v306 : Index := Scalar.indexCast v10
  let c0_108 : Index := 0#32
  let c1024_109 : Index := 1024#32
  ![v306.toNat, 0, 1024]
def k0_off16 (i : grid0.Coords) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v321 : Index := Scalar.indexCast v10
  let c0_112 : Index := 0#32
  let c2816 : Index := 2816#32
  ![v321.toNat, 0, 2816]
def k0_off17 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v348 : Index := Scalar.indexCast v9
  let c0_121 : Index := 0#32
  let c1024_122 : Index := 1024#32
  ![v348.toNat, 0, 1024]
def k0_off18 (i : grid0.Coords) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v362 : Index := Scalar.indexCast v10
  let c0_127 : Index := 0#32
  let c1280_128 : Index := 1280#32
  ![v362.toNat, 0, 1280]
def k0_off19 (i : grid0.Coords) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v377 : Index := Scalar.indexCast v10
  let c0_131 : Index := 0#32
  let c3072 : Index := 3072#32
  ![v377.toNat, 0, 3072]
def k0_off20 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v404 : Index := Scalar.indexCast v9
  let c0_140 : Index := 0#32
  let c1280_141 : Index := 1280#32
  ![v404.toNat, 0, 1280]
def k0_off21 (i : grid0.Coords) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v418 : Index := Scalar.indexCast v10
  let c0_146 : Index := 0#32
  let c1536_147 : Index := 1536#32
  ![v418.toNat, 0, 1536]
def k0_off22 (i : grid0.Coords) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v433 : Index := Scalar.indexCast v10
  let c0_150 : Index := 0#32
  let c3328 : Index := 3328#32
  ![v433.toNat, 0, 3328]
def k0_off23 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v460 : Index := Scalar.indexCast v9
  let c0_159 : Index := 0#32
  let c1536_160 : Index := 1536#32
  ![v460.toNat, 0, 1536]
def k0_off24 (i : grid0.Coords) : Fin 2 → Nat :=
  let arg0 : BitVec 32 := BitVec.ofNat 32 (i 0).val
  let c1_i32_184 : BitVec 32 := 1#32
  let v553 : BitVec 32 := Scalar.subi arg0 c1_i32_184
  let c0_i32_185 : BitVec 32 := 0#32
  let v554 : BitVec 32 := Scalar.maxsi v553 c0_i32_185
  let c0_i32_189 : BitVec 32 := 0#32
  let v563 : BitVec 1 := Scalar.cmpi .sgt v554 c0_i32_189
  let v564 : BitVec 32 := Scalar.extui v563
  let c0_i32_190 : BitVec 32 := 0#32
  let v565 : BitVec 1 := Scalar.cmpi .slt v554 c0_i32_190
  let v566 : BitVec 32 := Scalar.extui v565
  let v567 : BitVec 32 := Scalar.subi v564 v566
  let c4_i32_188 : BitVec 32 := 4#32
  let c0_i32_191 : BitVec 32 := 0#32
  let v568 : BitVec 1 := Scalar.cmpi .sgt c4_i32_188 c0_i32_191
  let v569 : BitVec 32 := Scalar.extui v568
  let c0_i32_192 : BitVec 32 := 0#32
  let v570 : BitVec 1 := Scalar.cmpi .slt c4_i32_188 c0_i32_192
  let v571 : BitVec 32 := Scalar.extui v570
  let v572 : BitVec 32 := Scalar.subi v569 v571
  let v573 : BitVec 1 := Scalar.cmpi .ne v567 v572
  let v574 : BitVec 32 := Scalar.remsi v554 c4_i32_188
  let c0_i32_193 : BitVec 32 := 0#32
  let v575 : BitVec 1 := Scalar.cmpi .ne v574 c0_i32_193
  let v576 : BitVec 1 := Scalar.andi v573 v575
  let v562 : BitVec 32 := Scalar.divsi v554 c4_i32_188
  let c1_i32_194 : BitVec 32 := 1#32
  let v577 : BitVec 32 := Scalar.subi v562 c1_i32_194
  let v578 : BitVec 32 := Scalar.select v576 v577 v562
  let v590 : Index := Scalar.indexCast v578
  let c4_i32_195 : BitVec 32 := 4#32
  let c0_i32_196 : BitVec 32 := 0#32
  let v579 : BitVec 1 := Scalar.cmpi .eq c4_i32_195 c0_i32_196
  let c1_i32_197 : BitVec 32 := 1#32
  let v580 : BitVec 32 := Scalar.select v579 c1_i32_197 c4_i32_195
  let v581 : BitVec 32 := Scalar.remsi v554 v580
  let c0_i32_199 : BitVec 32 := 0#32
  let v583 : BitVec 1 := Scalar.cmpi .slt v581 c0_i32_199
  let c0_i32_200 : BitVec 32 := 0#32
  let v584 : BitVec 1 := Scalar.cmpi .slt v580 c0_i32_200
  let v585 : BitVec 1 := Scalar.xori v583 v584
  let c0_i32_198 : BitVec 32 := 0#32
  let v582 : BitVec 1 := Scalar.cmpi .ne v581 c0_i32_198
  let v586 : BitVec 1 := Scalar.andi v585 v582
  let v587 : BitVec 32 := Scalar.addi v581 v580
  let v588 : BitVec 32 := Scalar.select v586 v587 v581
  let c512_i32_201 : BitVec 32 := 512#32
  let v589 : BitVec 32 := Scalar.muli v588 c512_i32_201
  let v591 : Index := Scalar.indexCast v589
  ![v590.toNat, v591.toNat]
def k0_off25 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v605 : Index := Scalar.indexCast v9
  let c0_208 : Index := 0#32
  let c1792_209 : Index := 1792#32
  ![v605.toNat, 0, 1792]
def k0_off26 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v685 : Index := Scalar.indexCast v9
  let c0_245 : Index := 0#32
  let c2048_246 : Index := 2048#32
  ![v685.toNat, 0, 2048]
def k0_off27 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v747 : Index := Scalar.indexCast v9
  let c0_274 : Index := 0#32
  let c2304_275 : Index := 2304#32
  ![v747.toNat, 0, 2304]
def k0_off28 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v809 : Index := Scalar.indexCast v9
  let c0_303 : Index := 0#32
  let c2560_304 : Index := 2560#32
  ![v809.toNat, 0, 2560]
def k0_off29 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v871 : Index := Scalar.indexCast v9
  let c0_332 : Index := 0#32
  let c2816_333 : Index := 2816#32
  ![v871.toNat, 0, 2816]
def k0_off30 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v933 : Index := Scalar.indexCast v9
  let c0_361 : Index := 0#32
  let c3072_362 : Index := 3072#32
  ![v933.toNat, 0, 3072]
def k0_off31 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v995 : Index := Scalar.indexCast v9
  let c0_390 : Index := 0#32
  let c3328_391 : Index := 3328#32
  ![v995.toNat, 0, 3328]
def k0_off32 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1057 : Index := Scalar.indexCast v9
  let c0_419 : Index := 0#32
  let c3584_420 : Index := 3584#32
  ![v1057.toNat, 0, 3584]
def k0_cond3 (i : grid0.Coords) : BitVec 1 :=
  let arg0 : BitVec 32 := BitVec.ofNat 32 (i 0).val
  let c64_i32_7 : BitVec 32 := 64#32
  let v17 : BitVec 1 := Scalar.cmpi .eq arg0 c64_i32_7
  let v18 : BitVec 32 := Scalar.extui v17
  let c0_i32_8 : BitVec 32 := 0#32
  let v19 : BitVec 1 := Scalar.cmpi .ne v18 c0_i32_8
  v19

def k0_off33 (i : grid0.Coords) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v30 : Index := Scalar.indexCast v10
  let c0_12 : Index := 0#32
  let c0_13 : Index := 0#32
  ![v30.toNat, 0, 0]
def k0_off34 (i : grid0.Coords) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v44 : Index := Scalar.indexCast v10
  let c0_16 : Index := 0#32
  let c1792 : Index := 1792#32
  ![v44.toNat, 0, 1792]
def k0_off35 (i : grid0.Coords) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v59 : Index := Scalar.indexCast v10
  let c0_19 : Index := 0#32
  let c3584 : Index := 3584#32
  ![v59.toNat, 0, 3584]
def k0_off36 (i : grid0.Coords) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v74 : Index := Scalar.indexCast v10
  let c0_22 : Index := 0#32
  let c256 : Index := 256#32
  ![v74.toNat, 0, 256]
def k0_off37 (i : grid0.Coords) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v89 : Index := Scalar.indexCast v10
  let c0_25 : Index := 0#32
  let c2048 : Index := 2048#32
  ![v89.toNat, 0, 2048]
def k0_off38 (i : grid0.Coords) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v104 : Index := Scalar.indexCast v10
  let c0_28 : Index := 0#32
  let c512 : Index := 512#32
  ![v104.toNat, 0, 512]
def k0_off39 (i : grid0.Coords) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v119 : Index := Scalar.indexCast v10
  let c0_31 : Index := 0#32
  let c2304 : Index := 2304#32
  ![v119.toNat, 0, 2304]
def k0_off40 (i : grid0.Coords) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v134 : Index := Scalar.indexCast v10
  let c0_34 : Index := 0#32
  let c768 : Index := 768#32
  ![v134.toNat, 0, 768]
def k0_off41 (i : grid0.Coords) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v149 : Index := Scalar.indexCast v10
  let c0_37 : Index := 0#32
  let c2560 : Index := 2560#32
  ![v149.toNat, 0, 2560]
def k0_off42 (i : grid0.Coords) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v164 : Index := Scalar.indexCast v10
  let c0_40 : Index := 0#32
  let c1024 : Index := 1024#32
  ![v164.toNat, 0, 1024]
def k0_off43 (i : grid0.Coords) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v179 : Index := Scalar.indexCast v10
  let c0_43 : Index := 0#32
  let c2816 : Index := 2816#32
  ![v179.toNat, 0, 2816]
def k0_off44 (i : grid0.Coords) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v194 : Index := Scalar.indexCast v10
  let c0_46 : Index := 0#32
  let c1280 : Index := 1280#32
  ![v194.toNat, 0, 1280]
def k0_off45 (i : grid0.Coords) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v209 : Index := Scalar.indexCast v10
  let c0_49 : Index := 0#32
  let c3072 : Index := 3072#32
  ![v209.toNat, 0, 3072]
def k0_off46 (i : grid0.Coords) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v224 : Index := Scalar.indexCast v10
  let c0_52 : Index := 0#32
  let c1536 : Index := 1536#32
  ![v224.toNat, 0, 1536]
def k0_off47 (i : grid0.Coords) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v239 : Index := Scalar.indexCast v10
  let c0_55 : Index := 0#32
  let c3328 : Index := 3328#32
  ![v239.toNat, 0, 3328]
def k0_off48 (i : grid0.Coords) : Fin 2 → Nat :=
  let arg0 : BitVec 32 := BitVec.ofNat 32 (i 0).val
  let c1_i32_75 : BitVec 32 := 1#32
  let v333 : BitVec 32 := Scalar.subi arg0 c1_i32_75
  let c0_i32_76 : BitVec 32 := 0#32
  let v334 : BitVec 32 := Scalar.maxsi v333 c0_i32_76
  let c0_i32_80 : BitVec 32 := 0#32
  let v343 : BitVec 1 := Scalar.cmpi .sgt v334 c0_i32_80
  let v344 : BitVec 32 := Scalar.extui v343
  let c0_i32_81 : BitVec 32 := 0#32
  let v345 : BitVec 1 := Scalar.cmpi .slt v334 c0_i32_81
  let v346 : BitVec 32 := Scalar.extui v345
  let v347 : BitVec 32 := Scalar.subi v344 v346
  let c4_i32_79 : BitVec 32 := 4#32
  let c0_i32_82 : BitVec 32 := 0#32
  let v348 : BitVec 1 := Scalar.cmpi .sgt c4_i32_79 c0_i32_82
  let v349 : BitVec 32 := Scalar.extui v348
  let c0_i32_83 : BitVec 32 := 0#32
  let v350 : BitVec 1 := Scalar.cmpi .slt c4_i32_79 c0_i32_83
  let v351 : BitVec 32 := Scalar.extui v350
  let v352 : BitVec 32 := Scalar.subi v349 v351
  let v353 : BitVec 1 := Scalar.cmpi .ne v347 v352
  let v354 : BitVec 32 := Scalar.remsi v334 c4_i32_79
  let c0_i32_84 : BitVec 32 := 0#32
  let v355 : BitVec 1 := Scalar.cmpi .ne v354 c0_i32_84
  let v356 : BitVec 1 := Scalar.andi v353 v355
  let v342 : BitVec 32 := Scalar.divsi v334 c4_i32_79
  let c1_i32_85 : BitVec 32 := 1#32
  let v357 : BitVec 32 := Scalar.subi v342 c1_i32_85
  let v358 : BitVec 32 := Scalar.select v356 v357 v342
  let v370 : Index := Scalar.indexCast v358
  let c4_i32_86 : BitVec 32 := 4#32
  let c0_i32_87 : BitVec 32 := 0#32
  let v359 : BitVec 1 := Scalar.cmpi .eq c4_i32_86 c0_i32_87
  let c1_i32_88 : BitVec 32 := 1#32
  let v360 : BitVec 32 := Scalar.select v359 c1_i32_88 c4_i32_86
  let v361 : BitVec 32 := Scalar.remsi v334 v360
  let c0_i32_90 : BitVec 32 := 0#32
  let v363 : BitVec 1 := Scalar.cmpi .slt v361 c0_i32_90
  let c0_i32_91 : BitVec 32 := 0#32
  let v364 : BitVec 1 := Scalar.cmpi .slt v360 c0_i32_91
  let v365 : BitVec 1 := Scalar.xori v363 v364
  let c0_i32_89 : BitVec 32 := 0#32
  let v362 : BitVec 1 := Scalar.cmpi .ne v361 c0_i32_89
  let v366 : BitVec 1 := Scalar.andi v365 v362
  let v367 : BitVec 32 := Scalar.addi v361 v360
  let v368 : BitVec 32 := Scalar.select v366 v367 v361
  let c512_i32 : BitVec 32 := 512#32
  let v369 : BitVec 32 := Scalar.muli v368 c512_i32
  let v371 : Index := Scalar.indexCast v369
  ![v370.toNat, v371.toNat]
def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x3840 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3840 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3840 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x3840 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x3840 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x3840 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S16x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelIdeal.lean ====
variable {F : FTy → Type} [FloatOps F] [Named F]
def κ : String → Option EReal := fun
  | "inv_d_out" => some ((1 / 3840 : ℝ) : EReal)
  | _ => none
-- ==== ReferenceIdeal.lean ====
abbrev S16x2048x4096 : Shape := ⟨3, ![16, 2048, 4096]⟩
abbrev S16x2048x1 : Shape := ⟨3, ![16, 2048, 1]⟩
abbrev S4096x3840 : Shape := ⟨2, ![4096, 3840]⟩
abbrev S3840 : Shape := ⟨1, ![3840]⟩
abbrev S16x2048x3840 : Shape := ⟨3, ![16, 2048, 3840]⟩
abbrev S32768x4096 : Shape := ⟨2, ![32768, 4096]⟩
abbrev S32768x1 : Shape := ⟨2, ![32768, 1]⟩
abbrev S1x3840 : Shape := ⟨2, ![1, 3840]⟩
abbrev S32768x3840 : Shape := ⟨2, ![32768, 3840]⟩
abbrev S32768 : Shape := ⟨1, ![32768]⟩
abbrev S16x2048 : Shape := ⟨2, ![16, 2048]⟩

abbrev nBuf : Space → Nat
  | .hbm => 15
  | .vmem => 9
  | .smem => 0
  | _ => 0

abbrev bufTy : (tb : Table) → Fin (tcTables nBuf tb) → BufTy
  | .hbm, ⟨0, _⟩ => ⟨S16x2048x4096, .fp8e4m3⟩
  | .hbm, ⟨1, _⟩ => ⟨S16x2048x1, .f32⟩
  | .hbm, ⟨2, _⟩ => ⟨S4096x3840, .fp8e4m3⟩
  | .hbm, ⟨3, _⟩ => ⟨S3840, .f32⟩
  | .hbm, ⟨4, _⟩ => ⟨S16x2048x3840, .bf16⟩
  | .hbm, ⟨5, _⟩ => ⟨S3840, .f32⟩
  | .hbm, ⟨6, _⟩ => ⟨S32768x4096, .fp8e4m3⟩
  | .hbm, ⟨7, _⟩ => ⟨S32768x1, .f32⟩
  | .hbm, ⟨8, _⟩ => ⟨S1x3840, .f32⟩
  | .hbm, ⟨9, _⟩ => ⟨S32768x3840, .bf16⟩
  | .hbm, ⟨10, _⟩ => ⟨S1x3840, .f32⟩
  | .hbm, ⟨11, _⟩ => ⟨S32768x3840, .bf16⟩
  | .hbm, ⟨12, _⟩ => ⟨S32768x3840, .fp8e4m3⟩
  | .hbm, ⟨13, _⟩ => ⟨S32768x1, .f32⟩
  | .hbm, ⟨14, _⟩ => ⟨S16x2048, .f32⟩
  | .local _ .vmem, ⟨0, _⟩ => ⟨S32768x4096, .fp8e4m3⟩
  | .local _ .vmem, ⟨1, _⟩ => ⟨S32768x1, .f32⟩
  | .local _ .vmem, ⟨2, _⟩ => ⟨S4096x3840, .fp8e4m3⟩
  | .local _ .vmem, ⟨3, _⟩ => ⟨S1x3840, .f32⟩
  | .local _ .vmem, ⟨4, _⟩ => ⟨S32768x3840, .bf16⟩
  | .local _ .vmem, ⟨5, _⟩ => ⟨S1x3840, .f32⟩
  | .local _ .vmem, ⟨6, _⟩ => ⟨S32768x3840, .bf16⟩
  | .local _ .vmem, ⟨7, _⟩ => ⟨S32768x3840, .fp8e4m3⟩
  | .local _ .vmem, ⟨8, _⟩ => ⟨S32768x1, .f32⟩
  | _, _ => ⟨S16x2048x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v6 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S32768x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32768x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x3840 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3840 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32768x3840 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x3840 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32768x3840 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32768x3840 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32768x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.OffsetsBits.lean ====
/-
  The closed forms of the kernel's offsets and guards: which half of the two-slot scratch a load or store addresses
  (the slot of the point's parity, or the other one), and the row and columns of the scale arrays it touches.
-/
module

public import proofs.«01_k».proof.Proof.Gen.Kernel.Frame
public import proofs.«01_k».proof.Proof.Gen.Kernel.Skeleton
public import Idealize.ShloMosaic.Lib.Exec

@[expose] public section

namespace Cert.Kernel.Hand

open Cert.Kernel Cert.Kernel.Gen
open Idealize.ShloMosaic

/-- The one-axis grid's coordinates at point `v`. -/
def cAt (v : Fin 65) : grid0.Coords := fun a => ⟨v.val, by
  obtain rfl : a = (0 : Fin 1) := Subsingleton.elim _ _
  exact v.isLt⟩
/-- A property of every coordinate vector of the one-axis grid, from its 65 points. -/
theorem forall_coords {p : grid0.Coords → Prop} (h : ∀ v : Fin 65, p (cAt v)) (i : grid0.Coords) : p i := by
  have : i = cAt (i 0) := by
    funext a; obtain rfl : a = (0 : Fin 1) := Subsingleton.elim _ _; rfl
  rw [this]; exact h (i 0)

theorem cond1_iff (i : grid0.Coords) :
    (Scalar.cmpi .ne (Scalar.extui (Scalar.cmpi .eq (BitVec.ofNat 32 (i 0).val) 0#32)) 0#32 : BitVec 1) = 1#1 ↔ (i 0).val = 0 :=
  forall_coords (p := fun i => (Scalar.cmpi .ne (Scalar.extui (Scalar.cmpi .eq (BitVec.ofNat 32 (i 0).val) 0#32)) 0#32 : BitVec 1) = 1#1 ↔ (i 0).val = 0)
    (by decide +kernel) i
theorem cond2_iff (i : grid0.Coords) : k0_cond2 i = 1#1 ↔ (i 0).val < 64 :=
  forall_coords (p := fun i => k0_cond2 i = 1#1 ↔ (i 0).val < 64) (by decide +kernel) i
theorem cond3_iff (i : grid0.Coords) : k0_cond3 i = 1#1 ↔ (i 0).val = 64 :=
  forall_coords (p := fun i => k0_cond3 i = 1#1 ↔ (i 0).val = 64) (by decide +kernel) i

theorem off1_eq (i : grid0.Coords) : k0_off1 i = ![(i 0).val / 4, (i 0).val % 4 * 512] :=
  forall_coords (p := fun i => k0_off1 i = ![(i 0).val / 4, (i 0).val % 4 * 512]) (by decide +kernel) i
instance closedOff1 (i : grid0.Coords) : ClosedOff (k0_off1 i) := ⟨![(i 0).val / 4, (i 0).val % 4 * 512], off1_eq i⟩
theorem off2_eq (i : grid0.Coords) : k0_off2 i = ![1 - (i 0).val % 2, 0, 0] :=
  forall_coords (p := fun i => k0_off2 i = ![1 - (i 0).val % 2, 0, 0]) (by decide +kernel) i
instance closedOff2 (i : grid0.Coords) : ClosedOff (k0_off2 i) := ⟨![1 - (i 0).val % 2, 0, 0], off2_eq i⟩
theorem off3_eq (i : grid0.Coords) : k0_off3 i = ![1 - (i 0).val % 2, 0, 1792] :=
  forall_coords (p := fun i => k0_off3 i = ![1 - (i 0).val % 2, 0, 1792]) (by decide +kernel) i
instance closedOff3 (i : grid0.Coords) : ClosedOff (k0_off3 i) := ⟨![1 - (i 0).val % 2, 0, 1792], off3_eq i⟩
theorem off4_eq (i : grid0.Coords) : k0_off4 i = ![1 - (i 0).val % 2, 0, 3584] :=
  forall_coords (p := fun i => k0_off4 i = ![1 - (i 0).val % 2, 0, 3584]) (by decide +kernel) i
instance closedOff4 (i : grid0.Coords) : ClosedOff (k0_off4 i) := ⟨![1 - (i 0).val % 2, 0, 3584], off4_eq i⟩
theorem off5_eq (i : grid0.Coords) : k0_off5 i = ![(i 0).val % 2, 0, 0] :=
  forall_coords (p := fun i => k0_off5 i = ![(i 0).val % 2, 0, 0]) (by decide +kernel) i
instance closedOff5 (i : grid0.Coords) : ClosedOff (k0_off5 i) := ⟨![(i 0).val % 2, 0, 0], off5_eq i⟩
theorem off6_eq (i : grid0.Coords) : k0_off6 i = ![1 - (i 0).val % 2, 0, 256] :=
  forall_coords (p := fun i => k0_off6 i = ![1 - (i 0).val % 2, 0, 256]) (by decide +kernel) i
instance closedOff6 (i : grid0.Coords) : ClosedOff (k0_off6 i) := ⟨![1 - (i 0).val % 2, 0, 256], off6_eq i⟩
theorem off7_eq (i : grid0.Coords) : k0_off7 i = ![1 - (i 0).val % 2, 0, 2048] :=
  forall_coords (p := fun i => k0_off7 i = ![1 - (i 0).val % 2, 0, 2048]) (by decide +kernel) i
instance closedOff7 (i : grid0.Coords) : ClosedOff (k0_off7 i) := ⟨![1 - (i 0).val % 2, 0, 2048], off7_eq i⟩
theorem off8_eq (i : grid0.Coords) : k0_off8 i = ![(i 0).val % 2, 0, 256] :=
  forall_coords (p := fun i => k0_off8 i = ![(i 0).val % 2, 0, 256]) (by decide +kernel) i
instance closedOff8 (i : grid0.Coords) : ClosedOff (k0_off8 i) := ⟨![(i 0).val % 2, 0, 256], off8_eq i⟩
theorem off9_eq (i : grid0.Coords) : k0_off9 i = ![1 - (i 0).val % 2, 0, 512] :=
  forall_coords (p := fun i => k0_off9 i = ![1 - (i 0).val % 2, 0, 512]) (by decide +kernel) i
instance closedOff9 (i : grid0.Coords) : ClosedOff (k0_off9 i) := ⟨![1 - (i 0).val % 2, 0, 512], off9_eq i⟩
theorem off10_eq (i : grid0.Coords) : k0_off10 i = ![1 - (i 0).val % 2, 0, 2304] :=
  forall_coords (p := fun i => k0_off10 i = ![1 - (i 0).val % 2, 0, 2304]) (by decide +kernel) i
instance closedOff10 (i : grid0.Coords) : ClosedOff (k0_off10 i) := ⟨![1 - (i 0).val % 2, 0, 2304], off10_eq i⟩
theorem off11_eq (i : grid0.Coords) : k0_off11 i = ![(i 0).val % 2, 0, 512] :=
  forall_coords (p := fun i => k0_off11 i = ![(i 0).val % 2, 0, 512]) (by decide +kernel) i
instance closedOff11 (i : grid0.Coords) : ClosedOff (k0_off11 i) := ⟨![(i 0).val % 2, 0, 512], off11_eq i⟩
theorem off12_eq (i : grid0.Coords) : k0_off12 i = ![1 - (i 0).val % 2, 0, 768] :=
  forall_coords (p := fun i => k0_off12 i = ![1 - (i 0).val % 2, 0, 768]) (by decide +kernel) i
instance closedOff12 (i : grid0.Coords) : ClosedOff (k0_off12 i) := ⟨![1 - (i 0).val % 2, 0, 768], off12_eq i⟩
theorem off13_eq (i : grid0.Coords) : k0_off13 i = ![1 - (i 0).val % 2, 0, 2560] :=
  forall_coords (p := fun i => k0_off13 i = ![1 - (i 0).val % 2, 0, 2560]) (by decide +kernel) i
instance closedOff13 (i : grid0.Coords) : ClosedOff (k0_off13 i) := ⟨![1 - (i 0).val % 2, 0, 2560], off13_eq i⟩
theorem off14_eq (i : grid0.Coords) : k0_off14 i = ![(i 0).val % 2, 0, 768] :=
  forall_coords (p := fun i => k0_off14 i = ![(i 0).val % 2, 0, 768]) (by decide +kernel) i
instance closedOff14 (i : grid0.Coords) : ClosedOff (k0_off14 i) := ⟨![(i 0).val % 2, 0, 768], off14_eq i⟩
theorem off15_eq (i : grid0.Coords) : k0_off15 i = ![1 - (i 0).val % 2, 0, 1024] :=
  forall_coords (p := fun i => k0_off15 i = ![1 - (i 0).val % 2, 0, 1024]) (by decide +kernel) i
instance closedOff15 (i : grid0.Coords) : ClosedOff (k0_off15 i) := ⟨![1 - (i 0).val % 2, 0, 1024], off15_eq i⟩
theorem off16_eq (i : grid0.Coords) : k0_off16 i = ![1 - (i 0).val % 2, 0, 2816] :=
  forall_coords (p := fun i => k0_off16 i = ![1 - (i 0).val % 2, 0, 2816]) (by decide +kernel) i
instance closedOff16 (i : grid0.Coords) : ClosedOff (k0_off16 i) := ⟨![1 - (i 0).val % 2, 0, 2816], off16_eq i⟩
theorem off17_eq (i : grid0.Coords) : k0_off17 i = ![(i 0).val % 2, 0, 1024] :=
  forall_coords (p := fun i => k0_off17 i = ![(i 0).val % 2, 0, 1024]) (by decide +kernel) i
instance closedOff17 (i : grid0.Coords) : ClosedOff (k0_off17 i) := ⟨![(i 0).val % 2, 0, 1024], off17_eq i⟩
theorem off18_eq (i : grid0.Coords) : k0_off18 i = ![1 - (i 0).val % 2, 0, 1280] :=
  forall_coords (p := fun i => k0_off18 i = ![1 - (i 0).val % 2, 0, 1280]) (by decide +kernel) i
instance closedOff18 (i : grid0.Coords) : ClosedOff (k0_off18 i) := ⟨![1 - (i 0).val % 2, 0, 1280], off18_eq i⟩
theorem off19_eq (i : grid0.Coords) : k0_off19 i = ![1 - (i 0).val % 2, 0, 3072] :=
  forall_coords (p := fun i => k0_off19 i = ![1 - (i 0).val % 2, 0, 3072]) (by decide +kernel) i
instance closedOff19 (i : grid0.Coords) : ClosedOff (k0_off19 i) := ⟨![1 - (i 0).val % 2, 0, 3072], off19_eq i⟩
theorem off20_eq (i : grid0.Coords) : k0_off20 i = ![(i 0).val % 2, 0, 1280] :=
  forall_coords (p := fun i => k0_off20 i = ![(i 0).val % 2, 0, 1280]) (by decide +kernel) i
instance closedOff20 (i : grid0.Coords) : ClosedOff (k0_off20 i) := ⟨![(i 0).val % 2, 0, 1280], off20_eq i⟩
theorem off21_eq (i : grid0.Coords) : k0_off21 i = ![1 - (i 0).val % 2, 0, 1536] :=
  forall_coords (p := fun i => k0_off21 i = ![1 - (i 0).val % 2, 0, 1536]) (by decide +kernel) i
instance closedOff21 (i : grid0.Coords) : ClosedOff (k0_off21 i) := ⟨![1 - (i 0).val % 2, 0, 1536], off21_eq i⟩
theorem off22_eq (i : grid0.Coords) : k0_off22 i = ![1 - (i 0).val % 2, 0, 3328] :=
  forall_coords (p := fun i => k0_off22 i = ![1 - (i 0).val % 2, 0, 3328]) (by decide +kernel) i
instance closedOff22 (i : grid0.Coords) : ClosedOff (k0_off22 i) := ⟨![1 - (i 0).val % 2, 0, 3328], off22_eq i⟩
theorem off23_eq (i : grid0.Coords) : k0_off23 i = ![(i 0).val % 2, 0, 1536] :=
  forall_coords (p := fun i => k0_off23 i = ![(i 0).val % 2, 0, 1536]) (by decide +kernel) i
instance closedOff23 (i : grid0.Coords) : ClosedOff (k0_off23 i) := ⟨![(i 0).val % 2, 0, 1536], off23_eq i⟩
theorem off24_eq (i : grid0.Coords) : k0_off24 i = ![((i 0).val - 1) / 4, ((i 0).val - 1) % 4 * 512] :=
  forall_coords (p := fun i => k0_off24 i = ![((i 0).val - 1) / 4, ((i 0).val - 1) % 4 * 512]) (by decide +kernel) i
instance closedOff24 (i : grid0.Coords) : ClosedOff (k0_off24 i) := ⟨![((i 0).val - 1) / 4, ((i 0).val - 1) % 4 * 512], off24_eq i⟩
theorem off25_eq (i : grid0.Coords) : k0_off25 i = ![(i 0).val % 2, 0, 1792] :=
  forall_coords (p := fun i => k0_off25 i = ![(i 0).val % 2, 0, 1792]) (by decide +kernel) i
instance closedOff25 (i : grid0.Coords) : ClosedOff (k0_off25 i) := ⟨![(i 0).val % 2, 0, 1792], off25_eq i⟩
theorem off26_eq (i : grid0.Coords) : k0_off26 i = ![(i 0).val % 2, 0, 2048] :=
  forall_coords (p := fun i => k0_off26 i = ![(i 0).val % 2, 0, 2048]) (by decide +kernel) i
instance closedOff26 (i : grid0.Coords) : ClosedOff (k0_off26 i) := ⟨![(i 0).val % 2, 0, 2048], off26_eq i⟩
theorem off27_eq (i : grid0.Coords) : k0_off27 i = ![(i 0).val % 2, 0, 2304] :=
  forall_coords (p := fun i => k0_off27 i = ![(i 0).val % 2, 0, 2304]) (by decide +kernel) i
instance closedOff27 (i : grid0.Coords) : ClosedOff (k0_off27 i) := ⟨![(i 0).val % 2, 0, 2304], off27_eq i⟩
theorem off28_eq (i : grid0.Coords) : k0_off28 i = ![(i 0).val % 2, 0, 2560] :=
  forall_coords (p := fun i => k0_off28 i = ![(i 0).val % 2, 0, 2560]) (by decide +kernel) i
instance closedOff28 (i : grid0.Coords) : ClosedOff (k0_off28 i) := ⟨![(i 0).val % 2, 0, 2560], off28_eq i⟩
theorem off29_eq (i : grid0.Coords) : k0_off29 i = ![(i 0).val % 2, 0, 2816] :=
  forall_coords (p := fun i => k0_off29 i = ![(i 0).val % 2, 0, 2816]) (by decide +kernel) i
instance closedOff29 (i : grid0.Coords) : ClosedOff (k0_off29 i) := ⟨![(i 0).val % 2, 0, 2816], off29_eq i⟩
theorem off30_eq (i : grid0.Coords) : k0_off30 i = ![(i 0).val % 2, 0, 3072] :=
  forall_coords (p := fun i => k0_off30 i = ![(i 0).val % 2, 0, 3072]) (by decide +kernel) i
instance closedOff30 (i : grid0.Coords) : ClosedOff (k0_off30 i) := ⟨![(i 0).val % 2, 0, 3072], off30_eq i⟩
theorem off31_eq (i : grid0.Coords) : k0_off31 i = ![(i 0).val % 2, 0, 3328] :=
  forall_coords (p := fun i => k0_off31 i = ![(i 0).val % 2, 0, 3328]) (by decide +kernel) i
instance closedOff31 (i : grid0.Coords) : ClosedOff (k0_off31 i) := ⟨![(i 0).val % 2, 0, 3328], off31_eq i⟩
theorem off32_eq (i : grid0.Coords) : k0_off32 i = ![(i 0).val % 2, 0, 3584] :=
  forall_coords (p := fun i => k0_off32 i = ![(i 0).val % 2, 0, 3584]) (by decide +kernel) i
instance closedOff32 (i : grid0.Coords) : ClosedOff (k0_off32 i) := ⟨![(i 0).val % 2, 0, 3584], off32_eq i⟩
theorem off33_eq (i : grid0.Coords) : k0_off33 i = ![1 - (i 0).val % 2, 0, 0] :=
  forall_coords (p := fun i => k0_off33 i = ![1 - (i 0).val % 2, 0, 0]) (by decide +kernel) i
instance closedOff33 (i : grid0.Coords) : ClosedOff (k0_off33 i) := ⟨![1 - (i 0).val % 2, 0, 0], off33_eq i⟩
theorem off34_eq (i : grid0.Coords) : k0_off34 i = ![1 - (i 0).val % 2, 0, 1792] :=
  forall_coords (p := fun i => k0_off34 i = ![1 - (i 0).val % 2, 0, 1792]) (by decide +kernel) i
instance closedOff34 (i : grid0.Coords) : ClosedOff (k0_off34 i) := ⟨![1 - (i 0).val % 2, 0, 1792], off34_eq i⟩
theorem off35_eq (i : grid0.Coords) : k0_off35 i = ![1 - (i 0).val % 2, 0, 3584] :=
  forall_coords (p := fun i => k0_off35 i = ![1 - (i 0).val % 2, 0, 3584]) (by decide +kernel) i
instance closedOff35 (i : grid0.Coords) : ClosedOff (k0_off35 i) := ⟨![1 - (i 0).val % 2, 0, 3584], off35_eq i⟩
theorem off36_eq (i : grid0.Coords) : k0_off36 i = ![1 - (i 0).val % 2, 0, 256] :=
  forall_coords (p := fun i => k0_off36 i = ![1 - (i 0).val % 2, 0, 256]) (by decide +kernel) i
instance closedOff36 (i : grid0.Coords) : ClosedOff (k0_off36 i) := ⟨![1 - (i 0).val % 2, 0, 256], off36_eq i⟩
theorem off37_eq (i : grid0.Coords) : k0_off37 i = ![1 - (i 0).val % 2, 0, 2048] :=
  forall_coords (p := fun i => k0_off37 i = ![1 - (i 0).val % 2, 0, 2048]) (by decide +kernel) i
instance closedOff37 (i : grid0.Coords) : ClosedOff (k0_off37 i) := ⟨![1 - (i 0).val % 2, 0, 2048], off37_eq i⟩
theorem off38_eq (i : grid0.Coords) : k0_off38 i = ![1 - (i 0).val % 2, 0, 512] :=
  forall_coords (p := fun i => k0_off38 i = ![1 - (i 0).val % 2, 0, 512]) (by decide +kernel) i
instance closedOff38 (i : grid0.Coords) : ClosedOff (k0_off38 i) := ⟨![1 - (i 0).val % 2, 0, 512], off38_eq i⟩
theorem off39_eq (i : grid0.Coords) : k0_off39 i = ![1 - (i 0).val % 2, 0, 2304] :=
  forall_coords (p := fun i => k0_off39 i = ![1 - (i 0).val % 2, 0, 2304]) (by decide +kernel) i
instance closedOff39 (i : grid0.Coords) : ClosedOff (k0_off39 i) := ⟨![1 - (i 0).val % 2, 0, 2304], off39_eq i⟩
theorem off40_eq (i : grid0.Coords) : k0_off40 i = ![1 - (i 0).val % 2, 0, 768] :=
  forall_coords (p := fun i => k0_off40 i = ![1 - (i 0).val % 2, 0, 768]) (by decide +kernel) i
instance closedOff40 (i : grid0.Coords) : ClosedOff (k0_off40 i) := ⟨![1 - (i 0).val % 2, 0, 768], off40_eq i⟩
theorem off41_eq (i : grid0.Coords) : k0_off41 i = ![1 - (i 0).val % 2, 0, 2560] :=
  forall_coords (p := fun i => k0_off41 i = ![1 - (i 0).val % 2, 0, 2560]) (by decide +kernel) i
instance closedOff41 (i : grid0.Coords) : ClosedOff (k0_off41 i) := ⟨![1 - (i 0).val % 2, 0, 2560], off41_eq i⟩
theorem off42_eq (i : grid0.Coords) : k0_off42 i = ![1 - (i 0).val % 2, 0, 1024] :=
  forall_coords (p := fun i => k0_off42 i = ![1 - (i 0).val % 2, 0, 1024]) (by decide +kernel) i
instance closedOff42 (i : grid0.Coords) : ClosedOff (k0_off42 i) := ⟨![1 - (i 0).val % 2, 0, 1024], off42_eq i⟩
theorem off43_eq (i : grid0.Coords) : k0_off43 i = ![1 - (i 0).val % 2, 0, 2816] :=
  forall_coords (p := fun i => k0_off43 i = ![1 - (i 0).val % 2, 0, 2816]) (by decide +kernel) i
instance closedOff43 (i : grid0.Coords) : ClosedOff (k0_off43 i) := ⟨![1 - (i 0).val % 2, 0, 2816], off43_eq i⟩
theorem off44_eq (i : grid0.Coords) : k0_off44 i = ![1 - (i 0).val % 2, 0, 1280] :=
  forall_coords (p := fun i => k0_off44 i = ![1 - (i 0).val % 2, 0, 1280]) (by decide +kernel) i
instance closedOff44 (i : grid0.Coords) : ClosedOff (k0_off44 i) := ⟨![1 - (i 0).val % 2, 0, 1280], off44_eq i⟩
theorem off45_eq (i : grid0.Coords) : k0_off45 i = ![1 - (i 0).val % 2, 0, 3072] :=
  forall_coords (p := fun i => k0_off45 i = ![1 - (i 0).val % 2, 0, 3072]) (by decide +kernel) i
instance closedOff45 (i : grid0.Coords) : ClosedOff (k0_off45 i) := ⟨![1 - (i 0).val % 2, 0, 3072], off45_eq i⟩
theorem off46_eq (i : grid0.Coords) : k0_off46 i = ![1 - (i 0).val % 2, 0, 1536] :=
  forall_coords (p := fun i => k0_off46 i = ![1 - (i 0).val % 2, 0, 1536]) (by decide +kernel) i
instance closedOff46 (i : grid0.Coords) : ClosedOff (k0_off46 i) := ⟨![1 - (i 0).val % 2, 0, 1536], off46_eq i⟩
theorem off47_eq (i : grid0.Coords) : k0_off47 i = ![1 - (i 0).val % 2, 0, 3328] :=
  forall_coords (p := fun i => k0_off47 i = ![1 - (i 0).val % 2, 0, 3328]) (by decide +kernel) i
instance closedOff47 (i : grid0.Coords) : ClosedOff (k0_off47 i) := ⟨![1 - (i 0).val % 2, 0, 3328], off47_eq i⟩
theorem off48_eq (i : grid0.Coords) : k0_off48 i = ![((i 0).val - 1) / 4, ((i 0).val - 1) % 4 * 512] :=
  forall_coords (p := fun i => k0_off48 i = ![((i 0).val - 1) / 4, ((i 0).val - 1) % 4 * 512]) (by decide +kernel) i
instance closedOff48 (i : grid0.Coords) : ClosedOff (k0_off48 i) := ⟨![((i 0).val - 1) / 4, ((i 0).val - 1) % 4 * 512], off48_eq i⟩

end Cert.Kernel.Hand

end
-- ==== Proof.RunBits.lean ====
/-
  The kernel body at the first point, at a point in between and at the last point, each run once at symbolic
  operands: it ends with every buffer it reads as it was and every buffer it writes at some contents.
-/
module

public import proofs.«01_k».proof.Proof.OffsetsBits
public import Idealize.ShloMosaic.Lib.Tactic
public import Idealize.ShloMosaic.Lib.Pipeline.Frame

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig Unit (Elt F) ℕ (UR sig nD τ) ℕ

/-- Memref `M`'s buffer on core `c`: its contents' type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

set_option maxHeartbeats 16000000 in
set_option maxRecDepth 65536 in
/-- The body at the first point. -/
theorem runZero (c : Dev nD) (i : grid0.Coords) (hi : (i 0).val = 0)
    (M1 : Memref sig .tc .vmem S512x4096 .fp8e4m3) (h1 : M1.IsWhole)
    (M2 : Memref sig .tc .vmem S16x2048 .f32) (h2 : M2.IsWhole)
    (M3 : Memref sig .tc .vmem S4096x3840 .fp8e4m3) (h3 : M3.IsWhole)
    (M4 : Memref sig .tc .vmem S1x3840 .f32) (h4 : M4.IsWhole)
    (M5 : Memref sig .tc .vmem S512x3840 .bf16) (h5 : M5.IsWhole)
    (M6 : Memref sig .tc .vmem S1x3840 .f32) (h6 : M6.IsWhole)
    (M7 : Memref sig .tc .vmem S512x3840 .bf16) (h7 : M7.IsWhole)
    (M8 : Memref sig .tc .vmem S512x3840 .fp8e4m3) (h8 : M8.IsWhole)
    (M9 : Memref sig .tc .vmem S16x2048 .f32) (h9 : M9.IsWhole)
    (M10 : Memref sig .tc .vmem S2x512x3840 .bf16) (h10 : M10.IsWhole)
    (M11 : Memref sig .tc .vmem S512x128 .f32) (h11 : M11.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (E : Set ℕ) (Q : PUnit → sProp 𝕄) :
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11
          ∗ (iprop(pt c M1 f1 ∗ pt c M2 f2 ∗ pt c M3 f3 ∗ pt c M4 f4 ∗ pt c M5 f5 ∗ pt c M6 f6 ∗ (∃ f, pt c M7 f) ∗ (∃ f, pt c M8 f) ∗ (∃ f, pt c M9 f) ∗ (∃ f, pt c M10 f) ∗ (∃ f, pt c M11 f)) -∗ Q ⟨⟩))
        ⊢ wp frame (wpE (defs₀ (F := F)) Variants.none c none) E
            (cc0_o_proj_rmsnorm_fp8 i M1 h1 M2 h2 M3 h3 M4 h4 M5 h5 M6 h6 M7 h7 M8 h8 M9 h9 M10 h10 M11 h11) Q := by
  have hc2 : k0_cond2 i = 1#1 := (cond2_iff i).mpr (by omega)
  have hc3 : ¬ k0_cond3 i = 1#1 := fun h => absurd ((cond3_iff i).mp h) (by omega)
  have hc1 : (Scalar.cmpi .ne (Scalar.extui (Scalar.cmpi .eq (BitVec.ofNat 32 (i 0).val) 0#32)) 0#32 : BitVec 1) = 1#1 := (cond1_iff i).mpr hi
  iintro ⟨H1, H2, H3, H4, H5, H6, H7, H8, H9, H10, H11, Hk⟩
  sl_exec_parts!
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  iexists _; iexact H11

set_option maxHeartbeats 16000000 in
set_option maxRecDepth 65536 in
/-- The body at a point `0 < i < 64`. -/
theorem runMid (c : Dev nD) (i : grid0.Coords) (h0 : 0 < (i 0).val) (hi : (i 0).val < 64)
    (M1 : Memref sig .tc .vmem S512x4096 .fp8e4m3) (h1 : M1.IsWhole)
    (M2 : Memref sig .tc .vmem S16x2048 .f32) (h2 : M2.IsWhole)
    (M3 : Memref sig .tc .vmem S4096x3840 .fp8e4m3) (h3 : M3.IsWhole)
    (M4 : Memref sig .tc .vmem S1x3840 .f32) (h4 : M4.IsWhole)
    (M5 : Memref sig .tc .vmem S512x3840 .bf16) (h5 : M5.IsWhole)
    (M6 : Memref sig .tc .vmem S1x3840 .f32) (h6 : M6.IsWhole)
    (M7 : Memref sig .tc .vmem S512x3840 .bf16) (h7 : M7.IsWhole)
    (M8 : Memref sig .tc .vmem S512x3840 .fp8e4m3) (h8 : M8.IsWhole)
    (M9 : Memref sig .tc .vmem S16x2048 .f32) (h9 : M9.IsWhole)
    (M10 : Memref sig .tc .vmem S2x512x3840 .bf16) (h10 : M10.IsWhole)
    (M11 : Memref sig .tc .vmem S512x128 .f32) (h11 : M11.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (E : Set ℕ) (Q : PUnit → sProp 𝕄) :
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11
          ∗ (iprop(pt c M1 f1 ∗ pt c M2 f2 ∗ pt c M3 f3 ∗ pt c M4 f4 ∗ pt c M5 f5 ∗ pt c M6 f6 ∗ (∃ f, pt c M7 f) ∗ (∃ f, pt c M8 f) ∗ (∃ f, pt c M9 f) ∗ (∃ f, pt c M10 f) ∗ (∃ f, pt c M11 f)) -∗ Q ⟨⟩))
        ⊢ wp frame (wpE (defs₀ (F := F)) Variants.none c none) E
            (cc0_o_proj_rmsnorm_fp8 i M1 h1 M2 h2 M3 h3 M4 h4 M5 h5 M6 h6 M7 h7 M8 h8 M9 h9 M10 h10 M11 h11) Q := by
  have hc2 : k0_cond2 i = 1#1 := (cond2_iff i).mpr hi
  have hc3 : ¬ k0_cond3 i = 1#1 := fun h => absurd ((cond3_iff i).mp h) (by omega)
  have hc1 : ¬ (Scalar.cmpi .ne (Scalar.extui (Scalar.cmpi .eq (BitVec.ofNat 32 (i 0).val) 0#32)) 0#32 : BitVec 1) = 1#1 := fun h => absurd ((cond1_iff i).mp h) (by omega)
  iintro ⟨H1, H2, H3, H4, H5, H6, H7, H8, H9, H10, H11, Hk⟩
  sl_exec_parts!
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  iexists _; iexact H11

set_option maxHeartbeats 16000000 in
set_option maxRecDepth 65536 in
/-- The body at the last point. -/
theorem runLast (c : Dev nD) (i : grid0.Coords) (hi : (i 0).val = 64)
    (M1 : Memref sig .tc .vmem S512x4096 .fp8e4m3) (h1 : M1.IsWhole)
    (M2 : Memref sig .tc .vmem S16x2048 .f32) (h2 : M2.IsWhole)
    (M3 : Memref sig .tc .vmem S4096x3840 .fp8e4m3) (h3 : M3.IsWhole)
    (M4 : Memref sig .tc .vmem S1x3840 .f32) (h4 : M4.IsWhole)
    (M5 : Memref sig .tc .vmem S512x3840 .bf16) (h5 : M5.IsWhole)
    (M6 : Memref sig .tc .vmem S1x3840 .f32) (h6 : M6.IsWhole)
    (M7 : Memref sig .tc .vmem S512x3840 .bf16) (h7 : M7.IsWhole)
    (M8 : Memref sig .tc .vmem S512x3840 .fp8e4m3) (h8 : M8.IsWhole)
    (M9 : Memref sig .tc .vmem S16x2048 .f32) (h9 : M9.IsWhole)
    (M10 : Memref sig .tc .vmem S2x512x3840 .bf16) (h10 : M10.IsWhole)
    (M11 : Memref sig .tc .vmem S512x128 .f32) (h11 : M11.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (E : Set ℕ) (Q : PUnit → sProp 𝕄) :
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11
          ∗ (iprop(pt c M1 f1 ∗ pt c M2 f2 ∗ pt c M3 f3 ∗ pt c M4 f4 ∗ pt c M5 f5 ∗ pt c M6 f6 ∗ (∃ f, pt c M7 f) ∗ (∃ f, pt c M8 f) ∗ (∃ f, pt c M9 f) ∗ (∃ f, pt c M10 f) ∗ (∃ f, pt c M11 f)) -∗ Q ⟨⟩))
        ⊢ wp frame (wpE (defs₀ (F := F)) Variants.none c none) E
            (cc0_o_proj_rmsnorm_fp8 i M1 h1 M2 h2 M3 h3 M4 h4 M5 h5 M6 h6 M7 h7 M8 h8 M9 h9 M10 h10 M11 h11) Q := by
  have hc2 : ¬ k0_cond2 i = 1#1 := fun h => absurd ((cond2_iff i).mp h) (by omega)
  have hc3 : k0_cond3 i = 1#1 := (cond3_iff i).mpr hi
  have hc1 : ¬ (Scalar.cmpi .ne (Scalar.extui (Scalar.cmpi .eq (BitVec.ofNat 32 (i 0).val) 0#32)) 0#32 : BitVec 1) = 1#1 := fun h => absurd ((cond1_iff i).mp h) (by omega)
  iintro ⟨H1, H2, H3, H4, H5, H6, H7, H8, H9, H10, H11, Hk⟩
  sl_exec_parts!
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  iexists _; iexact H11

/-- The body at any point. -/
theorem kernelRun (c : Dev nD) (i : grid0.Coords)
    (M1 : Memref sig .tc .vmem S512x4096 .fp8e4m3) (h1 : M1.IsWhole)
    (M2 : Memref sig .tc .vmem S16x2048 .f32) (h2 : M2.IsWhole)
    (M3 : Memref sig .tc .vmem S4096x3840 .fp8e4m3) (h3 : M3.IsWhole)
    (M4 : Memref sig .tc .vmem S1x3840 .f32) (h4 : M4.IsWhole)
    (M5 : Memref sig .tc .vmem S512x3840 .bf16) (h5 : M5.IsWhole)
    (M6 : Memref sig .tc .vmem S1x3840 .f32) (h6 : M6.IsWhole)
    (M7 : Memref sig .tc .vmem S512x3840 .bf16) (h7 : M7.IsWhole)
    (M8 : Memref sig .tc .vmem S512x3840 .fp8e4m3) (h8 : M8.IsWhole)
    (M9 : Memref sig .tc .vmem S16x2048 .f32) (h9 : M9.IsWhole)
    (M10 : Memref sig .tc .vmem S2x512x3840 .bf16) (h10 : M10.IsWhole)
    (M11 : Memref sig .tc .vmem S512x128 .f32) (h11 : M11.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (E : Set ℕ) (Q : PUnit → sProp 𝕄) :
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11
          ∗ (iprop(pt c M1 f1 ∗ pt c M2 f2 ∗ pt c M3 f3 ∗ pt c M4 f4 ∗ pt c M5 f5 ∗ pt c M6 f6 ∗ (∃ f, pt c M7 f) ∗ (∃ f, pt c M8 f) ∗ (∃ f, pt c M9 f) ∗ (∃ f, pt c M10 f) ∗ (∃ f, pt c M11 f)) -∗ Q ⟨⟩))
        ⊢ wp frame (wpE (defs₀ (F := F)) Variants.none c none) E
            (cc0_o_proj_rmsnorm_fp8 i M1 h1 M2 h2 M3 h3 M4 h4 M5 h5 M6 h6 M7 h7 M8 h8 M9 h9 M10 h10 M11 h11) Q := by
  have hlt : (i 0).val < 65 := (i 0).isLt
  rcases Nat.eq_zero_or_pos (i 0).val with h | h
  · exact runZero c i h M1 h1 M2 h2 M3 h3 M4 h4 M5 h5 M6 h6 M7 h7 M8 h8 M9 h9 M10 h10 M11 h11 f1 f2 f3 f4 f5 f6 f7 f8 f9 f10 f11 E Q
  rcases Nat.lt_or_ge (i 0).val 64 with h' | h'
  · exact runMid c i h h' M1 h1 M2 h2 M3 h3 M4 h4 M5 h5 M6 h6 M7 h7 M8 h8 M9 h9 M10 h10 M11 h11 f1 f2 f3 f4 f5 f6 f7 f8 f9 f10 f11 E Q
  exact runLast c i (by omega) M1 h1 M2 h2 M3 h3 M4 h4 M5 h5 M6 h6 M7 h7 M8 h8 M9 h9 M10 h10 M11 h11 f1 f2 f3 f4 f5 f6 f7 f8 f9 f10 f11 E Q

/-- A whole memref owned at contents `X` is its buffer held whole at contents that read `X`. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f, ⌜M.view.read (Elt F) f = X⌝ ∗ pt c M f) := by
  unfold owns; rw [h.set_eq_univ]

/-- The body at any point, its operands owned. -/
theorem kernelOwns (c : Dev nD) (i : grid0.Coords)
    (M1 : Memref sig .tc .vmem S512x4096 .fp8e4m3) (h1 : M1.IsWhole)
    (M2 : Memref sig .tc .vmem S16x2048 .f32) (h2 : M2.IsWhole)
    (M3 : Memref sig .tc .vmem S4096x3840 .fp8e4m3) (h3 : M3.IsWhole)
    (M4 : Memref sig .tc .vmem S1x3840 .f32) (h4 : M4.IsWhole)
    (M5 : Memref sig .tc .vmem S512x3840 .bf16) (h5 : M5.IsWhole)
    (M6 : Memref sig .tc .vmem S1x3840 .f32) (h6 : M6.IsWhole)
    (M7 : Memref sig .tc .vmem S512x3840 .bf16) (h7 : M7.IsWhole)
    (M8 : Memref sig .tc .vmem S512x3840 .fp8e4m3) (h8 : M8.IsWhole)
    (M9 : Memref sig .tc .vmem S16x2048 .f32) (h9 : M9.IsWhole)
    (M10 : Memref sig .tc .vmem S2x512x3840 .bf16) (h10 : M10.IsWhole)
    (M11 : Memref sig .tc .vmem S512x128 .f32) (h11 : M11.IsWhole)
    (X1 : S512x4096.Idx → Elt F .fp8e4m3) (X2 : S16x2048.Idx → Elt F .f32) (X3 : S4096x3840.Idx → Elt F .fp8e4m3) (X4 : S1x3840.Idx → Elt F .f32) (X5 : S512x3840.Idx → Elt F .bf16) (X6 : S1x3840.Idx → Elt F .f32) (X7 : S512x3840.Idx → Elt F .bf16) (X8 : S512x3840.Idx → Elt F .fp8e4m3) (X9 : S16x2048.Idx → Elt F .f32) (f10 : Bf (F := F) c M10) (f11 : Bf (F := F) c M11) (Q : PUnit → sProp 𝕄) :
    iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ pt c M10 f10 ∗ pt c M11 f11
        ∗ (iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ (∃ X, owns (c : Thread nD τ) M7 fullShare X) ∗ (∃ X, owns (c : Thread nD τ) M8 fullShare X) ∗ (∃ X, owns (c : Thread nD τ) M9 fullShare X) ∗ (∃ f, pt c M10 f) ∗ (∃ f, pt c M11 f)) -∗ Q ⟨⟩))
      ⊢ wp frame (wpE (defs₀ (F := F)) Variants.none c none) Set.univ
          (cc0_o_proj_rmsnorm_fp8 i M1 h1 M2 h2 M3 h3 M4 h4 M5 h5 M6 h6 M7 h7 M8 h8 M9 h9 M10 h10 M11 h11) Q := by
  rw [owns_pt c M1 h1, owns_pt c M2 h2, owns_pt c M3 h3, owns_pt c M4 h4, owns_pt c M5 h5, owns_pt c M6 h6, owns_pt c M7 h7, owns_pt c M8 h8, owns_pt c M9 h9]
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, H10, H11, Hk⟩
  iapply (kernelRun c i M1 h1 M2 h2 M3 h3 M4 h4 M5 h5 M6 h6 M7 h7 M8 h8 M9 h9 M10 h10 M11 h11 f1 f2 f3 f4 f5 f6 f7 f8 f9 f10 f11 Set.univ Q)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H1, H2, H3, H4, H5, H6, ⟨%g7, H7⟩, ⟨%g8, H8⟩, ⟨%g9, H9⟩, ⟨%g10, H10⟩, ⟨%g11, H11⟩⟩
  iapply Hk
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists _; rw [owns_pt c M7 h7]; iexists g7; isplitr; · ipureintro; rfl
    iexact H7
  isplitl [H8]
  · iexists _; rw [owns_pt c M8 h8]; iexists g8; isplitr; · ipureintro; rfl
    iexact H8
  isplitl [H9]
  · iexists _; rw [owns_pt c M9 h9]; iexists g9; isplitr; · ipureintro; rfl
    iexact H9
  isplitl [H10]; · iexists _; iexact H10
  iexists _; iexact H11

end Cert.Kernel.Hand

end
-- ==== Proof.FrameBits.lean ====
/-
  The frame of `Kernel`: the body obligation at proof data that says nothing of what a window's buffer is left with,
  the launch, and the argument arrays read after the run.
-/
module

public import proofs.«01_k».proof.Proof.RunBits
public import Idealize.ShloMosaic.Lib.Tactic
public import Idealize.ShloMosaic.Lib.Pipeline.Frame

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig Unit (Elt F) ℕ (UR sig nD τ) ℕ
open Idealize.ShloMosaic.Pipeline (RDat)

variable (m : (ℓ : Loc nD τ sig) → Buf (Elt F) ℓ) (ρ : Dev nD → PrngReg)

/-- The proof data on core `c`: every array as the region finds it, nothing said of what the body leaves in a window's
    buffer, the two scratch buffers held at some contents between points. -/
def rfr (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The invariant, conjunct by conjunct: the two scratch buffers at some contents, the generator register at some state. -/
theorem PhiA0_eq (c : Dev nD) :
    (Pipeline.ΦA (Val := Elt F) spec0 c : sProp 𝕄)
      = iprop(((∃ f, pt c (Memref.whole cc0_scratch0) f) ∗ (∃ f, pt c (Memref.whole cc0_scratch1) f)) ∗ (∃ r, prngReg c r)) := by
  unfold Pipeline.ΦA; rw [scopedRest0_eq]

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The body at a point, from every buffer it touches at some contents to the same. -/
theorem frame_body (c : Dev nD) (t : Fin cfg0.N) (Y : (w : Fin cfg0.W) → (cfg0.win w).block.Idx → Elt F (cfg0.win w).elt) :
    iprop((rfr m c).Φ t.castSucc ∗ (rfr m c).owesAt () t.castSucc
        ∗ owns (c : Thread nD τ) (win0_0.stage (cfg0.slots t 0)) fullShare (Y 0) ∗ owns (c : Thread nD τ) (win0_1.stage (cfg0.slots t 1)) fullShare (Y 1) ∗ owns (c : Thread nD τ) (win0_2.stage (cfg0.slots t 2)) fullShare (Y 2) ∗ owns (c : Thread nD τ) (win0_3.stage (cfg0.slots t 3)) fullShare (Y 3) ∗ owns (c : Thread nD τ) (win0_4.stage (cfg0.slots t 4)) fullShare (Y 4) ∗ owns (c : Thread nD τ) (win0_5.stage (cfg0.slots t 5)) fullShare (Y 5) ∗ owns (c : Thread nD τ) (win0_6.stage (cfg0.slots t 6)) fullShare (Y 6) ∗ owns (c : Thread nD τ) (win0_7.stage (cfg0.slots t 7)) fullShare (Y 7) ∗ owns (c : Thread nD τ) (win0_8.stage (cfg0.slots t 8)) fullShare (Y 8))
      ⊢ wp frame (wpE (defs₀ (F := F)) Variants.none c none) Set.univ (bodyAt0 t) fun _ =>
        iprop((rfr m c).Φ t.succ ∗ (rfr m c).owesAt () t.succ
        ∗ (∃ X, ⌜(rfr m c).after 0 t (Y 0) X⌝ ∗ owns (c : Thread nD τ) (win0_0.stage (cfg0.slots t 0)) fullShare X) ∗ (∃ X, ⌜(rfr m c).after 1 t (Y 1) X⌝ ∗ owns (c : Thread nD τ) (win0_1.stage (cfg0.slots t 1)) fullShare X) ∗ (∃ X, ⌜(rfr m c).after 2 t (Y 2) X⌝ ∗ owns (c : Thread nD τ) (win0_2.stage (cfg0.slots t 2)) fullShare X) ∗ (∃ X, ⌜(rfr m c).after 3 t (Y 3) X⌝ ∗ owns (c : Thread nD τ) (win0_3.stage (cfg0.slots t 3)) fullShare X) ∗ (∃ X, ⌜(rfr m c).after 4 t (Y 4) X⌝ ∗ owns (c : Thread nD τ) (win0_4.stage (cfg0.slots t 4)) fullShare X) ∗ (∃ X, ⌜(rfr m c).after 5 t (Y 5) X⌝ ∗ owns (c : Thread nD τ) (win0_5.stage (cfg0.slots t 5)) fullShare X) ∗ (∃ X, ⌜(rfr m c).after 6 t (Y 6) X⌝ ∗ owns (c : Thread nD τ) (win0_6.stage (cfg0.slots t 6)) fullShare X) ∗ (∃ X, ⌜(rfr m c).after 7 t (Y 7) X⌝ ∗ owns (c : Thread nD τ) (win0_7.stage (cfg0.slots t 7)) fullShare X) ∗ (∃ X, ⌜(rfr m c).after 8 t (Y 8) X⌝ ∗ owns (c : Thread nD τ) (win0_8.stage (cfg0.slots t 8)) fullShare X)) := by
  unfold bodyAt0
  rw [show (rfr m c).owesAt () t.succ = (rfr m c).owesAt () t.castSucc from rfl,
    show (rfr m c).Φ t.succ = Pipeline.ΦA spec0 c from rfl, show (rfr m c).Φ t.castSucc = Pipeline.ΦA spec0 c from rfl, PhiA0_eq]
  iintro ⟨⟨⟨⟨%f10, H10⟩, ⟨%f11, H11⟩⟩, Hg⟩, HO, H1, H2, H3, H4, H5, H6, H7, H8, H9⟩
  iapply (kernelOwns c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) (Memref.whole cc0_scratch0) (Memref.isWhole_whole _) (Memref.whole cc0_scratch1) (Memref.isWhole_whole _)
    (Y 0) (Y 1) (Y 2) (Y 3) (Y 4) (Y 5) (Y 6) (Y 7) (Y 8) f10 f11 _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H1, H2, H3, H4, H5, H6, ⟨%g7, H7⟩, ⟨%g8, H8⟩, ⟨%g9, H9⟩, ⟨%g10, H10⟩, ⟨%g11, H11⟩⟩
  isplitl [H10 H11 Hg]
  · isplitl [H10 H11]
    · isplitl [H10]; · iexists _; iexact H10
      iexists _; iexact H11
    iexact Hg
  isplitl [HO]; · iexact HO
  isplitl [H1]
  · iexists _; isplitr; swap; · iexact H1
    ipureintro; trivial
  isplitl [H2]
  · iexists _; isplitr; swap; · iexact H2
    ipureintro; trivial
  isplitl [H3]
  · iexists _; isplitr; swap; · iexact H3
    ipureintro; trivial
  isplitl [H4]
  · iexists _; isplitr; swap; · iexact H4
    ipureintro; trivial
  isplitl [H5]
  · iexists _; isplitr; swap; · iexact H5
    ipureintro; trivial
  isplitl [H6]
  · iexists _; isplitr; swap; · iexact H6
    ipureintro; trivial
  isplitl [H7]
  · iexists _; isplitr; swap; · iexact H7
    ipureintro; trivial
  isplitl [H8]
  · iexists _; isplitr; swap; · iexact H8
    ipureintro; trivial
  iexists _; isplitr; swap; · iexact H9
  ipureintro; trivial

/-- The library's body obligation. -/
theorem frame_obligation (c : Dev nD) : (rfr (F := F) m c).BodyObligation (defs₀ (F := F)) Variants.none () Set.univ := fun t Y _ => by
  rw [bigSep_W0, bigSep_W0, defs₀_row]
  exact triple_restated (frame_body m c t Y) rfl .rfl fun _ => .rfl

set_option backward.isDefEq.respectTransparency.types false in
/-- Every weakly fair execution terminates, and at every final state the arrays are at contents the proof data allows and
    every semaphore counter is zero. -/
theorem frame_run :
    θ_run defs (onTc (τ := τ) (main (F := F))) (s₀ m ρ)
      (fun r => RDat.FramePost (cfgs 0) (fun c => rfr m c) (V m) r ∧ r.2.sem = fun _ => 0) :=
  RDat.θ_run_frame (Q' := _) cfgs (0 : Fin 1) launch0 defs₀ Variants.none (fun c => rfr m c) m ρ main
    (hbody := frame_obligation m) (hshare := fun c => (rfr m c).share_full fun _ => rfl)
    (howed := fun _ _ => rfl) (V := V m) (hmain := hmain m Variants.none) (hA := fun _ _ => rfl) (hΦ := fun _ _ => rfl)

/-- The frame claim at any value instance: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((congrFun (RDat.ArrAt_in (rfr m c) 2 rfl _) _).mp ((h.1 c).1 2)).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (frame_run m ρ)

end Cert.Kernel.Hand

end
-- ==== Proof.OffsetsIdeal.lean ====
/-
  The closed forms of the kernel's offsets and guards: which half of the two-slot scratch a load or store addresses
  (the slot of the point's parity, or the other one), and the row and columns of the scale arrays it touches.
-/
module

public import proofs.«01_k».proof.Proof.Gen.KernelIdeal.Frame
public import proofs.«01_k».proof.Proof.Gen.KernelIdeal.Skeleton
public import Idealize.ShloMosaic.Lib.Exec

@[expose] public section

namespace Cert.KernelIdeal.Hand

open Cert.KernelIdeal Cert.KernelIdeal.Gen
open Idealize.ShloMosaic

/-- The one-axis grid's coordinates at point `v`. -/
def cAt (v : Fin 65) : grid0.Coords := fun a => ⟨v.val, by
  obtain rfl : a = (0 : Fin 1) := Subsingleton.elim _ _
  exact v.isLt⟩
/-- A property of every coordinate vector of the one-axis grid, from its 65 points. -/
theorem forall_coords {p : grid0.Coords → Prop} (h : ∀ v : Fin 65, p (cAt v)) (i : grid0.Coords) : p i := by
  have : i = cAt (i 0) := by
    funext a; obtain rfl : a = (0 : Fin 1) := Subsingleton.elim _ _; rfl
  rw [this]; exact h (i 0)

theorem cond1_iff (i : grid0.Coords) :
    (Scalar.cmpi .ne (Scalar.extui (Scalar.cmpi .eq (BitVec.ofNat 32 (i 0).val) 0#32)) 0#32 : BitVec 1) = 1#1 ↔ (i 0).val = 0 :=
  forall_coords (p := fun i => (Scalar.cmpi .ne (Scalar.extui (Scalar.cmpi .eq (BitVec.ofNat 32 (i 0).val) 0#32)) 0#32 : BitVec 1) = 1#1 ↔ (i 0).val = 0)
    (by decide +kernel) i
theorem cond2_iff (i : grid0.Coords) : k0_cond2 i = 1#1 ↔ (i 0).val < 64 :=
  forall_coords (p := fun i => k0_cond2 i = 1#1 ↔ (i 0).val < 64) (by decide +kernel) i
theorem cond3_iff (i : grid0.Coords) : k0_cond3 i = 1#1 ↔ (i 0).val = 64 :=
  forall_coords (p := fun i => k0_cond3 i = 1#1 ↔ (i 0).val = 64) (by decide +kernel) i

theorem off1_eq (i : grid0.Coords) : k0_off1 i = ![(i 0).val / 4, (i 0).val % 4 * 512] :=
  forall_coords (p := fun i => k0_off1 i = ![(i 0).val / 4, (i 0).val % 4 * 512]) (by decide +kernel) i
instance closedOff1 (i : grid0.Coords) : ClosedOff (k0_off1 i) := ⟨![(i 0).val / 4, (i 0).val % 4 * 512], off1_eq i⟩
theorem off2_eq (i : grid0.Coords) : k0_off2 i = ![1 - (i 0).val % 2, 0, 0] :=
  forall_coords (p := fun i => k0_off2 i = ![1 - (i 0).val % 2, 0, 0]) (by decide +kernel) i
instance closedOff2 (i : grid0.Coords) : ClosedOff (k0_off2 i) := ⟨![1 - (i 0).val % 2, 0, 0], off2_eq i⟩
theorem off3_eq (i : grid0.Coords) : k0_off3 i = ![1 - (i 0).val % 2, 0, 1792] :=
  forall_coords (p := fun i => k0_off3 i = ![1 - (i 0).val % 2, 0, 1792]) (by decide +kernel) i
instance closedOff3 (i : grid0.Coords) : ClosedOff (k0_off3 i) := ⟨![1 - (i 0).val % 2, 0, 1792], off3_eq i⟩
theorem off4_eq (i : grid0.Coords) : k0_off4 i = ![1 - (i 0).val % 2, 0, 3584] :=
  forall_coords (p := fun i => k0_off4 i = ![1 - (i 0).val % 2, 0, 3584]) (by decide +kernel) i
instance closedOff4 (i : grid0.Coords) : ClosedOff (k0_off4 i) := ⟨![1 - (i 0).val % 2, 0, 3584], off4_eq i⟩
theorem off5_eq (i : grid0.Coords) : k0_off5 i = ![(i 0).val % 2, 0, 0] :=
  forall_coords (p := fun i => k0_off5 i = ![(i 0).val % 2, 0, 0]) (by decide +kernel) i
instance closedOff5 (i : grid0.Coords) : ClosedOff (k0_off5 i) := ⟨![(i 0).val % 2, 0, 0], off5_eq i⟩
theorem off6_eq (i : grid0.Coords) : k0_off6 i = ![1 - (i 0).val % 2, 0, 256] :=
  forall_coords (p := fun i => k0_off6 i = ![1 - (i 0).val % 2, 0, 256]) (by decide +kernel) i
instance closedOff6 (i : grid0.Coords) : ClosedOff (k0_off6 i) := ⟨![1 - (i 0).val % 2, 0, 256], off6_eq i⟩
theorem off7_eq (i : grid0.Coords) : k0_off7 i = ![1 - (i 0).val % 2, 0, 2048] :=
  forall_coords (p := fun i => k0_off7 i = ![1 - (i 0).val % 2, 0, 2048]) (by decide +kernel) i
instance closedOff7 (i : grid0.Coords) : ClosedOff (k0_off7 i) := ⟨![1 - (i 0).val % 2, 0, 2048], off7_eq i⟩
theorem off8_eq (i : grid0.Coords) : k0_off8 i = ![(i 0).val % 2, 0, 256] :=
  forall_coords (p := fun i => k0_off8 i = ![(i 0).val % 2, 0, 256]) (by decide +kernel) i
instance closedOff8 (i : grid0.Coords) : ClosedOff (k0_off8 i) := ⟨![(i 0).val % 2, 0, 256], off8_eq i⟩
theorem off9_eq (i : grid0.Coords) : k0_off9 i = ![1 - (i 0).val % 2, 0, 512] :=
  forall_coords (p := fun i => k0_off9 i = ![1 - (i 0).val % 2, 0, 512]) (by decide +kernel) i
instance closedOff9 (i : grid0.Coords) : ClosedOff (k0_off9 i) := ⟨![1 - (i 0).val % 2, 0, 512], off9_eq i⟩
theorem off10_eq (i : grid0.Coords) : k0_off10 i = ![1 - (i 0).val % 2, 0, 2304] :=
  forall_coords (p := fun i => k0_off10 i = ![1 - (i 0).val % 2, 0, 2304]) (by decide +kernel) i
instance closedOff10 (i : grid0.Coords) : ClosedOff (k0_off10 i) := ⟨![1 - (i 0).val % 2, 0, 2304], off10_eq i⟩
theorem off11_eq (i : grid0.Coords) : k0_off11 i = ![(i 0).val % 2, 0, 512] :=
  forall_coords (p := fun i => k0_off11 i = ![(i 0).val % 2, 0, 512]) (by decide +kernel) i
instance closedOff11 (i : grid0.Coords) : ClosedOff (k0_off11 i) := ⟨![(i 0).val % 2, 0, 512], off11_eq i⟩
theorem off12_eq (i : grid0.Coords) : k0_off12 i = ![1 - (i 0).val % 2, 0, 768] :=
  forall_coords (p := fun i => k0_off12 i = ![1 - (i 0).val % 2, 0, 768]) (by decide +kernel) i
instance closedOff12 (i : grid0.Coords) : ClosedOff (k0_off12 i) := ⟨![1 - (i 0).val % 2, 0, 768], off12_eq i⟩
theorem off13_eq (i : grid0.Coords) : k0_off13 i = ![1 - (i 0).val % 2, 0, 2560] :=
  forall_coords (p := fun i => k0_off13 i = ![1 - (i 0).val % 2, 0, 2560]) (by decide +kernel) i
instance closedOff13 (i : grid0.Coords) : ClosedOff (k0_off13 i) := ⟨![1 - (i 0).val % 2, 0, 2560], off13_eq i⟩
theorem off14_eq (i : grid0.Coords) : k0_off14 i = ![(i 0).val % 2, 0, 768] :=
  forall_coords (p := fun i => k0_off14 i = ![(i 0).val % 2, 0, 768]) (by decide +kernel) i
instance closedOff14 (i : grid0.Coords) : ClosedOff (k0_off14 i) := ⟨![(i 0).val % 2, 0, 768], off14_eq i⟩
theorem off15_eq (i : grid0.Coords) : k0_off15 i = ![1 - (i 0).val % 2, 0, 1024] :=
  forall_coords (p := fun i => k0_off15 i = ![1 - (i 0).val % 2, 0, 1024]) (by decide +kernel) i
instance closedOff15 (i : grid0.Coords) : ClosedOff (k0_off15 i) := ⟨![1 - (i 0).val % 2, 0, 1024], off15_eq i⟩
theorem off16_eq (i : grid0.Coords) : k0_off16 i = ![1 - (i 0).val % 2, 0, 2816] :=
  forall_coords (p := fun i => k0_off16 i = ![1 - (i 0).val % 2, 0, 2816]) (by decide +kernel) i
instance closedOff16 (i : grid0.Coords) : ClosedOff (k0_off16 i) := ⟨![1 - (i 0).val % 2, 0, 2816], off16_eq i⟩
theorem off17_eq (i : grid0.Coords) : k0_off17 i = ![(i 0).val % 2, 0, 1024] :=
  forall_coords (p := fun i => k0_off17 i = ![(i 0).val % 2, 0, 1024]) (by decide +kernel) i
instance closedOff17 (i : grid0.Coords) : ClosedOff (k0_off17 i) := ⟨![(i 0).val % 2, 0, 1024], off17_eq i⟩
theorem off18_eq (i : grid0.Coords) : k0_off18 i = ![1 - (i 0).val % 2, 0, 1280] :=
  forall_coords (p := fun i => k0_off18 i = ![1 - (i 0).val % 2, 0, 1280]) (by decide +kernel) i
instance closedOff18 (i : grid0.Coords) : ClosedOff (k0_off18 i) := ⟨![1 - (i 0).val % 2, 0, 1280], off18_eq i⟩
theorem off19_eq (i : grid0.Coords) : k0_off19 i = ![1 - (i 0).val % 2, 0, 3072] :=
  forall_coords (p := fun i => k0_off19 i = ![1 - (i 0).val % 2, 0, 3072]) (by decide +kernel) i
instance closedOff19 (i : grid0.Coords) : ClosedOff (k0_off19 i) := ⟨![1 - (i 0).val % 2, 0, 3072], off19_eq i⟩
theorem off20_eq (i : grid0.Coords) : k0_off20 i = ![(i 0).val % 2, 0, 1280] :=
  forall_coords (p := fun i => k0_off20 i = ![(i 0).val % 2, 0, 1280]) (by decide +kernel) i
instance closedOff20 (i : grid0.Coords) : ClosedOff (k0_off20 i) := ⟨![(i 0).val % 2, 0, 1280], off20_eq i⟩
theorem off21_eq (i : grid0.Coords) : k0_off21 i = ![1 - (i 0).val % 2, 0, 1536] :=
  forall_coords (p := fun i => k0_off21 i = ![1 - (i 0).val % 2, 0, 1536]) (by decide +kernel) i
instance closedOff21 (i : grid0.Coords) : ClosedOff (k0_off21 i) := ⟨![1 - (i 0).val % 2, 0, 1536], off21_eq i⟩
theorem off22_eq (i : grid0.Coords) : k0_off22 i = ![1 - (i 0).val % 2, 0, 3328] :=
  forall_coords (p := fun i => k0_off22 i = ![1 - (i 0).val % 2, 0, 3328]) (by decide +kernel) i
instance closedOff22 (i : grid0.Coords) : ClosedOff (k0_off22 i) := ⟨![1 - (i 0).val % 2, 0, 3328], off22_eq i⟩
theorem off23_eq (i : grid0.Coords) : k0_off23 i = ![(i 0).val % 2, 0, 1536] :=
  forall_coords (p := fun i => k0_off23 i = ![(i 0).val % 2, 0, 1536]) (by decide +kernel) i
instance closedOff23 (i : grid0.Coords) : ClosedOff (k0_off23 i) := ⟨![(i 0).val % 2, 0, 1536], off23_eq i⟩
theorem off24_eq (i : grid0.Coords) : k0_off24 i = ![((i 0).val - 1) / 4, ((i 0).val - 1) % 4 * 512] :=
  forall_coords (p := fun i => k0_off24 i = ![((i 0).val - 1) / 4, ((i 0).val - 1) % 4 * 512]) (by decide +kernel) i
instance closedOff24 (i : grid0.Coords) : ClosedOff (k0_off24 i) := ⟨![((i 0).val - 1) / 4, ((i 0).val - 1) % 4 * 512], off24_eq i⟩
theorem off25_eq (i : grid0.Coords) : k0_off25 i = ![(i 0).val % 2, 0, 1792] :=
  forall_coords (p := fun i => k0_off25 i = ![(i 0).val % 2, 0, 1792]) (by decide +kernel) i
instance closedOff25 (i : grid0.Coords) : ClosedOff (k0_off25 i) := ⟨![(i 0).val % 2, 0, 1792], off25_eq i⟩
theorem off26_eq (i : grid0.Coords) : k0_off26 i = ![(i 0).val % 2, 0, 2048] :=
  forall_coords (p := fun i => k0_off26 i = ![(i 0).val % 2, 0, 2048]) (by decide +kernel) i
instance closedOff26 (i : grid0.Coords) : ClosedOff (k0_off26 i) := ⟨![(i 0).val % 2, 0, 2048], off26_eq i⟩
theorem off27_eq (i : grid0.Coords) : k0_off27 i = ![(i 0).val % 2, 0, 2304] :=
  forall_coords (p := fun i => k0_off27 i = ![(i 0).val % 2, 0, 2304]) (by decide +kernel) i
instance closedOff27 (i : grid0.Coords) : ClosedOff (k0_off27 i) := ⟨![(i 0).val % 2, 0, 2304], off27_eq i⟩
theorem off28_eq (i : grid0.Coords) : k0_off28 i = ![(i 0).val % 2, 0, 2560] :=
  forall_coords (p := fun i => k0_off28 i = ![(i 0).val % 2, 0, 2560]) (by decide +kernel) i
instance closedOff28 (i : grid0.Coords) : ClosedOff (k0_off28 i) := ⟨![(i 0).val % 2, 0, 2560], off28_eq i⟩
theorem off29_eq (i : grid0.Coords) : k0_off29 i = ![(i 0).val % 2, 0, 2816] :=
  forall_coords (p := fun i => k0_off29 i = ![(i 0).val % 2, 0, 2816]) (by decide +kernel) i
instance closedOff29 (i : grid0.Coords) : ClosedOff (k0_off29 i) := ⟨![(i 0).val % 2, 0, 2816], off29_eq i⟩
theorem off30_eq (i : grid0.Coords) : k0_off30 i = ![(i 0).val % 2, 0, 3072] :=
  forall_coords (p := fun i => k0_off30 i = ![(i 0).val % 2, 0, 3072]) (by decide +kernel) i
instance closedOff30 (i : grid0.Coords) : ClosedOff (k0_off30 i) := ⟨![(i 0).val % 2, 0, 3072], off30_eq i⟩
theorem off31_eq (i : grid0.Coords) : k0_off31 i = ![(i 0).val % 2, 0, 3328] :=
  forall_coords (p := fun i => k0_off31 i = ![(i 0).val % 2, 0, 3328]) (by decide +kernel) i
instance closedOff31 (i : grid0.Coords) : ClosedOff (k0_off31 i) := ⟨![(i 0).val % 2, 0, 3328], off31_eq i⟩
theorem off32_eq (i : grid0.Coords) : k0_off32 i = ![(i 0).val % 2, 0, 3584] :=
  forall_coords (p := fun i => k0_off32 i = ![(i 0).val % 2, 0, 3584]) (by decide +kernel) i
instance closedOff32 (i : grid0.Coords) : ClosedOff (k0_off32 i) := ⟨![(i 0).val % 2, 0, 3584], off32_eq i⟩
theorem off33_eq (i : grid0.Coords) : k0_off33 i = ![1 - (i 0).val % 2, 0, 0] :=
  forall_coords (p := fun i => k0_off33 i = ![1 - (i 0).val % 2, 0, 0]) (by decide +kernel) i
instance closedOff33 (i : grid0.Coords) : ClosedOff (k0_off33 i) := ⟨![1 - (i 0).val % 2, 0, 0], off33_eq i⟩
theorem off34_eq (i : grid0.Coords) : k0_off34 i = ![1 - (i 0).val % 2, 0, 1792] :=
  forall_coords (p := fun i => k0_off34 i = ![1 - (i 0).val % 2, 0, 1792]) (by decide +kernel) i
instance closedOff34 (i : grid0.Coords) : ClosedOff (k0_off34 i) := ⟨![1 - (i 0).val % 2, 0, 1792], off34_eq i⟩
theorem off35_eq (i : grid0.Coords) : k0_off35 i = ![1 - (i 0).val % 2, 0, 3584] :=
  forall_coords (p := fun i => k0_off35 i = ![1 - (i 0).val % 2, 0, 3584]) (by decide +kernel) i
instance closedOff35 (i : grid0.Coords) : ClosedOff (k0_off35 i) := ⟨![1 - (i 0).val % 2, 0, 3584], off35_eq i⟩
theorem off36_eq (i : grid0.Coords) : k0_off36 i = ![1 - (i 0).val % 2, 0, 256] :=
  forall_coords (p := fun i => k0_off36 i = ![1 - (i 0).val % 2, 0, 256]) (by decide +kernel) i
instance closedOff36 (i : grid0.Coords) : ClosedOff (k0_off36 i) := ⟨![1 - (i 0).val % 2, 0, 256], off36_eq i⟩
theorem off37_eq (i : grid0.Coords) : k0_off37 i = ![1 - (i 0).val % 2, 0, 2048] :=
  forall_coords (p := fun i => k0_off37 i = ![1 - (i 0).val % 2, 0, 2048]) (by decide +kernel) i
instance closedOff37 (i : grid0.Coords) : ClosedOff (k0_off37 i) := ⟨![1 - (i 0).val % 2, 0, 2048], off37_eq i⟩
theorem off38_eq (i : grid0.Coords) : k0_off38 i = ![1 - (i 0).val % 2, 0, 512] :=
  forall_coords (p := fun i => k0_off38 i = ![1 - (i 0).val % 2, 0, 512]) (by decide +kernel) i
instance closedOff38 (i : grid0.Coords) : ClosedOff (k0_off38 i) := ⟨![1 - (i 0).val % 2, 0, 512], off38_eq i⟩
theorem off39_eq (i : grid0.Coords) : k0_off39 i = ![1 - (i 0).val % 2, 0, 2304] :=
  forall_coords (p := fun i => k0_off39 i = ![1 - (i 0).val % 2, 0, 2304]) (by decide +kernel) i
instance closedOff39 (i : grid0.Coords) : ClosedOff (k0_off39 i) := ⟨![1 - (i 0).val % 2, 0, 2304], off39_eq i⟩
theorem off40_eq (i : grid0.Coords) : k0_off40 i = ![1 - (i 0).val % 2, 0, 768] :=
  forall_coords (p := fun i => k0_off40 i = ![1 - (i 0).val % 2, 0, 768]) (by decide +kernel) i
instance closedOff40 (i : grid0.Coords) : ClosedOff (k0_off40 i) := ⟨![1 - (i 0).val % 2, 0, 768], off40_eq i⟩
theorem off41_eq (i : grid0.Coords) : k0_off41 i = ![1 - (i 0).val % 2, 0, 2560] :=
  forall_coords (p := fun i => k0_off41 i = ![1 - (i 0).val % 2, 0, 2560]) (by decide +kernel) i
instance closedOff41 (i : grid0.Coords) : ClosedOff (k0_off41 i) := ⟨![1 - (i 0).val % 2, 0, 2560], off41_eq i⟩
theorem off42_eq (i : grid0.Coords) : k0_off42 i = ![1 - (i 0).val % 2, 0, 1024] :=
  forall_coords (p := fun i => k0_off42 i = ![1 - (i 0).val % 2, 0, 1024]) (by decide +kernel) i
instance closedOff42 (i : grid0.Coords) : ClosedOff (k0_off42 i) := ⟨![1 - (i 0).val % 2, 0, 1024], off42_eq i⟩
theorem off43_eq (i : grid0.Coords) : k0_off43 i = ![1 - (i 0).val % 2, 0, 2816] :=
  forall_coords (p := fun i => k0_off43 i = ![1 - (i 0).val % 2, 0, 2816]) (by decide +kernel) i
instance closedOff43 (i : grid0.Coords) : ClosedOff (k0_off43 i) := ⟨![1 - (i 0).val % 2, 0, 2816], off43_eq i⟩
theorem off44_eq (i : grid0.Coords) : k0_off44 i = ![1 - (i 0).val % 2, 0, 1280] :=
  forall_coords (p := fun i => k0_off44 i = ![1 - (i 0).val % 2, 0, 1280]) (by decide +kernel) i
instance closedOff44 (i : grid0.Coords) : ClosedOff (k0_off44 i) := ⟨![1 - (i 0).val % 2, 0, 1280], off44_eq i⟩
theorem off45_eq (i : grid0.Coords) : k0_off45 i = ![1 - (i 0).val % 2, 0, 3072] :=
  forall_coords (p := fun i => k0_off45 i = ![1 - (i 0).val % 2, 0, 3072]) (by decide +kernel) i
instance closedOff45 (i : grid0.Coords) : ClosedOff (k0_off45 i) := ⟨![1 - (i 0).val % 2, 0, 3072], off45_eq i⟩
theorem off46_eq (i : grid0.Coords) : k0_off46 i = ![1 - (i 0).val % 2, 0, 1536] :=
  forall_coords (p := fun i => k0_off46 i = ![1 - (i 0).val % 2, 0, 1536]) (by decide +kernel) i
instance closedOff46 (i : grid0.Coords) : ClosedOff (k0_off46 i) := ⟨![1 - (i 0).val % 2, 0, 1536], off46_eq i⟩
theorem off47_eq (i : grid0.Coords) : k0_off47 i = ![1 - (i 0).val % 2, 0, 3328] :=
  forall_coords (p := fun i => k0_off47 i = ![1 - (i 0).val % 2, 0, 3328]) (by decide +kernel) i
instance closedOff47 (i : grid0.Coords) : ClosedOff (k0_off47 i) := ⟨![1 - (i 0).val % 2, 0, 3328], off47_eq i⟩
theorem off48_eq (i : grid0.Coords) : k0_off48 i = ![((i 0).val - 1) / 4, ((i 0).val - 1) % 4 * 512] :=
  forall_coords (p := fun i => k0_off48 i = ![((i 0).val - 1) / 4, ((i 0).val - 1) % 4 * 512]) (by decide +kernel) i
instance closedOff48 (i : grid0.Coords) : ClosedOff (k0_off48 i) := ⟨![((i 0).val - 1) / 4, ((i 0).val - 1) % 4 * 512], off48_eq i⟩

end Cert.KernelIdeal.Hand

end
-- ==== Proof.RunIdeal.lean ====
/-
  The kernel body at the first point, at a point in between and at the last point, each run once at symbolic
  operands: it ends with every buffer it reads as it was and every buffer it writes at some contents.
-/
module

public import proofs.«01_k».proof.Proof.OffsetsIdeal
public import Idealize.ShloMosaic.Lib.Tactic
public import Idealize.ShloMosaic.Lib.Pipeline.Frame

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] [∀ e, Nonempty (Elt F e)]

local notation "𝕄" => MT nD τ sig Unit (Elt F) ℕ (UR sig nD τ) ℕ

/-- Memref `M`'s buffer on core `c`: its contents' type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

set_option maxHeartbeats 16000000 in
set_option maxRecDepth 65536 in
/-- The body at the first point. -/
theorem runZero (c : Dev nD) (i : grid0.Coords) (hi : (i 0).val = 0)
    (M1 : Memref sig .tc .vmem S512x4096 .fp8e4m3) (h1 : M1.IsWhole)
    (M2 : Memref sig .tc .vmem S16x2048 .f32) (h2 : M2.IsWhole)
    (M3 : Memref sig .tc .vmem S4096x3840 .fp8e4m3) (h3 : M3.IsWhole)
    (M4 : Memref sig .tc .vmem S1x3840 .f32) (h4 : M4.IsWhole)
    (M5 : Memref sig .tc .vmem S512x3840 .bf16) (h5 : M5.IsWhole)
    (M6 : Memref sig .tc .vmem S1x3840 .f32) (h6 : M6.IsWhole)
    (M7 : Memref sig .tc .vmem S512x3840 .bf16) (h7 : M7.IsWhole)
    (M8 : Memref sig .tc .vmem S512x3840 .fp8e4m3) (h8 : M8.IsWhole)
    (M9 : Memref sig .tc .vmem S16x2048 .f32) (h9 : M9.IsWhole)
    (M10 : Memref sig .tc .vmem S2x512x3840 .bf16) (h10 : M10.IsWhole)
    (M11 : Memref sig .tc .vmem S512x128 .f32) (h11 : M11.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (E : Set ℕ) (Q : PUnit → sProp 𝕄) :
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11
          ∗ (iprop(pt c M1 f1 ∗ pt c M2 f2 ∗ pt c M3 f3 ∗ pt c M4 f4 ∗ pt c M5 f5 ∗ pt c M6 f6 ∗ (∃ f, pt c M7 f) ∗ (∃ f, pt c M8 f) ∗ (∃ f, pt c M9 f) ∗ (∃ f, pt c M10 f) ∗ (∃ f, pt c M11 f)) -∗ Q ⟨⟩))
        ⊢ wp frame (wpE (defs₀ (F := F)) Variants.none c none) E
            (cc0_o_proj_rmsnorm_fp8 i M1 h1 M2 h2 M3 h3 M4 h4 M5 h5 M6 h6 M7 h7 M8 h8 M9 h9 M10 h10 M11 h11) Q := by
  have hc2 : k0_cond2 i = 1#1 := (cond2_iff i).mpr (by omega)
  have hc3 : ¬ k0_cond3 i = 1#1 := fun h => absurd ((cond3_iff i).mp h) (by omega)
  have hc1 : (Scalar.cmpi .ne (Scalar.extui (Scalar.cmpi .eq (BitVec.ofNat 32 (i 0).val) 0#32)) 0#32 : BitVec 1) = 1#1 := (cond1_iff i).mpr hi
  iintro ⟨H1, H2, H3, H4, H5, H6, H7, H8, H9, H10, H11, Hk⟩
  sl_exec_parts!
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  iexists _; iexact H11

set_option maxHeartbeats 16000000 in
set_option maxRecDepth 65536 in
/-- The body at a point `0 < i < 64`. -/
theorem runMid (c : Dev nD) (i : grid0.Coords) (h0 : 0 < (i 0).val) (hi : (i 0).val < 64)
    (M1 : Memref sig .tc .vmem S512x4096 .fp8e4m3) (h1 : M1.IsWhole)
    (M2 : Memref sig .tc .vmem S16x2048 .f32) (h2 : M2.IsWhole)
    (M3 : Memref sig .tc .vmem S4096x3840 .fp8e4m3) (h3 : M3.IsWhole)
    (M4 : Memref sig .tc .vmem S1x3840 .f32) (h4 : M4.IsWhole)
    (M5 : Memref sig .tc .vmem S512x3840 .bf16) (h5 : M5.IsWhole)
    (M6 : Memref sig .tc .vmem S1x3840 .f32) (h6 : M6.IsWhole)
    (M7 : Memref sig .tc .vmem S512x3840 .bf16) (h7 : M7.IsWhole)
    (M8 : Memref sig .tc .vmem S512x3840 .fp8e4m3) (h8 : M8.IsWhole)
    (M9 : Memref sig .tc .vmem S16x2048 .f32) (h9 : M9.IsWhole)
    (M10 : Memref sig .tc .vmem S2x512x3840 .bf16) (h10 : M10.IsWhole)
    (M11 : Memref sig .tc .vmem S512x128 .f32) (h11 : M11.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (E : Set ℕ) (Q : PUnit → sProp 𝕄) :
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11
          ∗ (iprop(pt c M1 f1 ∗ pt c M2 f2 ∗ pt c M3 f3 ∗ pt c M4 f4 ∗ pt c M5 f5 ∗ pt c M6 f6 ∗ (∃ f, pt c M7 f) ∗ (∃ f, pt c M8 f) ∗ (∃ f, pt c M9 f) ∗ (∃ f, pt c M10 f) ∗ (∃ f, pt c M11 f)) -∗ Q ⟨⟩))
        ⊢ wp frame (wpE (defs₀ (F := F)) Variants.none c none) E
            (cc0_o_proj_rmsnorm_fp8 i M1 h1 M2 h2 M3 h3 M4 h4 M5 h5 M6 h6 M7 h7 M8 h8 M9 h9 M10 h10 M11 h11) Q := by
  have hc2 : k0_cond2 i = 1#1 := (cond2_iff i).mpr hi
  have hc3 : ¬ k0_cond3 i = 1#1 := fun h => absurd ((cond3_iff i).mp h) (by omega)
  have hc1 : ¬ (Scalar.cmpi .ne (Scalar.extui (Scalar.cmpi .eq (BitVec.ofNat 32 (i 0).val) 0#32)) 0#32 : BitVec 1) = 1#1 := fun h => absurd ((cond1_iff i).mp h) (by omega)
  iintro ⟨H1, H2, H3, H4, H5, H6, H7, H8, H9, H10, H11, Hk⟩
  sl_exec_parts!
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  iexists _; iexact H11

set_option maxHeartbeats 16000000 in
set_option maxRecDepth 65536 in
/-- The body at the last point. -/
theorem runLast (c : Dev nD) (i : grid0.Coords) (hi : (i 0).val = 64)
    (M1 : Memref sig .tc .vmem S512x4096 .fp8e4m3) (h1 : M1.IsWhole)
    (M2 : Memref sig .tc .vmem S16x2048 .f32) (h2 : M2.IsWhole)
    (M3 : Memref sig .tc .vmem S4096x3840 .fp8e4m3) (h3 : M3.IsWhole)
    (M4 : Memref sig .tc .vmem S1x3840 .f32) (h4 : M4.IsWhole)
    (M5 : Memref sig .tc .vmem S512x3840 .bf16) (h5 : M5.IsWhole)
    (M6 : Memref sig .tc .vmem S1x3840 .f32) (h6 : M6.IsWhole)
    (M7 : Memref sig .tc .vmem S512x3840 .bf16) (h7 : M7.IsWhole)
    (M8 : Memref sig .tc .vmem S512x3840 .fp8e4m3) (h8 : M8.IsWhole)
    (M9 : Memref sig .tc .vmem S16x2048 .f32) (h9 : M9.IsWhole)
    (M10 : Memref sig .tc .vmem S2x512x3840 .bf16) (h10 : M10.IsWhole)
    (M11 : Memref sig .tc .vmem S512x128 .f32) (h11 : M11.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (E : Set ℕ) (Q : PUnit → sProp 𝕄) :
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11
          ∗ (iprop(pt c M1 f1 ∗ pt c M2 f2 ∗ pt c M3 f3 ∗ pt c M4 f4 ∗ pt c M5 f5 ∗ pt c M6 f6 ∗ (∃ f, pt c M7 f) ∗ (∃ f, pt c M8 f) ∗ (∃ f, pt c M9 f) ∗ (∃ f, pt c M10 f) ∗ (∃ f, pt c M11 f)) -∗ Q ⟨⟩))
        ⊢ wp frame (wpE (defs₀ (F := F)) Variants.none c none) E
            (cc0_o_proj_rmsnorm_fp8 i M1 h1 M2 h2 M3 h3 M4 h4 M5 h5 M6 h6 M7 h7 M8 h8 M9 h9 M10 h10 M11 h11) Q := by
  have hc2 : ¬ k0_cond2 i = 1#1 := fun h => absurd ((cond2_iff i).mp h) (by omega)
  have hc3 : k0_cond3 i = 1#1 := (cond3_iff i).mpr hi
  have hc1 : ¬ (Scalar.cmpi .ne (Scalar.extui (Scalar.cmpi .eq (BitVec.ofNat 32 (i 0).val) 0#32)) 0#32 : BitVec 1) = 1#1 := fun h => absurd ((cond1_iff i).mp h) (by omega)
  iintro ⟨H1, H2, H3, H4, H5, H6, H7, H8, H9, H10, H11, Hk⟩
  sl_exec_parts!
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  iexists _; iexact H11

/-- The body at any point. -/
theorem kernelRun (c : Dev nD) (i : grid0.Coords)
    (M1 : Memref sig .tc .vmem S512x4096 .fp8e4m3) (h1 : M1.IsWhole)
    (M2 : Memref sig .tc .vmem S16x2048 .f32) (h2 : M2.IsWhole)
    (M3 : Memref sig .tc .vmem S4096x3840 .fp8e4m3) (h3 : M3.IsWhole)
    (M4 : Memref sig .tc .vmem S1x3840 .f32) (h4 : M4.IsWhole)
    (M5 : Memref sig .tc .vmem S512x3840 .bf16) (h5 : M5.IsWhole)
    (M6 : Memref sig .tc .vmem S1x3840 .f32) (h6 : M6.IsWhole)
    (M7 : Memref sig .tc .vmem S512x3840 .bf16) (h7 : M7.IsWhole)
    (M8 : Memref sig .tc .vmem S512x3840 .fp8e4m3) (h8 : M8.IsWhole)
    (M9 : Memref sig .tc .vmem S16x2048 .f32) (h9 : M9.IsWhole)
    (M10 : Memref sig .tc .vmem S2x512x3840 .bf16) (h10 : M10.IsWhole)
    (M11 : Memref sig .tc .vmem S512x128 .f32) (h11 : M11.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (E : Set ℕ) (Q : PUnit → sProp 𝕄) :
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11
          ∗ (iprop(pt c M1 f1 ∗ pt c M2 f2 ∗ pt c M3 f3 ∗ pt c M4 f4 ∗ pt c M5 f5 ∗ pt c M6 f6 ∗ (∃ f, pt c M7 f) ∗ (∃ f, pt c M8 f) ∗ (∃ f, pt c M9 f) ∗ (∃ f, pt c M10 f) ∗ (∃ f, pt c M11 f)) -∗ Q ⟨⟩))
        ⊢ wp frame (wpE (defs₀ (F := F)) Variants.none c none) E
            (cc0_o_proj_rmsnorm_fp8 i M1 h1 M2 h2 M3 h3 M4 h4 M5 h5 M6 h6 M7 h7 M8 h8 M9 h9 M10 h10 M11 h11) Q := by
  have hlt : (i 0).val < 65 := (i 0).isLt
  rcases Nat.eq_zero_or_pos (i 0).val with h | h
  · exact runZero c i h M1 h1 M2 h2 M3 h3 M4 h4 M5 h5 M6 h6 M7 h7 M8 h8 M9 h9 M10 h10 M11 h11 f1 f2 f3 f4 f5 f6 f7 f8 f9 f10 f11 E Q
  rcases Nat.lt_or_ge (i 0).val 64 with h' | h'
  · exact runMid c i h h' M1 h1 M2 h2 M3 h3 M4 h4 M5 h5 M6 h6 M7 h7 M8 h8 M9 h9 M10 h10 M11 h11 f1 f2 f3 f4 f5 f6 f7 f8 f9 f10 f11 E Q
  exact runLast c i (by omega) M1 h1 M2 h2 M3 h3 M4 h4 M5 h5 M6 h6 M7 h7 M8 h8 M9 h9 M10 h10 M11 h11 f1 f2 f3 f4 f5 f6 f7 f8 f9 f10 f11 E Q

/-- A whole memref owned at contents `X` is its buffer held whole at contents that read `X`. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f, ⌜M.view.read (Elt F) f = X⌝ ∗ pt c M f) := by
  unfold owns; rw [h.set_eq_univ]

/-- The body at any point, its operands owned. -/
theorem kernelOwns (c : Dev nD) (i : grid0.Coords)
    (M1 : Memref sig .tc .vmem S512x4096 .fp8e4m3) (h1 : M1.IsWhole)
    (M2 : Memref sig .tc .vmem S16x2048 .f32) (h2 : M2.IsWhole)
    (M3 : Memref sig .tc .vmem S4096x3840 .fp8e4m3) (h3 : M3.IsWhole)
    (M4 : Memref sig .tc .vmem S1x3840 .f32) (h4 : M4.IsWhole)
    (M5 : Memref sig .tc .vmem S512x3840 .bf16) (h5 : M5.IsWhole)
    (M6 : Memref sig .tc .vmem S1x3840 .f32) (h6 : M6.IsWhole)
    (M7 : Memref sig .tc .vmem S512x3840 .bf16) (h7 : M7.IsWhole)
    (M8 : Memref sig .tc .vmem S512x3840 .fp8e4m3) (h8 : M8.IsWhole)
    (M9 : Memref sig .tc .vmem S16x2048 .f32) (h9 : M9.IsWhole)
    (M10 : Memref sig .tc .vmem S2x512x3840 .bf16) (h10 : M10.IsWhole)
    (M11 : Memref sig .tc .vmem S512x128 .f32) (h11 : M11.IsWhole)
    (X1 : S512x4096.Idx → Elt F .fp8e4m3) (X2 : S16x2048.Idx → Elt F .f32) (X3 : S4096x3840.Idx → Elt F .fp8e4m3) (X4 : S1x3840.Idx → Elt F .f32) (X5 : S512x3840.Idx → Elt F .bf16) (X6 : S1x3840.Idx → Elt F .f32) (X7 : S512x3840.Idx → Elt F .bf16) (X8 : S512x3840.Idx → Elt F .fp8e4m3) (X9 : S16x2048.Idx → Elt F .f32) (f10 : Bf (F := F) c M10) (f11 : Bf (F := F) c M11) (Q : PUnit → sProp 𝕄) :
    iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ pt c M10 f10 ∗ pt c M11 f11
        ∗ (iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ (∃ X, owns (c : Thread nD τ) M7 fullShare X) ∗ (∃ X, owns (c : Thread nD τ) M8 fullShare X) ∗ (∃ X, owns (c : Thread nD τ) M9 fullShare X) ∗ (∃ f, pt c M10 f) ∗ (∃ f, pt c M11 f)) -∗ Q ⟨⟩))
      ⊢ wp frame (wpE (defs₀ (F := F)) Variants.none c none) Set.univ
          (cc0_o_proj_rmsnorm_fp8 i M1 h1 M2 h2 M3 h3 M4 h4 M5 h5 M6 h6 M7 h7 M8 h8 M9 h9 M10 h10 M11 h11) Q := by
  rw [owns_pt c M1 h1, owns_pt c M2 h2, owns_pt c M3 h3, owns_pt c M4 h4, owns_pt c M5 h5, owns_pt c M6 h6, owns_pt c M7 h7, owns_pt c M8 h8, owns_pt c M9 h9]
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, H10, H11, Hk⟩
  iapply (kernelRun c i M1 h1 M2 h2 M3 h3 M4 h4 M5 h5 M6 h6 M7 h7 M8 h8 M9 h9 M10 h10 M11 h11 f1 f2 f3 f4 f5 f6 f7 f8 f9 f10 f11 Set.univ Q)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H1, H2, H3, H4, H5, H6, ⟨%g7, H7⟩, ⟨%g8, H8⟩, ⟨%g9, H9⟩, ⟨%g10, H10⟩, ⟨%g11, H11⟩⟩
  iapply Hk
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists _; rw [owns_pt c M7 h7]; iexists g7; isplitr; · ipureintro; rfl
    iexact H7
  isplitl [H8]
  · iexists _; rw [owns_pt c M8 h8]; iexists g8; isplitr; · ipureintro; rfl
    iexact H8
  isplitl [H9]
  · iexists _; rw [owns_pt c M9 h9]; iexists g9; isplitr; · ipureintro; rfl
    iexact H9
  isplitl [H10]; · iexists _; iexact H10
  iexists _; iexact H11

end Cert.KernelIdeal.Hand

end
-- ==== Proof.FrameIdeal.lean ====
/-
  The frame of `KernelIdeal`: the body obligation at proof data that says nothing of what a window's buffer is left with,
  the launch, and the argument arrays read after the run.
-/
module

public import proofs.«01_k».proof.Proof.RunIdeal
public import Idealize.ShloMosaic.Lib.Tactic
public import Idealize.ShloMosaic.Lib.Pipeline.Frame

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] [∀ e, Nonempty (Elt F e)]

local notation "𝕄" => MT nD τ sig Unit (Elt F) ℕ (UR sig nD τ) ℕ
open Idealize.ShloMosaic.Pipeline (RDat)

variable (m : (ℓ : Loc nD τ sig) → Buf (Elt F) ℓ) (ρ : Dev nD → PrngReg)

/-- The proof data on core `c`: every array as the region finds it, nothing said of what the body leaves in a window's
    buffer, the two scratch buffers held at some contents between points. -/
def rfr (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The invariant, conjunct by conjunct: the two scratch buffers at some contents, the generator register at some state. -/
theorem PhiA0_eq (c : Dev nD) :
    (Pipeline.ΦA (Val := Elt F) spec0 c : sProp 𝕄)
      = iprop(((∃ f, pt c (Memref.whole cc0_scratch0) f) ∗ (∃ f, pt c (Memref.whole cc0_scratch1) f)) ∗ (∃ r, prngReg c r)) := by
  unfold Pipeline.ΦA; rw [scopedRest0_eq]

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The body at a point, from every buffer it touches at some contents to the same. -/
theorem frame_body (c : Dev nD) (t : Fin cfg0.N) (Y : (w : Fin cfg0.W) → (cfg0.win w).block.Idx → Elt F (cfg0.win w).elt) :
    iprop((rfr m c).Φ t.castSucc ∗ (rfr m c).owesAt () t.castSucc
        ∗ owns (c : Thread nD τ) (win0_0.stage (cfg0.slots t 0)) fullShare (Y 0) ∗ owns (c : Thread nD τ) (win0_1.stage (cfg0.slots t 1)) fullShare (Y 1) ∗ owns (c : Thread nD τ) (win0_2.stage (cfg0.slots t 2)) fullShare (Y 2) ∗ owns (c : Thread nD τ) (win0_3.stage (cfg0.slots t 3)) fullShare (Y 3) ∗ owns (c : Thread nD τ) (win0_4.stage (cfg0.slots t 4)) fullShare (Y 4) ∗ owns (c : Thread nD τ) (win0_5.stage (cfg0.slots t 5)) fullShare (Y 5) ∗ owns (c : Thread nD τ) (win0_6.stage (cfg0.slots t 6)) fullShare (Y 6) ∗ owns (c : Thread nD τ) (win0_7.stage (cfg0.slots t 7)) fullShare (Y 7) ∗ owns (c : Thread nD τ) (win0_8.stage (cfg0.slots t 8)) fullShare (Y 8))
      ⊢ wp frame (wpE (defs₀ (F := F)) Variants.none c none) Set.univ (bodyAt0 t) fun _ =>
        iprop((rfr m c).Φ t.succ ∗ (rfr m c).owesAt () t.succ
        ∗ (∃ X, ⌜(rfr m c).after 0 t (Y 0) X⌝ ∗ owns (c : Thread nD τ) (win0_0.stage (cfg0.slots t 0)) fullShare X) ∗ (∃ X, ⌜(rfr m c).after 1 t (Y 1) X⌝ ∗ owns (c : Thread nD τ) (win0_1.stage (cfg0.slots t 1)) fullShare X) ∗ (∃ X, ⌜(rfr m c).after 2 t (Y 2) X⌝ ∗ owns (c : Thread nD τ) (win0_2.stage (cfg0.slots t 2)) fullShare X) ∗ (∃ X, ⌜(rfr m c).after 3 t (Y 3) X⌝ ∗ owns (c : Thread nD τ) (win0_3.stage (cfg0.slots t 3)) fullShare X) ∗ (∃ X, ⌜(rfr m c).after 4 t (Y 4) X⌝ ∗ owns (c : Thread nD τ) (win0_4.stage (cfg0.slots t 4)) fullShare X) ∗ (∃ X, ⌜(rfr m c).after 5 t (Y 5) X⌝ ∗ owns (c : Thread nD τ) (win0_5.stage (cfg0.slots t 5)) fullShare X) ∗ (∃ X, ⌜(rfr m c).after 6 t (Y 6) X⌝ ∗ owns (c : Thread nD τ) (win0_6.stage (cfg0.slots t 6)) fullShare X) ∗ (∃ X, ⌜(rfr m c).after 7 t (Y 7) X⌝ ∗ owns (c : Thread nD τ) (win0_7.stage (cfg0.slots t 7)) fullShare X) ∗ (∃ X, ⌜(rfr m c).after 8 t (Y 8) X⌝ ∗ owns (c : Thread nD τ) (win0_8.stage (cfg0.slots t 8)) fullShare X)) := by
  unfold bodyAt0
  rw [show (rfr m c).owesAt () t.succ = (rfr m c).owesAt () t.castSucc from rfl,
    show (rfr m c).Φ t.succ = Pipeline.ΦA spec0 c from rfl, show (rfr m c).Φ t.castSucc = Pipeline.ΦA spec0 c from rfl, PhiA0_eq]
  iintro ⟨⟨⟨⟨%f10, H10⟩, ⟨%f11, H11⟩⟩, Hg⟩, HO, H1, H2, H3, H4, H5, H6, H7, H8, H9⟩
  iapply (kernelOwns c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) (Memref.whole cc0_scratch0) (Memref.isWhole_whole _) (Memref.whole cc0_scratch1) (Memref.isWhole_whole _)
    (Y 0) (Y 1) (Y 2) (Y 3) (Y 4) (Y 5) (Y 6) (Y 7) (Y 8) f10 f11 _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H1, H2, H3, H4, H5, H6, ⟨%g7, H7⟩, ⟨%g8, H8⟩, ⟨%g9, H9⟩, ⟨%g10, H10⟩, ⟨%g11, H11⟩⟩
  isplitl [H10 H11 Hg]
  · isplitl [H10 H11]
    · isplitl [H10]; · iexists _; iexact H10
      iexists _; iexact H11
    iexact Hg
  isplitl [HO]; · iexact HO
  isplitl [H1]
  · iexists _; isplitr; swap; · iexact H1
    ipureintro; trivial
  isplitl [H2]
  · iexists _; isplitr; swap; · iexact H2
    ipureintro; trivial
  isplitl [H3]
  · iexists _; isplitr; swap; · iexact H3
    ipureintro; trivial
  isplitl [H4]
  · iexists _; isplitr; swap; · iexact H4
    ipureintro; trivial
  isplitl [H5]
  · iexists _; isplitr; swap; · iexact H5
    ipureintro; trivial
  isplitl [H6]
  · iexists _; isplitr; swap; · iexact H6
    ipureintro; trivial
  isplitl [H7]
  · iexists _; isplitr; swap; · iexact H7
    ipureintro; trivial
  isplitl [H8]
  · iexists _; isplitr; swap; · iexact H8
    ipureintro; trivial
  iexists _; isplitr; swap; · iexact H9
  ipureintro; trivial

/-- The library's body obligation. -/
theorem frame_obligation (c : Dev nD) : (rfr (F := F) m c).BodyObligation (defs₀ (F := F)) Variants.none () Set.univ := fun t Y _ => by
  rw [bigSep_W0, bigSep_W0, defs₀_row]
  exact triple_restated (frame_body m c t Y) rfl .rfl fun _ => .rfl

set_option backward.isDefEq.respectTransparency.types false in
/-- Every weakly fair execution terminates, and at every final state the arrays are at contents the proof data allows and
    every semaphore counter is zero. -/
theorem frame_run :
    θ_run defs (onTc (τ := τ) (main (F := F))) (s₀ m ρ)
      (fun r => RDat.FramePost (cfgs 0) (fun c => rfr m c) (V m) r ∧ r.2.sem = fun _ => 0) :=
  RDat.θ_run_frame (Q' := _) cfgs (0 : Fin 1) launch0 defs₀ Variants.none (fun c => rfr m c) m ρ main
    (hbody := frame_obligation m) (hshare := fun c => (rfr m c).share_full fun _ => rfl)
    (howed := fun _ _ => rfl) (V := V m) (hmain := hmain m Variants.none) (hA := fun _ _ => rfl) (hΦ := fun _ _ => rfl)

/-- The frame claim at any value instance: the argument arrays end unchanged and every semaphore counter at zero. -/
theorem frame_claim : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((congrFun (RDat.ArrAt_in (rfr m c) 2 rfl _) _).mp ((h.1 c).1 2)).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (frame_run m ρ)

end Cert.KernelIdeal.Hand

end
-- ==== Proof.Tiles.lean ====
/-
  One tile of the kernel's work as functions of what it loads, over the extended reals: a tile of the hidden state, its
  squares folded to the lanes, a normalised tile, its absolute maximum folded to the lanes, a tile of codes.
-/
module

public import proofs.«01_k».proof.Proof.Gen.KernelIdeal.Skeleton
public import Idealize.ShloMosaic.Lib.Pointwise

@[expose] public section

noncomputable section

namespace Cert.KernelIdeal.Hand

open Cert.KernelIdeal Cert.KernelIdeal.Gen
open Idealize.ShloMosaic

/-- A tile of the hidden state: rows of activations times a tile of weights, scaled by row and by column, plus the
    residual's tile. -/
def hT (x : Vec Ideal S512x4096 .fp8e4m3) (w : Vec Ideal S4096x256 .fp8e4m3) (xs : Vec Ideal S1x512 .f32)
    (ws : Vec Ideal S1x256 .f32) (res : Vec Ideal S512x256 .bf16) : FVec Ideal S512x256 .bf16 :=
  k0_pay11 (k0_pay6 xs) (k0_pay7 x w) ws res

/-- A tile's squares, its two halves added: one number per lane. -/
def sqT (h : FVec Ideal S512x256 .bf16) : FVec Ideal S512x128 .f32 :=
  addf (extractStridedSlice S512x128 ![0, 0] (mulf (extf .f32 h bitsLt_bf16_f32) (extf .f32 h bitsLt_bf16_f32)) slices_S512x256_o0_0_S512x128)
    (extractStridedSlice S512x128 ![0, 128] (mulf (extf .f32 h bitsLt_bf16_f32) (extf .f32 h bitsLt_bf16_f32)) slices_S512x256_o0_128_S512x128)

/-- A normalised tile: the hidden state times the inverse root mean square times gamma. -/
def nT (r : FVec Ideal S512x128 .f32) (h : Vec Ideal S1x512x256 .bf16) (g : Vec Ideal S1x256 .f32) : FVec Ideal S512x256 .f32 :=
  mulf (mulf (extf .f32 (shapeCast S512x256 h shapeCasts_S1x512x256_S512x256) bitsLt_bf16_f32)
      (concatenate S512x256 1 [⟨S512x128, r⟩, ⟨S512x128, r⟩] concatenates_S512x128_S512x128_S512x256_d1))
    (broadcastTo S512x256 (shapeCast S1x256 g shapeCasts_S1x256_S1x256) broadcasts_S1x256_S512x256)

/-- A tile's absolute values, the greater of its two halves: one number per lane. -/
def mT (n : FVec Ideal S512x256 .f32) : FVec Ideal S512x128 .f32 :=
  maximumf (extractStridedSlice S512x128 ![0, 0] (absf n) slices_S512x256_o0_0_S512x128)
    (extractStridedSlice S512x128 ![0, 128] (absf n) slices_S512x256_o0_128_S512x128)

/-- A tile of codes: the normalised tile times the inverse scale, clipped. -/
def qT (n : FVec Ideal S512x256 .f32) (inv : FVec Ideal S512x128 .f32) : FVec Ideal S512x256 .fp8e4m3 :=
  truncf .fp8e4m3 (minimumf (broadcast S512x256 (Scalar.ofBits .f32 0x43E00000#32)) (maximumf (broadcast S512x256 (Scalar.ofBits .f32 0xC3E00000#32))
    (mulf n (concatenate S512x256 1 [⟨S512x128, inv⟩, ⟨S512x128, inv⟩] concatenates_S512x128_S512x128_S512x256_d1)))) bitsLt_fp8e4m3_f32

/-- The inverse root mean square of each row, on every lane, from the rows' sums of squares per lane. -/
def rT (ss : Vec Ideal S512x128 .f32) : FVec Ideal S512x128 .f32 := k0_pay5 ss

/-- Each row's greatest absolute value over 448, from the greatest per lane. -/
def xqT (m : FVec Ideal S512x128 .f32) : FVec Ideal S512x1 .f32 :=
  mulf (shapeCast S512x1 (multiReduction .maximumf [1] S512 m 0xFF800000#32 reduces_S512x128_S512 (.inl rfl) rfl) shapeCasts_S512_S512x1)
    (broadcast S512x1 (Scalar.ofBits .f32 0x3B124925#32))

/-- One step of the search for the exponent field. -/
def stepT (x : FVec Ideal S512x1 .f32) (bit : BitVec 32) (f : IVec S512x1 32) : IVec S512x1 32 :=
  select (cmpf .oge x (bitcastToFloat .f32 (shli (addi f (broadcast S512x1 bit)) (broadcast S512x1 23#32))))
    (addi f (broadcast S512x1 bit)) f

/-- The exponent field of each row's number. -/
def fieldT (x : FVec Ideal S512x1 .f32) : IVec S512x1 32 :=
  stepT x 1#32 (stepT x 2#32 (stepT x 4#32 (stepT x 8#32 (stepT x 16#32 (stepT x 32#32 (stepT x 64#32 (stepT x 128#32 (broadcast S512x1 0#32))))))))

/-- Each row's exponent, on every lane. -/
def eT (f : IVec S512x1 32) : IVec S512x128 32 :=
  broadcastTo S512x128 (shapeCast S512x1 (select (ori (cmpi .eq f (broadcast S512x1 0#32)) (cmpi .eq f (broadcast S512x1 255#32)))
    (broadcast S512x1 0#32) (subi f (broadcast S512x1 126#32))) shapeCasts_S512x1_S512x1) broadcasts_S512x1_S512x128

/-- Two to the negated exponent. -/
def invT (e : IVec S512x128 32) : FVec Ideal S512x128 .f32 :=
  bitcastToFloat .f32 (shli (addi (subi (broadcast S512x128 0#32) e) (broadcast S512x128 127#32)) (broadcast S512x128 23#32))

/-- Two to the exponent, the rows laid along one row. -/
def scT (e : IVec S512x128 32) : FVec Ideal S1x512 .f32 :=
  extractStridedSlice S1x512 ![0, 0] (transpose S128x512 [1, 0]
    (bitcastToFloat .f32 (shli (addi e (broadcast S512x128 127#32)) (broadcast S512x128 23#32))) transposes_S512x128_p1_0_S128x512) slices_S128x512_o0_0_S1x512

theorem hT_apply (x : Vec Ideal S512x4096 .fp8e4m3) (w : Vec Ideal S4096x256 .fp8e4m3) (xs : Vec Ideal S1x512 .f32)
    (ws : Vec Ideal S1x256 .f32) (res : Vec Ideal S512x256 .bf16) (j : Fin 512) (c : Fin 256) :
    hT x w xs ws res (ix2 j c) = (res (ix2 j c) : EReal) + (∑ k : Fin 4096, (x (ix2 j k) : EReal) * w (ix2 k c)) * xs (ix2 0 j) * ws (ix2 0 c) := by
  pointwise [hT, k0_pay11, k0_pay6, k0_pay7]
  split <;> rfl

theorem sqT_apply (h : FVec Ideal S512x256 .bf16) (j : Fin 512) (l : Fin 128) :
    sqT h (ix2 j l) = (h (ix2 j ⟨l.val, by omega⟩) : EReal) * h (ix2 j ⟨l.val, by omega⟩) + (h (ix2 j ⟨128 + l.val, by omega⟩) : EReal) * h (ix2 j ⟨128 + l.val, by omega⟩) := by
  pointwise [sqT]

theorem nT_apply (r : FVec Ideal S512x128 .f32) (h : Vec Ideal S1x512x256 .bf16) (g : Vec Ideal S1x256 .f32) (j : Fin 512) (c : Fin 256) :
    nT r h g (ix2 j c) = (h (ix3 0 j c) : EReal) * r (ix2 j ⟨c.val % 128, by omega⟩) * g (ix2 0 c) := by
  pointwise [nT]
  split
  · rename_i h; rw [show (⟨c.val % 128, by omega⟩ : Fin 128) = ⟨c.val, h⟩ from Fin.ext (Nat.mod_eq_of_lt h)]
  · rename_i h; rw [show (⟨c.val % 128, by omega⟩ : Fin 128) = ⟨c.val - 128, by omega⟩ from Fin.ext (by show c.val % 128 = c.val - 128; omega)]

theorem mT_apply (n : FVec Ideal S512x256 .f32) (j : Fin 512) (l : Fin 128) :
    mT n (ix2 j l) = max (max (n (ix2 j ⟨l.val, by omega⟩) : EReal) (-(n (ix2 j ⟨l.val, by omega⟩)))) (max (n (ix2 j ⟨128 + l.val, by omega⟩) : EReal) (-(n (ix2 j ⟨128 + l.val, by omega⟩)))) := by
  pointwise [mT]
  rfl

theorem qT_apply (n : FVec Ideal S512x256 .f32) (inv : FVec Ideal S512x128 .f32) (j : Fin 512) (c : Fin 256) :
    qT n inv (ix2 j c) = min (Ideal.ofBits .f32 0x43E00000#32 : EReal) (max (Ideal.ofBits .f32 0xC3E00000#32 : EReal) ((n (ix2 j c) : EReal) * inv (ix2 j ⟨c.val % 128, by omega⟩))) := by
  pointwise [qT]
  split
  · rename_i h; rw [show (⟨c.val % 128, by omega⟩ : Fin 128) = ⟨c.val, h⟩ from Fin.ext (Nat.mod_eq_of_lt h)]
  · rename_i h; rw [show (⟨c.val % 128, by omega⟩ : Fin 128) = ⟨c.val - 128, by omega⟩ from Fin.ext (by show c.val % 128 = c.val - 128; omega)]

theorem rT_apply (ss : Vec Ideal S512x128 .f32) (j : Fin 512) (l : Fin 128) :
    rT ss (ix2 j l) = Ideal.rsqrt ((∑ l' : Fin 128, (ss (ix2 j l') : EReal)) * ((1 / 3840 : ℝ) : EReal) + Ideal.ofBits .f32 0x3727C5AC#32) := by
  pointwise [rT, k0_pay5]
  rw [show (Named.named κ "inv_d_out" 965249161#32 : Ideal .f32) = ((1 / 3840 : ℝ) : EReal) from rfl]

theorem xqT_apply (m : FVec Ideal S512x128 .f32) (j : Fin 512) (l : Fin 1) :
    xqT m (ix2 j l) = (Finset.univ.fold max (⊥ : EReal) fun l' : Fin 128 => (m (ix2 j l') : EReal)) * (Ideal.ofBits .f32 0x3B124925#32 : EReal) := by
  pointwise [xqT]
  rw [show (Ideal.ofBits FTy.f32 4286578688#32 : EReal) = ⊥ from by simp [Ideal.ofBits, Ideal.ieee]]

theorem stepT_apply (x : FVec Ideal S512x1 .f32) (bit : BitVec 32) (f : IVec S512x1 32) (j : Fin 512) (l : Fin 1) :
    stepT x bit f (ix2 j l) = if (Ideal.ofBits .f32 ((f (ix2 j l) + bit) <<< (23 : Nat)) : EReal) ≤ x (ix2 j l) then f (ix2 j l) + bit else f (ix2 j l) := by
  pointwise [stepT]
  rfl

theorem eT_apply (f : IVec S512x1 32) (j : Fin 512) (l : Fin 128) :
    eT f (ix2 j l) = if f (ix2 j 0) = 0#32 ∨ f (ix2 j 0) = 255#32 then 0#32 else f (ix2 j 0) - 126#32 := by
  pointwise [eT]
  simp only [IntOp.cmpi, IntOp.subi]
  by_cases h0 : f (ix2 j 0) = 0#32
  · simp [h0, IntOp.ori, Scalar.select]
  · by_cases h1 : f (ix2 j 0) = 255#32
    · simp [h1, IntOp.ori, Scalar.select]
    · have a0 : (f (ix2 j 0) == 0#32) = false := by simpa using h0
      have a1 : (f (ix2 j 0) == 255#32) = false := by simpa using h1
      rw [if_neg (by simp [h0, h1])]
      simp [a0, a1, IntOp.ori, Scalar.select]

theorem invT_apply (e : IVec S512x128 32) (j : Fin 512) (l : Fin 128) :
    invT e (ix2 j l) = (Ideal.ofBits .f32 ((0#32 - e (ix2 j l) + 127#32) <<< (23 : Nat)) : EReal) := by
  pointwise [invT]
  rfl

theorem scT_apply (e : IVec S512x128 32) (j : Fin 512) :
    scT e (ix2 0 j) = (Ideal.ofBits .f32 ((e (ix2 j 0) + 127#32) <<< (23 : Nat)) : EReal) := by
  pointwise [scT]
  rfl

end Cert.KernelIdeal.Hand

end
-- ==== Proof.ExpMath.lean ====
/-
  The power-of-two scale of a nonnegative number below 2^126, two ways: by the search for the exponent field and the
  words built of it, and by the floor of the binary logarithm. They are the same numbers.
-/
module

public import Idealize.ShloMosaic.PureOps.Ideal

@[expose] public section

noncomputable section

namespace Cert.Hand

open Idealize.ShloMosaic

/-- One step of the search: take the bit if the number it gives is still at most `x`. -/
def wStep (x : EReal) (bit f : BitVec 32) : BitVec 32 :=
  if (Ideal.ofBits .f32 ((f + bit) <<< (23 : Nat)) : EReal) ≤ x then f + bit else f

/-- The exponent field found by the search. -/
def wField (x : EReal) : BitVec 32 :=
  wStep x 1#32 (wStep x 2#32 (wStep x 4#32 (wStep x 8#32 (wStep x 16#32 (wStep x 32#32 (wStep x 64#32 (wStep x 128#32 0#32)))))))

/-- The exponent of a field. -/
def wExp (f : BitVec 32) : BitVec 32 := if f = 0#32 ∨ f = 255#32 then 0#32 else f - 126#32

/-- The scale and its inverse, as the words with the exponent in their exponent field. -/
def kSc (x : EReal) : EReal := Ideal.ofBits .f32 ((wExp (wField x) + 127#32) <<< (23 : Nat))
def kInv (x : EReal) : EReal := Ideal.ofBits .f32 ((0#32 - wExp (wField x) + 127#32) <<< (23 : Nat))

/-- The exponent by logarithms. -/
def rExp (x : EReal) : EReal :=
  if x < Ideal.ofBits .f32 0x00800000#32 then Ideal.ofBits .f32 0x00000000#32
  else Ideal.liftRound Int.floor (Ideal.div (Ideal.log x) (Ideal.log (Ideal.ofBits .f32 0x40000000#32))) + Ideal.ofBits .f32 0x3F800000#32

/-- The scale and its inverse, as powers. -/
def rSc (x : EReal) : EReal := Ideal.exp2 (rExp x)
def rInv (x : EReal) : EReal := Ideal.exp2 (Ideal.ofBits .f32 0x00000000#32 - rExp x)

/-- The number of exponent field `n` and fraction 0. -/
def V (n : Nat) : EReal := Ideal.ofBits .f32 (BitVec.ofNat 32 n <<< (23 : Nat))

theorem fields : ∀ n : Fin 256, ((BitVec.ofNat 32 n.val <<< (23 : Nat)).extractLsb' 31 1 == 1#1) = false
    ∧ ((BitVec.ofNat 32 n.val <<< (23 : Nat)).extractLsb' 23 8).toNat = n.val
    ∧ ((BitVec.ofNat 32 n.val <<< (23 : Nat)).extractLsb' 0 23).toNat = 0 := by decide +kernel

theorem V_of {n : Nat} (h1 : 1 ≤ n) (h2 : n ≤ 254) : V n = ((2 : ℝ) ^ ((n : Int) - 127) : ℝ) := by
  have hf := fields ⟨n, by omega⟩
  show Ideal.ieee 8 23 _ = _
  unfold Ideal.ieee
  simp only [Nat.reduceAdd] at *
  rw [hf.1, hf.2.1, hf.2.2]
  rw [if_neg (by omega), if_neg (by omega)]
  congr 1
  simp only [Bool.false_eq_true, if_false]
  rw [show (n : Int) - 127 = ((n : Int) - (2 ^ (8 - 1) - 1) - (23 : Nat)) + 23 by norm_num, zpow_add₀ (by norm_num)]
  norm_num
  ring

theorem V_top : V 255 = ⊤ := by
  have hf := fields ⟨255, by omega⟩
  show (Ideal.ieee 8 23 (BitVec.ofNat 32 255 <<< (23 : Nat)) : EReal) = ⊤
  unfold Ideal.ieee
  simp only [Nat.reduceAdd] at *
  rw [hf.1, hf.2.1, hf.2.2]
  simp

/-- What holds after the bits of value `b` and above are decided. -/
def Inv (x : EReal) (b n : Nat) : Prop := n + b ≤ 256 ∧ (n = 0 ∨ V n ≤ x) ∧ (n + b = 256 ∨ x < V (n + b))

theorem wStep_ofNat (x : EReal) (b n : Nat) :
    wStep x (BitVec.ofNat 32 b) (BitVec.ofNat 32 n) = BitVec.ofNat 32 (if V (n + b) ≤ x then n + b else n) := by
  unfold wStep V
  rw [← BitVec.ofNat_add]
  split <;> rfl

theorem Inv.step {x : EReal} {b n : Nat} (h : Inv x (2 * b) n) : Inv x b (if V (n + b) ≤ x then n + b else n) := by
  obtain ⟨h1, h2, h3⟩ := h
  split
  · rename_i hv
    refine ⟨by omega, Or.inr hv, ?_⟩
    rw [show n + b + b = n + 2 * b by ring]; exact h3
  · rename_i hv
    exact ⟨by omega, h2, Or.inr (not_le.mp hv)⟩

theorem wField_spec (x : EReal) : ∃ n, wField x = BitVec.ofNat 32 n ∧ Inv x 1 n := by
  have h0 : Inv x (2 * 128) 0 := ⟨by omega, Or.inl rfl, Or.inl rfl⟩
  have h1 := h0.step
  have h2 := Inv.step (b := 64) h1
  have h3 := Inv.step (b := 32) h2
  have h4 := Inv.step (b := 16) h3
  have h5 := Inv.step (b := 8) h4
  have h6 := Inv.step (b := 4) h5
  have h7 := Inv.step (b := 2) h6
  have h8 := Inv.step (b := 1) h7
  refine ⟨_, ?_, h8⟩
  unfold wField
  rw [wStep_ofNat x 128 0, wStep_ofNat x 64, wStep_ofNat x 32, wStep_ofNat x 16, wStep_ofNat x 8, wStep_ofNat x 4,
    wStep_ofNat x 2, wStep_ofNat x 1]

theorem tiny_eq : (Ideal.ofBits .f32 0x00800000#32 : EReal) = V 1 := rfl
theorem two_eq : (Ideal.ofBits .f32 0x40000000#32 : EReal) = ((2 : ℝ) : EReal) := by
  rw [show (Ideal.ofBits .f32 0x40000000#32 : EReal) = V 128 from rfl, V_of (by omega) (by omega)]; norm_num
theorem one_eq : (Ideal.ofBits .f32 0x3F800000#32 : EReal) = ((1 : ℝ) : EReal) := by
  rw [show (Ideal.ofBits .f32 0x3F800000#32 : EReal) = V 127 from rfl, V_of (by omega) (by omega)]; norm_num
theorem zero_eq : (Ideal.ofBits .f32 0x00000000#32 : EReal) = ((0 : ℝ) : EReal) := by
  show (Ideal.ieee 8 23 (0x00000000#32) : EReal) = ((0 : ℝ) : EReal)
  unfold Ideal.ieee
  simp

theorem exp2_zero : Ideal.exp2 ((0 : ℝ) : EReal) = 1 := by
  rw [Ideal.exp2_coe]
  simp

theorem wExp_words : ∀ n : Fin 253, 1 ≤ n.val → wExp (BitVec.ofNat 32 n.val) + 127#32 = BitVec.ofNat 32 (n.val + 1)
    ∧ 0#32 - wExp (BitVec.ofNat 32 n.val) + 127#32 = BitVec.ofNat 32 (253 - n.val) := by decide +kernel

theorem exp_all (x : ℝ) (h0 : 0 ≤ x) (hx : x < (2 : ℝ) ^ (126 : Int)) :
    kSc (x : EReal) = rSc (x : EReal) ∧ kInv (x : EReal) = rInv (x : EReal) := by
  obtain ⟨n, hn, hle, hlo, hhi⟩ := wField_spec (x : EReal)
  unfold kSc kInv rSc rInv
  rw [hn]
  rcases Nat.eq_zero_or_pos n with rfl | hpos
  · have hlt : (x : EReal) < Ideal.ofBits .f32 0x00800000#32 := by
      rcases hhi with h | h
      · omega
      · exact h
    have hr : rExp (x : EReal) = ((0 : ℝ) : EReal) := by unfold rExp; rw [if_pos hlt, zero_eq]
    rw [hr, zero_eq]
    have h1 : wExp (BitVec.ofNat 32 0) = 0#32 := by decide
    rw [h1]
    refine ⟨?_, ?_⟩
    · rw [show (0#32 + 127#32 : BitVec 32) = BitVec.ofNat 32 127 from rfl]
      show V 127 = _
      rw [V_of (by omega) (by omega), exp2_zero]
      simp
    · rw [show (0#32 - 0#32 + 127#32 : BitVec 32) = BitVec.ofNat 32 127 from rfl]
      show V 127 = _
      rw [V_of (by omega) (by omega), ← EReal.coe_sub, sub_zero, exp2_zero]
      simp
  · have hlo' : V n ≤ (x : EReal) := hlo.resolve_left (by omega)
    have hn252 : n ≤ 252 := by
      by_contra hc
      rcases Nat.lt_or_ge n 255 with h | h
      · rw [V_of hpos (by omega), EReal.coe_le_coe_iff] at hlo'
        have : (2 : ℝ) ^ (126 : Int) ≤ 2 ^ ((n : Int) - 127) := zpow_le_zpow_right₀ (by norm_num) (by omega)
        linarith
      · have : n = 255 := by omega
        subst this
        rw [V_top] at hlo'
        exact absurd (top_le_iff.mp hlo') (EReal.coe_ne_top x)
    have hhi' : (x : EReal) < V (n + 1) := hhi.resolve_left (by omega)
    rw [V_of hpos (by omega), EReal.coe_le_coe_iff] at hlo'
    rw [V_of (by omega) (by omega), EReal.coe_lt_coe_iff] at hhi'
    have hxpos : 0 < x := lt_of_lt_of_le (zpow_pos (by norm_num) _) hlo'
    have hnlt : ¬ (x : EReal) < Ideal.ofBits .f32 0x00800000#32 := by
      rw [tiny_eq, V_of (by omega) (by omega), EReal.coe_lt_coe_iff, not_lt]
      refine le_trans ?_ hlo'
      exact zpow_le_zpow_right₀ (by norm_num) (by push_cast; omega)
    have hl2 : 0 < Real.log 2 := Real.log_pos (by norm_num)
    have hfl : ⌊Real.log x * (Real.log 2)⁻¹⌋ = (n : Int) - 127 := by
      rw [Int.floor_eq_iff]
      have a1 : Real.log ((2 : ℝ) ^ ((n : Int) - 127)) ≤ Real.log x := Real.log_le_log (zpow_pos (by norm_num) _) hlo'
      have a2 : Real.log x < Real.log ((2 : ℝ) ^ (((n + 1 : Nat) : Int) - 127)) := Real.log_lt_log hxpos hhi'
      rw [Real.log_zpow] at a1 a2
      rw [← div_eq_mul_inv]
      constructor
      · rw [le_div_iff₀ hl2]; exact a1
      · rw [div_lt_iff₀ hl2]
        refine lt_of_lt_of_eq a2 ?_
        push_cast; ring
    have hr : rExp (x : EReal) = (((n : ℝ) - 126 : ℝ) : EReal) := by
      unfold rExp
      rw [if_neg hnlt, two_eq, one_eq, Ideal.log_coe, if_neg (not_le.mpr hxpos), Ideal.log_coe, if_neg (by norm_num)]
      unfold Ideal.div
      rw [if_neg (by exact_mod_cast hl2.ne'), ← EReal.coe_inv, ← EReal.coe_mul]
      show (((⌊Real.log x * (Real.log 2)⁻¹⌋ : ℤ) : ℝ) : EReal) + _ = _
      rw [hfl, ← EReal.coe_add]
      congr 1
      push_cast; ring
    obtain ⟨w1, w2⟩ := wExp_words ⟨n, by omega⟩ hpos
    simp only at w1 w2
    rw [w1, w2, hr, zero_eq, ← EReal.coe_sub]
    refine ⟨?_, ?_⟩
    · show V (n + 1) = _
      rw [V_of (by omega) (by omega), Ideal.exp2_coe]
      congr 1
      show _ = (2 : ℝ) ^ ((n : ℝ) - 126)
      rw [← Real.rpow_intCast]
      congr 1
      push_cast; ring
    · show V (253 - n) = _
      rw [V_of (by omega) (by omega), Ideal.exp2_coe]
      congr 1
      show _ = (2 : ℝ) ^ (0 - ((n : ℝ) - 126))
      rw [← Real.rpow_intCast]
      congr 1
      rw [Nat.cast_sub (by omega)]
      push_cast; ring

end Cert.Hand

end
-- ==== Proof.Blocks.lean ====
/-
  What a block of 512 tokens works out to, over the extended reals, as functions of whole blocks; and that each tile of
  the kernel's work is a tile of them.
-/
module

public import proofs.«01_k».proof.Proof.Tiles
public import proofs.«01_k».proof.Proof.ExpMath
public import proofs.«01_k».proof.Proof.OffsetsIdeal
public import Idealize.ShloMosaic.Lib.Writes

@[expose] public section

noncomputable section

namespace Cert.KernelIdeal.Hand

open Cert.KernelIdeal Cert.KernelIdeal.Gen Cert.Hand
open Idealize.ShloMosaic

/-- Columns `col` to `col + 255` of a block. -/
def tile {α : Type} (H : S512x3840.Idx → α) (col : Nat) (h : col + 256 ≤ 3840) : S512x256.Idx → α :=
  fun y => H (ix2 (y 0) ⟨col + (y 1).val, by have := (y 1).isLt; have h' : (y 1).val < 256 := this; omega⟩)

/-- A block's hidden state. -/
def hB (X : Vec Ideal S512x4096 .fp8e4m3) (W : Vec Ideal S4096x3840 .fp8e4m3) (xs : Vec Ideal S1x512 .f32)
    (WS : Vec Ideal S1x3840 .f32) (R : Vec Ideal S512x3840 .bf16) : FVec Ideal S512x3840 .bf16 :=
  fun y => (R y : EReal) + (∑ k : Fin 4096, (X (ix2 (y 0) k) : EReal) * W (ix2 k (y 1))) * xs (ix2 0 (y 0)) * WS (ix2 0 (y 1))

/-- A row's inverse root mean square, from its sums of squares per lane. -/
def rI (ss : Vec Ideal S512x128 .f32) (j : Fin 512) : EReal :=
  Ideal.rsqrt ((∑ l : Fin 128, (ss (ix2 j l) : EReal)) * ((1 / 3840 : ℝ) : EReal) + Ideal.ofBits .f32 0x3727C5AC#32)

/-- A block, normalised. -/
def nB (H : Vec Ideal S512x3840 .bf16) (ss : Vec Ideal S512x128 .f32) (g : Vec Ideal S1x3840 .f32) : FVec Ideal S512x3840 .f32 :=
  fun y => (H y : EReal) * rI ss (y 0) * g (ix2 0 (y 1))

/-- Slot `s` of the two-slot scratch. -/
def slotB (Z : Vec Ideal S2x512x3840 .bf16) (s : Fin 2) : Vec Ideal S512x3840 .bf16 := fun y => Z (ix3 s (y 0) (y 1))

/-- A block's squares summed per lane. -/
def ssB (H : FVec Ideal S512x3840 .bf16) : FVec Ideal S512x128 .f32 :=
  addf (addf (addf (addf (addf (addf (addf (addf (addf (addf (addf (addf (addf (addf (sqT (tile H 0 (by omega))) (sqT (tile H 256 (by omega)))) (sqT (tile H 512 (by omega)))) (sqT (tile H 768 (by omega)))) (sqT (tile H 1024 (by omega)))) (sqT (tile H 1280 (by omega)))) (sqT (tile H 1536 (by omega)))) (sqT (tile H 1792 (by omega)))) (sqT (tile H 2048 (by omega)))) (sqT (tile H 2304 (by omega)))) (sqT (tile H 2560 (by omega)))) (sqT (tile H 2816 (by omega)))) (sqT (tile H 3072 (by omega)))) (sqT (tile H 3328 (by omega)))) (sqT (tile H 3584 (by omega)))

/-- A normalised block's greatest absolute value per lane. -/
def mB (n : FVec Ideal S512x3840 .f32) : FVec Ideal S512x128 .f32 :=
  maximumf (maximumf (maximumf (maximumf (maximumf (maximumf (maximumf (maximumf (maximumf (maximumf (maximumf (maximumf (maximumf (maximumf (mT (tile n 0 (by omega))) (mT (tile n 1792 (by omega)))) (mT (tile n 3584 (by omega)))) (mT (tile n 256 (by omega)))) (mT (tile n 2048 (by omega)))) (mT (tile n 512 (by omega)))) (mT (tile n 2304 (by omega)))) (mT (tile n 768 (by omega)))) (mT (tile n 2560 (by omega)))) (mT (tile n 1024 (by omega)))) (mT (tile n 2816 (by omega)))) (mT (tile n 1280 (by omega)))) (mT (tile n 3072 (by omega)))) (mT (tile n 1536 (by omega)))) (mT (tile n 3328 (by omega)))

/-- A normalised block's exponents, on every lane. -/
def eB (n : FVec Ideal S512x3840 .f32) : IVec S512x128 32 := eT (fieldT (xqT (mB n)))

/-- A row's greatest absolute value over 448, from the greatest per lane. -/
def xv (n : FVec Ideal S512x3840 .f32) (j : Fin 512) : EReal :=
  (Finset.univ.fold max (⊥ : EReal) fun l : Fin 128 => (mB n (ix2 j l) : EReal)) * (Ideal.ofBits .f32 0x3B124925#32 : EReal)

/-- A normalised block's codes. -/
def cB (n : FVec Ideal S512x3840 .f32) : FVec Ideal S512x3840 .fp8e4m3 :=
  fun y => min (Ideal.ofBits .f32 0x43E00000#32 : EReal) (max (Ideal.ofBits .f32 0xC3E00000#32 : EReal) ((n y : EReal) * kInv (xv n (y 0))))

/-! ## What the loads read -/

theorem ld_tile {A B a b : Nat} {e : EltTy} {sp : Space} (v : View sig .tc sp ⟨2, ![A, B]⟩ e) (f : v.ty.Contents (Elt Ideal)) (o : Nat)
    (inb : ∀ x, (![0, o] : Fin 2 → Nat) x + (⟨2, ![a, b]⟩ : Shape).size x ≤ (⟨2, ![A, B]⟩ : Shape).size x) (j : Fin a) (c : Fin b)
    (ha : j.val < A) (hb : o + c.val < B) :
    v.readAt (Elt Ideal) (Rect.unit (s := ⟨2, ![A, B]⟩) ![0, o] (⟨2, ![a, b]⟩ : Shape).size inb).toLoadRect f (ix2 j c) = v.read (Elt Ideal) f (ix2 ⟨j.val, ha⟩ ⟨o + c.val, hb⟩) := by
  rw [View.readAt_apply]
  congr 1
  funext x
  match x with
  | ⟨0, _⟩ => exact Fin.ext (by show 0 + 1 * j.val = j.val; omega)
  | ⟨1, _⟩ => exact Fin.ext (by show o + 1 * c.val = o + c.val; omega)

theorem ld_slot {sp : Space} (v : View sig .tc sp S2x512x3840 .bf16) (f : v.ty.Contents (Elt Ideal)) (off : Fin 3 → Nat) (s : Fin 2) (o : Nat)
    (ho : off = ![s.val, 0, o]) (inb : ∀ x, off x + S1x512x256.size x ≤ S2x512x3840.size x) (j : Fin 512) (c : Fin 256)
    (hb : o + c.val < 3840) :
    v.readAt (Elt Ideal) (Rect.unit (s := S2x512x3840) off S1x512x256.size inb).toLoadRect f (ix3 0 j c) = v.read (Elt Ideal) f (ix3 s j ⟨o + c.val, hb⟩) := by
  subst ho
  rw [View.readAt_apply]
  congr 1
  funext x
  match x with
  | ⟨0, _⟩ => exact Fin.ext (by show s.val + 1 * 0 = s.val; omega)
  | ⟨1, _⟩ => exact Fin.ext (by show 0 + 1 * j.val = j.val; omega)
  | ⟨2, _⟩ => exact Fin.ext (by show o + 1 * c.val = o + c.val; omega)

theorem ld_whole {A B : Nat} {e : EltTy} {sp : Space} (v : View sig .tc sp ⟨2, ![A, B]⟩ e) (f : v.ty.Contents (Elt Ideal))
    (inb : ∀ x, (![0, 0] : Fin 2 → Nat) x + (⟨2, ![A, B]⟩ : Shape).size x ≤ (⟨2, ![A, B]⟩ : Shape).size x) :
    v.readAt (Elt Ideal) (Rect.unit (s := ⟨2, ![A, B]⟩) ![0, 0] (⟨2, ![A, B]⟩ : Shape).size inb).toLoadRect f = v.read (Elt Ideal) f := by
  funext y
  rw [View.readAt_apply]
  congr 1
  funext x
  match x with
  | ⟨0, _⟩ => exact Fin.ext (by show 0 + 1 * (y 0).val = (y 0).val; omega)
  | ⟨1, _⟩ => exact Fin.ext (by show 0 + 1 * (y 1).val = (y 1).val; omega)

/-! ## Each tile of work is a tile of the block's -/

theorem hT_tile {sp1 sp3 sp4 sp5 : Space} (v1 : View sig .tc sp1 S512x4096 .fp8e4m3) (f1 : v1.ty.Contents (Elt Ideal))
    (v3 : View sig .tc sp3 S4096x3840 .fp8e4m3) (f3 : v3.ty.Contents (Elt Ideal)) (xs : Vec Ideal S1x512 .f32)
    (v4 : View sig .tc sp4 S1x3840 .f32) (f4 : v4.ty.Contents (Elt Ideal))
    (v5 : View sig .tc sp5 S512x3840 .bf16) (f5 : v5.ty.Contents (Elt Ideal)) (col : Nat) (hc : col + 256 ≤ 3840) (i1 i3 i4 i5) :
    hT (v1.readAt (Elt Ideal) (Rect.unit (s := S512x4096) ![0, 0] S512x4096.size i1).toLoadRect f1)
      (v3.readAt (Elt Ideal) (Rect.unit (s := S4096x3840) ![0, col] S4096x256.size i3).toLoadRect f3) xs
      (v4.readAt (Elt Ideal) (Rect.unit (s := S1x3840) ![0, col] S1x256.size i4).toLoadRect f4)
      (v5.readAt (Elt Ideal) (Rect.unit (s := S512x3840) ![0, col] S512x256.size i5).toLoadRect f5)
      = tile (hB (v1.read (Elt Ideal) f1) (v3.read (Elt Ideal) f3) xs (v4.read (Elt Ideal) f4) (v5.read (Elt Ideal) f5)) col hc := by
  funext y
  obtain ⟨j, c, rfl⟩ : ∃ (j : Fin 512) (c : Fin 256), y = ix2 j c := ⟨y 0, y 1, eq_ix2 y⟩
  rw [hT_apply, ld_whole v1 f1 i1, ld_tile v5 f5 col i5 j c j.isLt (by omega), ld_tile v4 f4 col i4 0 c (by omega) (by omega)]
  have hw : ∀ k : Fin 4096, v3.readAt (Elt Ideal) (Rect.unit (s := S4096x3840) ![0, col] S4096x256.size i3).toLoadRect f3 (ix2 k c)
      = v3.read (Elt Ideal) f3 (ix2 k ⟨col + c.val, by omega⟩) := fun k => ld_tile v3 f3 col i3 k c k.isLt (by omega)
  simp only [hw]
  rfl

theorem nT_tile {sp6 sp10 : Space} (v10 : View sig .tc sp10 S2x512x3840 .bf16) (f10 : v10.ty.Contents (Elt Ideal)) (ss : Vec Ideal S512x128 .f32)
    (v6 : View sig .tc sp6 S1x3840 .f32) (f6 : v6.ty.Contents (Elt Ideal)) (off : Fin 3 → Nat) (s : Fin 2) (col : Nat)
    (hc : col + 256 ≤ 3840) (ho : off = ![s.val, 0, col]) (i10 i6) :
    nT (rT ss) (v10.readAt (Elt Ideal) (Rect.unit (s := S2x512x3840) off S1x512x256.size i10).toLoadRect f10)
      (v6.readAt (Elt Ideal) (Rect.unit (s := S1x3840) ![0, col] S1x256.size i6).toLoadRect f6)
      = tile (nB (slotB (v10.read (Elt Ideal) f10) s) ss (v6.read (Elt Ideal) f6)) col hc := by
  funext y
  obtain ⟨j, c, rfl⟩ : ∃ (j : Fin 512) (c : Fin 256), y = ix2 j c := ⟨y 0, y 1, eq_ix2 y⟩
  rw [nT_apply, ld_slot v10 f10 off s col ho i10 j c (by omega), ld_tile v6 f6 col i6 0 c (by omega) (by omega), rT_apply]
  rfl

theorem eB_apply (n : FVec Ideal S512x3840 .f32) (j : Fin 512) (l : Fin 128) : eB n (ix2 j l) = wExp (wField (xv n j)) := by
  unfold eB
  rw [eT_apply]
  have h : fieldT (xqT (mB n)) (ix2 j 0) = wField (xv n j) := by
    unfold fieldT wField wStep
    simp only [stepT_apply, xqT_apply]
    rfl
  rw [h]
  rfl

theorem qT_tile (n : FVec Ideal S512x3840 .f32) (col : Nat) (hc : col + 256 ≤ 3840) :
    qT (tile n col hc) (invT (eB n)) = tile (cB n) col hc := by
  funext y
  obtain ⟨j, c, rfl⟩ : ∃ (j : Fin 512) (c : Fin 256), y = ix2 j c := ⟨y 0, y 1, eq_ix2 y⟩
  rw [qT_apply, invT_apply, eB_apply]
  rfl

theorem scT_eB (n : FVec Ideal S512x3840 .f32) (j : Fin 512) : scT (eB n) (ix2 0 j) = kSc (xv n j) := by
  rw [scT_apply, eB_apply]
  rfl

/-- Writes that all lie in one slot of the scratch leave the other as it was. -/
theorem slotB_writes {sp10 : Space} (v10 : View sig .tc sp10 S2x512x3840 .bf16) (f10 : v10.ty.Contents (Elt Ideal)) (s : Fin 2)
    (L : List (View.Piece (Elt Ideal) S2x512x3840 .bf16)) (hL : ∀ p ∈ L, ∀ y ∈ p.1.set, y 0 ≠ s) :
    slotB (v10.read (Elt Ideal) (v10.writes (Elt Ideal) f10 L)) s = slotB (v10.read (Elt Ideal) f10) s := by
  funext y
  exact View.read_writes_apply_of_forall_not_mem v10 f10 _ L fun p hp hy => hL p hp _ hy rfl

end Cert.KernelIdeal.Hand

end
-- ==== Proof.Pieces.lean ====
/-
  A block written tile by tile reads as the block.
-/
module

public import proofs.«01_k».proof.Proof.Blocks

@[expose] public section

noncomputable section

namespace Cert.KernelIdeal.Hand

open Cert.KernelIdeal Cert.KernelIdeal.Gen Cert.Hand
open Idealize.ShloMosaic

/-- The writes `L` are all of tiles of the block `H`, and write every column in `S`. -/
structure TilesOf {e : EltTy} (L : List (View.Piece (Elt Ideal) S512x3840 e)) (H : S512x3840.Idx → Elt Ideal e) (S : Nat → Prop) : Prop where
  val : ∀ p ∈ L, ∀ x, p.2 x = H (p.1.emb x)
  cov : ∀ y : S512x3840.Idx, S (y 1).val → ∃ p ∈ L, y ∈ p.1.set

theorem TilesOf.nil {e : EltTy} (H : S512x3840.Idx → Elt Ideal e) : TilesOf (e := e) [] H fun _ => False :=
  ⟨by simp, fun y h => h.elim⟩

theorem TilesOf.cons {e : EltTy} {L : List (View.Piece (Elt Ideal) S512x3840 e)} {H : S512x3840.Idx → Elt Ideal e} {S : Nat → Prop}
    (h : TilesOf L H S) (col : Nat) (hc : col + 256 ≤ 3840)
    (inb : ∀ x, (![0, col] : Fin 2 → Nat) x + S512x256.size x ≤ S512x3840.size x) (P : S512x256.Idx → Elt Ideal e) (hP : P = tile H col hc) :
    TilesOf (⟨Rect.unit (s := S512x3840) ![0, col] S512x256.size inb, P⟩ :: L) H (fun c => (col ≤ c ∧ c < col + 256) ∨ S c) := by
  refine ⟨List.forall_mem_cons.mpr ⟨fun x => ?_, h.val⟩, fun y hy => ?_⟩
  · subst hP
    show H _ = H _
    congr 1
    funext a
    match a with
    | ⟨0, _⟩ => exact Fin.ext (by show (x 0).val = 0 + 1 * (x 0).val; omega)
    | ⟨1, _⟩ => exact Fin.ext (by show col + (x 1).val = col + 1 * (x 1).val; omega)
  · rcases hy with hy | hy
    · refine ⟨_, List.mem_cons_self, (Rect.mem_set_unit (inb := inb)).mpr fun a => ?_⟩
      match a with
      | ⟨0, _⟩ => exact ⟨Nat.zero_le _, by have := (y 0).isLt; show (y 0).val < 0 + 512; have h' : (y 0).val < 512 := this; omega⟩
      | ⟨1, _⟩ => exact hy
    · obtain ⟨p, hp, hy⟩ := h.cov y hy
      exact ⟨p, List.mem_cons_of_mem _ hp, hy⟩

theorem TilesOf.read {e : EltTy} {L : List (View.Piece (Elt Ideal) S512x3840 e)} {H : S512x3840.Idx → Elt Ideal e} {S : Nat → Prop}
    (h : TilesOf L H S) (hS : ∀ c, c < 3840 → S c) {sp : Space} (v : View sig .tc sp S512x3840 e) (f : v.ty.Contents (Elt Ideal)) :
    v.read (Elt Ideal) (v.writes (Elt Ideal) f L) = H :=
  funext fun y => View.read_writes_apply_of_pieces v f H L h.val y (h.cov y (hS _ (y 1).isLt))

/-- The writes `L` are all of tiles of the block `H`, into slot `s` of the scratch, and write every column in `S`. -/
structure SlotTiles (L : List (View.Piece (Elt Ideal) S2x512x3840 .bf16)) (s : Fin 2) (H : S512x3840.Idx → Elt Ideal .bf16) (S : Nat → Prop) : Prop where
  val : ∀ p ∈ L, ∀ x, p.2 x = H (ix2 (p.1.emb x 1) (p.1.emb x 2))
  slot : ∀ p ∈ L, ∀ y ∈ p.1.set, y 0 = s
  cov : ∀ y : S2x512x3840.Idx, y 0 = s → S (y 2).val → ∃ p ∈ L, y ∈ p.1.set

theorem SlotTiles.nil (s : Fin 2) (H : S512x3840.Idx → Elt Ideal .bf16) : SlotTiles [] s H fun _ => False :=
  ⟨by simp, by simp, fun y _ h => h.elim⟩

theorem shapeCast3 (P : FVec Ideal S512x256 .bf16) :
    (shapeCast S1x512x256 P shapeCasts_S512x256_S1x512x256 : FVec Ideal S1x512x256 .bf16) = fun x => P (ix2 (x 1) (x 2)) := by
  funext x
  obtain ⟨a, j, c, rfl⟩ : ∃ (a : Fin 1) (j : Fin 512) (c : Fin 256), x = ix3 a j c := ⟨x 0, x 1, x 2, eq_ix3 x⟩
  pointwise

theorem SlotTiles.cons {L : List (View.Piece (Elt Ideal) S2x512x3840 .bf16)} {s : Fin 2} {H : S512x3840.Idx → Elt Ideal .bf16} {S : Nat → Prop}
    (h : SlotTiles L s H S) (off : Fin 3 → Nat) (col : Nat) (hc : col + 256 ≤ 3840) (ho : off = ![s.val, 0, col])
    (inb : ∀ x, off x + S1x512x256.size x ≤ S2x512x3840.size x) (P : FVec Ideal S512x256 .bf16) (hP : P = tile H col hc) :
    SlotTiles (⟨Rect.unit (s := S2x512x3840) off S1x512x256.size inb, (shapeCast S1x512x256 P shapeCasts_S512x256_S1x512x256 : FVec Ideal S1x512x256 .bf16)⟩ :: L)
      s H (fun c => (col ≤ c ∧ c < col + 256) ∨ S c) := by
  subst ho
  refine ⟨List.forall_mem_cons.mpr ⟨fun x => ?_, h.val⟩, List.forall_mem_cons.mpr ⟨fun y hy => ?_, h.slot⟩, fun y hs hy => ?_⟩
  · subst hP
    refine (congrFun (shapeCast3 (tile H col hc)) x).trans ?_
    show H _ = H _
    congr 1
    funext a
    match a with
    | ⟨0, _⟩ => exact Fin.ext (by show (x 1).val = 0 + 1 * (x 1).val; omega)
    | ⟨1, _⟩ => exact Fin.ext (by show col + (x 2).val = col + 1 * (x 2).val; omega)
  · have := (Rect.mem_set_unit (inb := inb)).mp hy 0
    refine Fin.ext ?_
    have h1 : s.val ≤ (y 0).val ∧ (y 0).val < s.val + 1 := this
    omega
  · rcases hy with hy | hy
    · refine ⟨_, List.mem_cons_self, (Rect.mem_set_unit (inb := inb)).mpr fun a => ?_⟩
      match a with
      | ⟨0, _⟩ => exact ⟨by show s.val ≤ (y 0).val; rw [hs], by show (y 0).val < s.val + 1; rw [hs]; omega⟩
      | ⟨1, _⟩ => exact ⟨Nat.zero_le _, by have := (y 1).isLt; show (y 1).val < 0 + 512; have h' : (y 1).val < 512 := this; omega⟩
      | ⟨2, _⟩ => exact hy
    · obtain ⟨p, hp, hy⟩ := h.cov y hs hy
      exact ⟨p, List.mem_cons_of_mem _ hp, hy⟩

theorem SlotTiles.read {L : List (View.Piece (Elt Ideal) S2x512x3840 .bf16)} {s : Fin 2} {H : S512x3840.Idx → Elt Ideal .bf16} {S : Nat → Prop}
    (h : SlotTiles L s H S) (hS : ∀ c, c < 3840 → S c) {sp : Space} (v : View sig .tc sp S2x512x3840 .bf16) (f : v.ty.Contents (Elt Ideal)) :
    slotB (v.read (Elt Ideal) (v.writes (Elt Ideal) f L)) s = H := by
  funext y
  refine (View.read_writes_apply_of_pieces v f (fun z => H (ix2 (z 1) (z 2))) L h.val (ix3 s (y 0) (y 1)) (h.cov _ rfl (hS _ (y 1).isLt))).trans ?_
  exact congrArg H (eq_ix2 y).symm

/-- The other slot reads what it did. -/
theorem SlotTiles.other {L : List (View.Piece (Elt Ideal) S2x512x3840 .bf16)} {s : Fin 2} {H : S512x3840.Idx → Elt Ideal .bf16} {S : Nat → Prop}
    (h : SlotTiles L s H S) (s' : Fin 2) (hs : s' ≠ s) {sp : Space} (v : View sig .tc sp S2x512x3840 .bf16) (f : v.ty.Contents (Elt Ideal)) :
    slotB (v.read (Elt Ideal) (v.writes (Elt Ideal) f L)) s' = slotB (v.read (Elt Ideal) f) s' :=
  slotB_writes v f s' L fun p hp y hy e => hs (e.symm.trans (h.slot p hp y hy))

/-- The slot a point writes and the slot it reads. -/
def slotW (i : grid0.Coords) : Fin 2 := ⟨(i 0).val % 2, by omega⟩
def slotR (i : grid0.Coords) : Fin 2 := ⟨1 - (i 0).val % 2, by omega⟩

theorem slotR_ne (i : grid0.Coords) : slotR i ≠ slotW i := fun h => by
  have h' : 1 - (i 0).val % 2 = (i 0).val % 2 := congrArg Fin.val h
  omega

end Cert.KernelIdeal.Hand

end
-- ==== Proof.RunVal.lean ====
/-
  The kernel body at a point in between, with what it leaves in each buffer spelled out.
-/
module

public import proofs.«01_k».proof.Proof.RunIdeal
public import Idealize.ShloMosaic.Lib.Tactic
public import Idealize.ShloMosaic.Lib.Pipeline.Frame

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] [∀ e, Nonempty (Elt F e)]

local notation "𝕄" => MT nD τ sig Unit (Elt F) ℕ (UR sig nD τ) ℕ

set_option maxHeartbeats 16000000 in
set_option maxRecDepth 65536 in
/-- The body at a point `0 < i < 64`. -/
theorem midVal (c : Dev nD) (i : grid0.Coords) (h0 : 0 < (i 0).val) (hi : (i 0).val < 64)
    (M1 : Memref sig .tc .vmem S512x4096 .fp8e4m3) (h1 : M1.IsWhole)
    (M2 : Memref sig .tc .vmem S16x2048 .f32) (h2 : M2.IsWhole)
    (M3 : Memref sig .tc .vmem S4096x3840 .fp8e4m3) (h3 : M3.IsWhole)
    (M4 : Memref sig .tc .vmem S1x3840 .f32) (h4 : M4.IsWhole)
    (M5 : Memref sig .tc .vmem S512x3840 .bf16) (h5 : M5.IsWhole)
    (M6 : Memref sig .tc .vmem S1x3840 .f32) (h6 : M6.IsWhole)
    (M7 : Memref sig .tc .vmem S512x3840 .bf16) (h7 : M7.IsWhole)
    (M8 : Memref sig .tc .vmem S512x3840 .fp8e4m3) (h8 : M8.IsWhole)
    (M9 : Memref sig .tc .vmem S16x2048 .f32) (h9 : M9.IsWhole)
    (M10 : Memref sig .tc .vmem S2x512x3840 .bf16) (h10 : M10.IsWhole)
    (M11 : Memref sig .tc .vmem S512x128 .f32) (h11 : M11.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (E : Set ℕ) (Q : PUnit → sProp 𝕄) :
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11
          ∗ (iprop(pt c M1 f1 ∗ pt c M2 f2 ∗ pt c M3 f3 ∗ pt c M4 f4 ∗ pt c M5 f5 ∗ pt c M6 f6 ∗ pt c M7 (M7.view.writes (Elt F) M7.view.junk (runMid.sl.H7_15 c i M1 M2 M3 M4 M5 f1 f2 f3 f4 f5 ((cond2_iff i).mpr hi))) ∗ pt c M8 (M8.view.writes (Elt F) M8.view.junk (runMid.sl.H8_15 c i M1 M2 M3 M4 M5 M6 M10 M11 f1 f2 f3 f4 f5 f6 f10 f11 ((cond2_iff i).mpr hi))) ∗ pt c M9 (M9.view.writes (Elt F) f9 (runMid.sl.H9_1 c i M6 M10 M11 f6 f10 f11 ((cond2_iff i).mpr hi))) ∗ pt c M10 (M10.view.writes (Elt F) f10 (⟨Rect.unit (s := S2x512x3840) (k0_off32 i) S1x512x256.size (k0_off32_inb i ((cond2_iff i).mpr hi)), k0_pay113 (runMid.sl.v1008 c M1 M3 f1 f3) (runMid.sl.v113 c i M2 f2 ((cond2_iff i).mpr hi)) (View.readAt (Elt F) M4.view (Rect.unit (s := S1x3840) ![0, 3584] S1x256.size inb_S1x3840_S1x256_0_3584).toLoadRect f4) (View.readAt (Elt F) M5.view (Rect.unit (s := S512x3840) ![0, 3584] S512x256.size inb_S512x3840_S512x256_0_3584).toLoadRect f5)⟩ :: runMid.sl.H10_14 c i M1 M2 M3 M4 M5 f1 f2 f3 f4 f5 ((cond2_iff i).mpr hi))) ∗ pt c M11 (M11.view.writes (Elt F) M11.view.junk (runMid.sl.H11_1 c i M1 M2 M3 M4 M5 f1 f2 f3 f4 f5 ((cond2_iff i).mpr hi)))) -∗ Q ⟨⟩))
        ⊢ wp frame (wpE (defs₀ (F := F)) Variants.none c none) E
            (cc0_o_proj_rmsnorm_fp8 i M1 h1 M2 h2 M3 h3 M4 h4 M5 h5 M6 h6 M7 h7 M8 h8 M9 h9 M10 h10 M11 h11) Q := by
  have hc2 : k0_cond2 i = 1#1 := (cond2_iff i).mpr hi
  have hc3 : ¬ k0_cond3 i = 1#1 := fun h => absurd ((cond3_iff i).mp h) (by omega)
  have hc1 : ¬ (Scalar.cmpi .ne (Scalar.extui (Scalar.cmpi .eq (BitVec.ofNat 32 (i 0).val) 0#32)) 0#32 : BitVec 1) = 1#1 := fun h => absurd ((cond1_iff i).mp h) (by omega)
  iintro ⟨H1, H2, H3, H4, H5, H6, H7, H8, H9, H10, H11, Hk⟩
  sl_exec_parts!
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

set_option maxHeartbeats 16000000 in
set_option maxRecDepth 65536 in
/-- The body at the last point. -/
theorem lastVal (c : Dev nD) (i : grid0.Coords) (hi : (i 0).val = 64)
    (M1 : Memref sig .tc .vmem S512x4096 .fp8e4m3) (h1 : M1.IsWhole)
    (M2 : Memref sig .tc .vmem S16x2048 .f32) (h2 : M2.IsWhole)
    (M3 : Memref sig .tc .vmem S4096x3840 .fp8e4m3) (h3 : M3.IsWhole)
    (M4 : Memref sig .tc .vmem S1x3840 .f32) (h4 : M4.IsWhole)
    (M5 : Memref sig .tc .vmem S512x3840 .bf16) (h5 : M5.IsWhole)
    (M6 : Memref sig .tc .vmem S1x3840 .f32) (h6 : M6.IsWhole)
    (M7 : Memref sig .tc .vmem S512x3840 .bf16) (h7 : M7.IsWhole)
    (M8 : Memref sig .tc .vmem S512x3840 .fp8e4m3) (h8 : M8.IsWhole)
    (M9 : Memref sig .tc .vmem S16x2048 .f32) (h9 : M9.IsWhole)
    (M10 : Memref sig .tc .vmem S2x512x3840 .bf16) (h10 : M10.IsWhole)
    (M11 : Memref sig .tc .vmem S512x128 .f32) (h11 : M11.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (E : Set ℕ) (Q : PUnit → sProp 𝕄) :
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11
          ∗ (iprop(pt c M1 f1 ∗ pt c M2 f2 ∗ pt c M3 f3 ∗ pt c M4 f4 ∗ pt c M5 f5 ∗ pt c M6 f6 ∗ pt c M7 f7 ∗ pt c M8 (M8.view.writes (Elt F) M8.view.junk (runLast.sl.H8_15 c i M6 M10 M11 f6 f10 f11 ((cond3_iff i).mpr hi))) ∗ pt c M9 (M9.view.writes (Elt F) f9 (runLast.sl.H9_1 c i M6 M10 M11 f6 f10 f11 ((cond3_iff i).mpr hi))) ∗ (∃ f, pt c M10 f) ∗ (∃ f, pt c M11 f)) -∗ Q ⟨⟩))
        ⊢ wp frame (wpE (defs₀ (F := F)) Variants.none c none) E
            (cc0_o_proj_rmsnorm_fp8 i M1 h1 M2 h2 M3 h3 M4 h4 M5 h5 M6 h6 M7 h7 M8 h8 M9 h9 M10 h10 M11 h11) Q := by
  have hc2 : ¬ k0_cond2 i = 1#1 := fun h => absurd ((cond2_iff i).mp h) (by omega)
  have hc3 : k0_cond3 i = 1#1 := (cond3_iff i).mpr hi
  have hc1 : ¬ (Scalar.cmpi .ne (Scalar.extui (Scalar.cmpi .eq (BitVec.ofNat 32 (i 0).val) 0#32)) 0#32 : BitVec 1) = 1#1 := fun h => absurd ((cond1_iff i).mp h) (by omega)
  iintro ⟨H1, H2, H3, H4, H5, H6, H7, H8, H9, H10, H11, Hk⟩
  sl_exec_parts!
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iexists _; iexact H11

set_option maxHeartbeats 16000000 in
set_option maxRecDepth 65536 in
/-- The body at the first point. -/
theorem zeroVal (c : Dev nD) (i : grid0.Coords) (hi : (i 0).val = 0)
    (M1 : Memref sig .tc .vmem S512x4096 .fp8e4m3) (h1 : M1.IsWhole)
    (M2 : Memref sig .tc .vmem S16x2048 .f32) (h2 : M2.IsWhole)
    (M3 : Memref sig .tc .vmem S4096x3840 .fp8e4m3) (h3 : M3.IsWhole)
    (M4 : Memref sig .tc .vmem S1x3840 .f32) (h4 : M4.IsWhole)
    (M5 : Memref sig .tc .vmem S512x3840 .bf16) (h5 : M5.IsWhole)
    (M6 : Memref sig .tc .vmem S1x3840 .f32) (h6 : M6.IsWhole)
    (M7 : Memref sig .tc .vmem S512x3840 .bf16) (h7 : M7.IsWhole)
    (M8 : Memref sig .tc .vmem S512x3840 .fp8e4m3) (h8 : M8.IsWhole)
    (M9 : Memref sig .tc .vmem S16x2048 .f32) (h9 : M9.IsWhole)
    (M10 : Memref sig .tc .vmem S2x512x3840 .bf16) (h10 : M10.IsWhole)
    (M11 : Memref sig .tc .vmem S512x128 .f32) (h11 : M11.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (E : Set ℕ) (Q : PUnit → sProp 𝕄) :
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11
          ∗ (iprop(pt c M1 f1 ∗ pt c M2 f2 ∗ pt c M3 f3 ∗ pt c M4 f4 ∗ pt c M5 f5 ∗ pt c M6 f6 ∗ pt c M7 (M7.view.writes (Elt F) M7.view.junk (runMid.sl.H7_15 c i M1 M2 M3 M4 M5 f1 f2 f3 f4 f5 ((cond2_iff i).mpr (by omega)))) ∗ (∃ f, pt c M8 f) ∗ (∃ f, pt c M9 f) ∗ pt c M10 (M10.view.writes (Elt F) f10 (⟨Rect.unit (s := S2x512x3840) (k0_off32 i) S1x512x256.size (k0_off32_inb i ((cond2_iff i).mpr (by omega))), k0_pay113 (runMid.sl.v1008 c M1 M3 f1 f3) (runMid.sl.v113 c i M2 f2 ((cond2_iff i).mpr (by omega))) (View.readAt (Elt F) M4.view (Rect.unit (s := S1x3840) ![0, 3584] S1x256.size inb_S1x3840_S1x256_0_3584).toLoadRect f4) (View.readAt (Elt F) M5.view (Rect.unit (s := S512x3840) ![0, 3584] S512x256.size inb_S512x3840_S512x256_0_3584).toLoadRect f5)⟩ :: (runMid.sl.H10_14 c i M1 M2 M3 M4 M5 f1 f2 f3 f4 f5 ((cond2_iff i).mpr (by omega)) ++ runZero.sl.H10_1))) ∗ pt c M11 (M11.view.writes (Elt F) M11.view.junk (runMid.sl.H11_1 c i M1 M2 M3 M4 M5 f1 f2 f3 f4 f5 ((cond2_iff i).mpr (by omega)) ++ runZero.sl.H11_1))) -∗ Q ⟨⟩))
        ⊢ wp frame (wpE (defs₀ (F := F)) Variants.none c none) E
            (cc0_o_proj_rmsnorm_fp8 i M1 h1 M2 h2 M3 h3 M4 h4 M5 h5 M6 h6 M7 h7 M8 h8 M9 h9 M10 h10 M11 h11) Q := by
  have hc2 : k0_cond2 i = 1#1 := (cond2_iff i).mpr (by omega)
  have hc3 : ¬ k0_cond3 i = 1#1 := fun h => absurd ((cond3_iff i).mp h) (by omega)
  have hc1 : (Scalar.cmpi .ne (Scalar.extui (Scalar.cmpi .eq (BitVec.ofNat 32 (i 0).val) 0#32)) 0#32 : BitVec 1) = 1#1 := (cond1_iff i).mpr hi
  iintro ⟨H1, H2, H3, H4, H5, H6, H7, H8, H9, H10, H11, Hk⟩
  sl_exec_parts!
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexact H10
  iexact H11

end Cert.KernelIdeal.Hand

end
-- ==== Proof.HFacts.lean ====
/-
  What a point writes of the hidden state: the block, tile by tile, and its squares summed per lane.
-/
module

public import proofs.«01_k».proof.Proof.Pieces
public import proofs.«01_k».proof.Proof.RunVal

@[expose] public section

noncomputable section

namespace Cert.KernelIdeal.Hand

open Cert.KernelIdeal Cert.KernelIdeal.Gen Cert.Hand
open Idealize.ShloMosaic Idealize.ShloMosaic.TcCoe

variable (c : Dev nD) (i : grid0.Coords)
  (M1 : Memref sig .tc .vmem S512x4096 .fp8e4m3)  (M2 : Memref sig .tc .vmem S16x2048 .f32)  (M3 : Memref sig .tc .vmem S4096x3840 .fp8e4m3)  (M4 : Memref sig .tc .vmem S1x3840 .f32)  (M5 : Memref sig .tc .vmem S512x3840 .bf16)  (M6 : Memref sig .tc .vmem S1x3840 .f32)  (M10 : Memref sig .tc .vmem S2x512x3840 .bf16)  (M11 : Memref sig .tc .vmem S512x128 .f32)
 (f1 : Bf (F := Ideal) c M1) (f2 : Bf (F := Ideal) c M2) (f3 : Bf (F := Ideal) c M3) (f4 : Bf (F := Ideal) c M4) (f5 : Bf (F := Ideal) c M5) (f6 : Bf (F := Ideal) c M6) (f10 : Bf (F := Ideal) c M10) (f11 : Bf (F := Ideal) c M11)
  (hc2 : k0_cond2 i = 1#1)

/-- The block of the hidden state that the point works out. -/
def hM : FVec Ideal S512x3840 .bf16 :=
  hB (M1.view.read (Elt Ideal) f1) (M3.view.read (Elt Ideal) f3) (runMid.sl.r_1 (F := Ideal) c i M2 f2 hc2) (M4.view.read (Elt Ideal) f4) (M5.view.read (Elt Ideal) f5)

theorem hM_0 : runMid.sl.v123 (F := Ideal) c i M1 M2 M3 M4 M5 f1 f2 f3 f4 f5 hc2 = tile (hM c i M1 M2 M3 M4 M5 f1 f2 f3 f4 f5 hc2) 0 (by omega) :=
  (show runMid.sl.v123 (F := Ideal) c i M1 M2 M3 M4 M5 f1 f2 f3 f4 f5 hc2 = hT (M1.view.readAt (Elt Ideal) (Rect.unit (s := S512x4096) ![0, 0] S512x4096.size inb_S512x4096_S512x4096_0_0).toLoadRect f1) (M3.view.readAt (Elt Ideal) (Rect.unit (s := S4096x3840) ![0, 0] S4096x256.size inb_S4096x3840_S4096x256_0_0).toLoadRect f3) (runMid.sl.r_1 (F := Ideal) c i M2 f2 hc2) (M4.view.readAt (Elt Ideal) (Rect.unit (s := S1x3840) ![0, 0] S1x256.size inb_S1x3840_S1x256_0_0).toLoadRect f4) (M5.view.readAt (Elt Ideal) (Rect.unit (s := S512x3840) ![0, 0] S512x256.size inb_S512x3840_S512x256_0_0).toLoadRect f5) from rfl).trans
    (hT_tile M1.view f1 M3.view f3 _ M4.view f4 M5.view f5 0 (by omega) _ _ _ _)

theorem hM_1 : runMid.sl.v178 (F := Ideal) c i M1 M2 M3 M4 M5 f1 f2 f3 f4 f5 hc2 = tile (hM c i M1 M2 M3 M4 M5 f1 f2 f3 f4 f5 hc2) 256 (by omega) :=
  (show runMid.sl.v178 (F := Ideal) c i M1 M2 M3 M4 M5 f1 f2 f3 f4 f5 hc2 = hT (M1.view.readAt (Elt Ideal) (Rect.unit (s := S512x4096) ![0, 0] S512x4096.size inb_S512x4096_S512x4096_0_0).toLoadRect f1) (M3.view.readAt (Elt Ideal) (Rect.unit (s := S4096x3840) ![0, 256] S4096x256.size inb_S4096x3840_S4096x256_0_256).toLoadRect f3) (runMid.sl.r_1 (F := Ideal) c i M2 f2 hc2) (M4.view.readAt (Elt Ideal) (Rect.unit (s := S1x3840) ![0, 256] S1x256.size inb_S1x3840_S1x256_0_256).toLoadRect f4) (M5.view.readAt (Elt Ideal) (Rect.unit (s := S512x3840) ![0, 256] S512x256.size inb_S512x3840_S512x256_0_256).toLoadRect f5) from rfl).trans
    (hT_tile M1.view f1 M3.view f3 _ M4.view f4 M5.view f5 256 (by omega) _ _ _ _)

theorem hM_2 : runMid.sl.v234 (F := Ideal) c i M1 M2 M3 M4 M5 f1 f2 f3 f4 f5 hc2 = tile (hM c i M1 M2 M3 M4 M5 f1 f2 f3 f4 f5 hc2) 512 (by omega) :=
  (show runMid.sl.v234 (F := Ideal) c i M1 M2 M3 M4 M5 f1 f2 f3 f4 f5 hc2 = hT (M1.view.readAt (Elt Ideal) (Rect.unit (s := S512x4096) ![0, 0] S512x4096.size inb_S512x4096_S512x4096_0_0).toLoadRect f1) (M3.view.readAt (Elt Ideal) (Rect.unit (s := S4096x3840) ![0, 512] S4096x256.size inb_S4096x3840_S4096x256_0_512).toLoadRect f3) (runMid.sl.r_1 (F := Ideal) c i M2 f2 hc2) (M4.view.readAt (Elt Ideal) (Rect.unit (s := S1x3840) ![0, 512] S1x256.size inb_S1x3840_S1x256_0_512).toLoadRect f4) (M5.view.readAt (Elt Ideal) (Rect.unit (s := S512x3840) ![0, 512] S512x256.size inb_S512x3840_S512x256_0_512).toLoadRect f5) from rfl).trans
    (hT_tile M1.view f1 M3.view f3 _ M4.view f4 M5.view f5 512 (by omega) _ _ _ _)

theorem hM_3 : runMid.sl.v290 (F := Ideal) c i M1 M2 M3 M4 M5 f1 f2 f3 f4 f5 hc2 = tile (hM c i M1 M2 M3 M4 M5 f1 f2 f3 f4 f5 hc2) 768 (by omega) :=
  (show runMid.sl.v290 (F := Ideal) c i M1 M2 M3 M4 M5 f1 f2 f3 f4 f5 hc2 = hT (M1.view.readAt (Elt Ideal) (Rect.unit (s := S512x4096) ![0, 0] S512x4096.size inb_S512x4096_S512x4096_0_0).toLoadRect f1) (M3.view.readAt (Elt Ideal) (Rect.unit (s := S4096x3840) ![0, 768] S4096x256.size inb_S4096x3840_S4096x256_0_768).toLoadRect f3) (runMid.sl.r_1 (F := Ideal) c i M2 f2 hc2) (M4.view.readAt (Elt Ideal) (Rect.unit (s := S1x3840) ![0, 768] S1x256.size inb_S1x3840_S1x256_0_768).toLoadRect f4) (M5.view.readAt (Elt Ideal) (Rect.unit (s := S512x3840) ![0, 768] S512x256.size inb_S512x3840_S512x256_0_768).toLoadRect f5) from rfl).trans
    (hT_tile M1.view f1 M3.view f3 _ M4.view f4 M5.view f5 768 (by omega) _ _ _ _)

theorem hM_4 : runMid.sl.v346 (F := Ideal) c i M1 M2 M3 M4 M5 f1 f2 f3 f4 f5 hc2 = tile (hM c i M1 M2 M3 M4 M5 f1 f2 f3 f4 f5 hc2) 1024 (by omega) :=
  (show runMid.sl.v346 (F := Ideal) c i M1 M2 M3 M4 M5 f1 f2 f3 f4 f5 hc2 = hT (M1.view.readAt (Elt Ideal) (Rect.unit (s := S512x4096) ![0, 0] S512x4096.size inb_S512x4096_S512x4096_0_0).toLoadRect f1) (M3.view.readAt (Elt Ideal) (Rect.unit (s := S4096x3840) ![0, 1024] S4096x256.size inb_S4096x3840_S4096x256_0_1024).toLoadRect f3) (runMid.sl.r_1 (F := Ideal) c i M2 f2 hc2) (M4.view.readAt (Elt Ideal) (Rect.unit (s := S1x3840) ![0, 1024] S1x256.size inb_S1x3840_S1x256_0_1024).toLoadRect f4) (M5.view.readAt (Elt Ideal) (Rect.unit (s := S512x3840) ![0, 1024] S512x256.size inb_S512x3840_S512x256_0_1024).toLoadRect f5) from rfl).trans
    (hT_tile M1.view f1 M3.view f3 _ M4.view f4 M5.view f5 1024 (by omega) _ _ _ _)

theorem hM_5 : runMid.sl.v402 (F := Ideal) c i M1 M2 M3 M4 M5 f1 f2 f3 f4 f5 hc2 = tile (hM c i M1 M2 M3 M4 M5 f1 f2 f3 f4 f5 hc2) 1280 (by omega) :=
  (show runMid.sl.v402 (F := Ideal) c i M1 M2 M3 M4 M5 f1 f2 f3 f4 f5 hc2 = hT (M1.view.readAt (Elt Ideal) (Rect.unit (s := S512x4096) ![0, 0] S512x4096.size inb_S512x4096_S512x4096_0_0).toLoadRect f1) (M3.view.readAt (Elt Ideal) (Rect.unit (s := S4096x3840) ![0, 1280] S4096x256.size inb_S4096x3840_S4096x256_0_1280).toLoadRect f3) (runMid.sl.r_1 (F := Ideal) c i M2 f2 hc2) (M4.view.readAt (Elt Ideal) (Rect.unit (s := S1x3840) ![0, 1280] S1x256.size inb_S1x3840_S1x256_0_1280).toLoadRect f4) (M5.view.readAt (Elt Ideal) (Rect.unit (s := S512x3840) ![0, 1280] S512x256.size inb_S512x3840_S512x256_0_1280).toLoadRect f5) from rfl).trans
    (hT_tile M1.view f1 M3.view f3 _ M4.view f4 M5.view f5 1280 (by omega) _ _ _ _)

theorem hM_6 : runMid.sl.v458 (F := Ideal) c i M1 M2 M3 M4 M5 f1 f2 f3 f4 f5 hc2 = tile (hM c i M1 M2 M3 M4 M5 f1 f2 f3 f4 f5 hc2) 1536 (by omega) :=
  (show runMid.sl.v458 (F := Ideal) c i M1 M2 M3 M4 M5 f1 f2 f3 f4 f5 hc2 = hT (M1.view.readAt (Elt Ideal) (Rect.unit (s := S512x4096) ![0, 0] S512x4096.size inb_S512x4096_S512x4096_0_0).toLoadRect f1) (M3.view.readAt (Elt Ideal) (Rect.unit (s := S4096x3840) ![0, 1536] S4096x256.size inb_S4096x3840_S4096x256_0_1536).toLoadRect f3) (runMid.sl.r_1 (F := Ideal) c i M2 f2 hc2) (M4.view.readAt (Elt Ideal) (Rect.unit (s := S1x3840) ![0, 1536] S1x256.size inb_S1x3840_S1x256_0_1536).toLoadRect f4) (M5.view.readAt (Elt Ideal) (Rect.unit (s := S512x3840) ![0, 1536] S512x256.size inb_S512x3840_S512x256_0_1536).toLoadRect f5) from rfl).trans
    (hT_tile M1.view f1 M3.view f3 _ M4.view f4 M5.view f5 1536 (by omega) _ _ _ _)

theorem hM_7 : runMid.sl.v603 (F := Ideal) c i M1 M2 M3 M4 M5 f1 f2 f3 f4 f5 hc2 = tile (hM c i M1 M2 M3 M4 M5 f1 f2 f3 f4 f5 hc2) 1792 (by omega) :=
  (show runMid.sl.v603 (F := Ideal) c i M1 M2 M3 M4 M5 f1 f2 f3 f4 f5 hc2 = hT (M1.view.readAt (Elt Ideal) (Rect.unit (s := S512x4096) ![0, 0] S512x4096.size inb_S512x4096_S512x4096_0_0).toLoadRect f1) (M3.view.readAt (Elt Ideal) (Rect.unit (s := S4096x3840) ![0, 1792] S4096x256.size inb_S4096x3840_S4096x256_0_1792).toLoadRect f3) (runMid.sl.r_1 (F := Ideal) c i M2 f2 hc2) (M4.view.readAt (Elt Ideal) (Rect.unit (s := S1x3840) ![0, 1792] S1x256.size inb_S1x3840_S1x256_0_1792).toLoadRect f4) (M5.view.readAt (Elt Ideal) (Rect.unit (s := S512x3840) ![0, 1792] S512x256.size inb_S512x3840_S512x256_0_1792).toLoadRect f5) from rfl).trans
    (hT_tile M1.view f1 M3.view f3 _ M4.view f4 M5.view f5 1792 (by omega) _ _ _ _)

theorem hM_8 : runMid.sl.v683 (F := Ideal) c i M1 M2 M3 M4 M5 f1 f2 f3 f4 f5 hc2 = tile (hM c i M1 M2 M3 M4 M5 f1 f2 f3 f4 f5 hc2) 2048 (by omega) :=
  (show runMid.sl.v683 (F := Ideal) c i M1 M2 M3 M4 M5 f1 f2 f3 f4 f5 hc2 = hT (M1.view.readAt (Elt Ideal) (Rect.unit (s := S512x4096) ![0, 0] S512x4096.size inb_S512x4096_S512x4096_0_0).toLoadRect f1) (M3.view.readAt (Elt Ideal) (Rect.unit (s := S4096x3840) ![0, 2048] S4096x256.size inb_S4096x3840_S4096x256_0_2048).toLoadRect f3) (runMid.sl.r_1 (F := Ideal) c i M2 f2 hc2) (M4.view.readAt (Elt Ideal) (Rect.unit (s := S1x3840) ![0, 2048] S1x256.size inb_S1x3840_S1x256_0_2048).toLoadRect f4) (M5.view.readAt (Elt Ideal) (Rect.unit (s := S512x3840) ![0, 2048] S512x256.size inb_S512x3840_S512x256_0_2048).toLoadRect f5) from rfl).trans
    (hT_tile M1.view f1 M3.view f3 _ M4.view f4 M5.view f5 2048 (by omega) _ _ _ _)

theorem hM_9 : runMid.sl.v745 (F := Ideal) c i M1 M2 M3 M4 M5 f1 f2 f3 f4 f5 hc2 = tile (hM c i M1 M2 M3 M4 M5 f1 f2 f3 f4 f5 hc2) 2304 (by omega) :=
  (show runMid.sl.v745 (F := Ideal) c i M1 M2 M3 M4 M5 f1 f2 f3 f4 f5 hc2 = hT (M1.view.readAt (Elt Ideal) (Rect.unit (s := S512x4096) ![0, 0] S512x4096.size inb_S512x4096_S512x4096_0_0).toLoadRect f1) (M3.view.readAt (Elt Ideal) (Rect.unit (s := S4096x3840) ![0, 2304] S4096x256.size inb_S4096x3840_S4096x256_0_2304).toLoadRect f3) (runMid.sl.r_1 (F := Ideal) c i M2 f2 hc2) (M4.view.readAt (Elt Ideal) (Rect.unit (s := S1x3840) ![0, 2304] S1x256.size inb_S1x3840_S1x256_0_2304).toLoadRect f4) (M5.view.readAt (Elt Ideal) (Rect.unit (s := S512x3840) ![0, 2304] S512x256.size inb_S512x3840_S512x256_0_2304).toLoadRect f5) from rfl).trans
    (hT_tile M1.view f1 M3.view f3 _ M4.view f4 M5.view f5 2304 (by omega) _ _ _ _)

theorem hM_10 : runMid.sl.v807 (F := Ideal) c i M1 M2 M3 M4 M5 f1 f2 f3 f4 f5 hc2 = tile (hM c i M1 M2 M3 M4 M5 f1 f2 f3 f4 f5 hc2) 2560 (by omega) :=
  (show runMid.sl.v807 (F := Ideal) c i M1 M2 M3 M4 M5 f1 f2 f3 f4 f5 hc2 = hT (M1.view.readAt (Elt Ideal) (Rect.unit (s := S512x4096) ![0, 0] S512x4096.size inb_S512x4096_S512x4096_0_0).toLoadRect f1) (M3.view.readAt (Elt Ideal) (Rect.unit (s := S4096x3840) ![0, 2560] S4096x256.size inb_S4096x3840_S4096x256_0_2560).toLoadRect f3) (runMid.sl.r_1 (F := Ideal) c i M2 f2 hc2) (M4.view.readAt (Elt Ideal) (Rect.unit (s := S1x3840) ![0, 2560] S1x256.size inb_S1x3840_S1x256_0_2560).toLoadRect f4) (M5.view.readAt (Elt Ideal) (Rect.unit (s := S512x3840) ![0, 2560] S512x256.size inb_S512x3840_S512x256_0_2560).toLoadRect f5) from rfl).trans
    (hT_tile M1.view f1 M3.view f3 _ M4.view f4 M5.view f5 2560 (by omega) _ _ _ _)

theorem hM_11 : runMid.sl.v869 (F := Ideal) c i M1 M2 M3 M4 M5 f1 f2 f3 f4 f5 hc2 = tile (hM c i M1 M2 M3 M4 M5 f1 f2 f3 f4 f5 hc2) 2816 (by omega) :=
  (show runMid.sl.v869 (F := Ideal) c i M1 M2 M3 M4 M5 f1 f2 f3 f4 f5 hc2 = hT (M1.view.readAt (Elt Ideal) (Rect.unit (s := S512x4096) ![0, 0] S512x4096.size inb_S512x4096_S512x4096_0_0).toLoadRect f1) (M3.view.readAt (Elt Ideal) (Rect.unit (s := S4096x3840) ![0, 2816] S4096x256.size inb_S4096x3840_S4096x256_0_2816).toLoadRect f3) (runMid.sl.r_1 (F := Ideal) c i M2 f2 hc2) (M4.view.readAt (Elt Ideal) (Rect.unit (s := S1x3840) ![0, 2816] S1x256.size inb_S1x3840_S1x256_0_2816).toLoadRect f4) (M5.view.readAt (Elt Ideal) (Rect.unit (s := S512x3840) ![0, 2816] S512x256.size inb_S512x3840_S512x256_0_2816).toLoadRect f5) from rfl).trans
    (hT_tile M1.view f1 M3.view f3 _ M4.view f4 M5.view f5 2816 (by omega) _ _ _ _)

theorem hM_12 : runMid.sl.v931 (F := Ideal) c i M1 M2 M3 M4 M5 f1 f2 f3 f4 f5 hc2 = tile (hM c i M1 M2 M3 M4 M5 f1 f2 f3 f4 f5 hc2) 3072 (by omega) :=
  (show runMid.sl.v931 (F := Ideal) c i M1 M2 M3 M4 M5 f1 f2 f3 f4 f5 hc2 = hT (M1.view.readAt (Elt Ideal) (Rect.unit (s := S512x4096) ![0, 0] S512x4096.size inb_S512x4096_S512x4096_0_0).toLoadRect f1) (M3.view.readAt (Elt Ideal) (Rect.unit (s := S4096x3840) ![0, 3072] S4096x256.size inb_S4096x3840_S4096x256_0_3072).toLoadRect f3) (runMid.sl.r_1 (F := Ideal) c i M2 f2 hc2) (M4.view.readAt (Elt Ideal) (Rect.unit (s := S1x3840) ![0, 3072] S1x256.size inb_S1x3840_S1x256_0_3072).toLoadRect f4) (M5.view.readAt (Elt Ideal) (Rect.unit (s := S512x3840) ![0, 3072] S512x256.size inb_S512x3840_S512x256_0_3072).toLoadRect f5) from rfl).trans
    (hT_tile M1.view f1 M3.view f3 _ M4.view f4 M5.view f5 3072 (by omega) _ _ _ _)

theorem hM_13 : runMid.sl.v993 (F := Ideal) c i M1 M2 M3 M4 M5 f1 f2 f3 f4 f5 hc2 = tile (hM c i M1 M2 M3 M4 M5 f1 f2 f3 f4 f5 hc2) 3328 (by omega) :=
  (show runMid.sl.v993 (F := Ideal) c i M1 M2 M3 M4 M5 f1 f2 f3 f4 f5 hc2 = hT (M1.view.readAt (Elt Ideal) (Rect.unit (s := S512x4096) ![0, 0] S512x4096.size inb_S512x4096_S512x4096_0_0).toLoadRect f1) (M3.view.readAt (Elt Ideal) (Rect.unit (s := S4096x3840) ![0, 3328] S4096x256.size inb_S4096x3840_S4096x256_0_3328).toLoadRect f3) (runMid.sl.r_1 (F := Ideal) c i M2 f2 hc2) (M4.view.readAt (Elt Ideal) (Rect.unit (s := S1x3840) ![0, 3328] S1x256.size inb_S1x3840_S1x256_0_3328).toLoadRect f4) (M5.view.readAt (Elt Ideal) (Rect.unit (s := S512x3840) ![0, 3328] S512x256.size inb_S512x3840_S512x256_0_3328).toLoadRect f5) from rfl).trans
    (hT_tile M1.view f1 M3.view f3 _ M4.view f4 M5.view f5 3328 (by omega) _ _ _ _)

theorem hM_14 : k0_pay112 (F := Ideal) (runMid.sl.v1008 (F := Ideal) c M1 M3 f1 f3) (runMid.sl.v113 (F := Ideal) c i M2 f2 hc2) (M4.view.readAt (Elt Ideal) (Rect.unit (s := S1x3840) ![0, 3584] S1x256.size inb_S1x3840_S1x256_0_3584).toLoadRect f4) (M5.view.readAt (Elt Ideal) (Rect.unit (s := S512x3840) ![0, 3584] S512x256.size inb_S512x3840_S512x256_0_3584).toLoadRect f5) = tile (hM c i M1 M2 M3 M4 M5 f1 f2 f3 f4 f5 hc2) 3584 (by omega) :=
  (show k0_pay112 (F := Ideal) (runMid.sl.v1008 (F := Ideal) c M1 M3 f1 f3) (runMid.sl.v113 (F := Ideal) c i M2 f2 hc2) (M4.view.readAt (Elt Ideal) (Rect.unit (s := S1x3840) ![0, 3584] S1x256.size inb_S1x3840_S1x256_0_3584).toLoadRect f4) (M5.view.readAt (Elt Ideal) (Rect.unit (s := S512x3840) ![0, 3584] S512x256.size inb_S512x3840_S512x256_0_3584).toLoadRect f5) = hT (M1.view.readAt (Elt Ideal) (Rect.unit (s := S512x4096) ![0, 0] S512x4096.size inb_S512x4096_S512x4096_0_0).toLoadRect f1) (M3.view.readAt (Elt Ideal) (Rect.unit (s := S4096x3840) ![0, 3584] S4096x256.size inb_S4096x3840_S4096x256_0_3584).toLoadRect f3) (runMid.sl.r_1 (F := Ideal) c i M2 f2 hc2) (M4.view.readAt (Elt Ideal) (Rect.unit (s := S1x3840) ![0, 3584] S1x256.size inb_S1x3840_S1x256_0_3584).toLoadRect f4) (M5.view.readAt (Elt Ideal) (Rect.unit (s := S512x3840) ![0, 3584] S512x256.size inb_S512x3840_S512x256_0_3584).toLoadRect f5) from rfl).trans
    (hT_tile M1.view f1 M3.view f3 _ M4.view f4 M5.view f5 3584 (by omega) _ _ _ _)

set_option maxRecDepth 4000 in
theorem H7_tiles : ∃ S, TilesOf (runMid.sl.H7_15 (F := Ideal) c i M1 M2 M3 M4 M5 f1 f2 f3 f4 f5 hc2) (hM c i M1 M2 M3 M4 M5 f1 f2 f3 f4 f5 hc2) S ∧ ∀ c, c < 3840 → S c :=
  ⟨_, ((((((((((((((((TilesOf.nil _).cons 0 (by omega) inb_S512x3840_S512x256_0_0 _ (hM_0 c i M1 M2 M3 M4 M5 f1 f2 f3 f4 f5 hc2)).cons 256 (by omega) inb_S512x3840_S512x256_0_256 _ (hM_1 c i M1 M2 M3 M4 M5 f1 f2 f3 f4 f5 hc2)).cons 512 (by omega) inb_S512x3840_S512x256_0_512 _ (hM_2 c i M1 M2 M3 M4 M5 f1 f2 f3 f4 f5 hc2)).cons 768 (by omega) inb_S512x3840_S512x256_0_768 _ (hM_3 c i M1 M2 M3 M4 M5 f1 f2 f3 f4 f5 hc2)).cons 1024 (by omega) inb_S512x3840_S512x256_0_1024 _ (hM_4 c i M1 M2 M3 M4 M5 f1 f2 f3 f4 f5 hc2)).cons 1280 (by omega) inb_S512x3840_S512x256_0_1280 _ (hM_5 c i M1 M2 M3 M4 M5 f1 f2 f3 f4 f5 hc2)).cons 1536 (by omega) inb_S512x3840_S512x256_0_1536 _ (hM_6 c i M1 M2 M3 M4 M5 f1 f2 f3 f4 f5 hc2)).cons 1792 (by omega) inb_S512x3840_S512x256_0_1792 _ (hM_7 c i M1 M2 M3 M4 M5 f1 f2 f3 f4 f5 hc2)).cons 2048 (by omega) inb_S512x3840_S512x256_0_2048 _ (hM_8 c i M1 M2 M3 M4 M5 f1 f2 f3 f4 f5 hc2)).cons 2304 (by omega) inb_S512x3840_S512x256_0_2304 _ (hM_9 c i M1 M2 M3 M4 M5 f1 f2 f3 f4 f5 hc2)).cons 2560 (by omega) inb_S512x3840_S512x256_0_2560 _ (hM_10 c i M1 M2 M3 M4 M5 f1 f2 f3 f4 f5 hc2)).cons 2816 (by omega) inb_S512x3840_S512x256_0_2816 _ (hM_11 c i M1 M2 M3 M4 M5 f1 f2 f3 f4 f5 hc2)).cons 3072 (by omega) inb_S512x3840_S512x256_0_3072 _ (hM_12 c i M1 M2 M3 M4 M5 f1 f2 f3 f4 f5 hc2)).cons 3328 (by omega) inb_S512x3840_S512x256_0_3328 _ (hM_13 c i M1 M2 M3 M4 M5 f1 f2 f3 f4 f5 hc2)).cons 3584 (by omega) inb_S512x3840_S512x256_0_3584 _ (hM_14 c i M1 M2 M3 M4 M5 f1 f2 f3 f4 f5 hc2)), fun c hc => by omega⟩

theorem H10_8_slot : ∃ S, SlotTiles (runMid.sl.H10_8 (F := Ideal) c i M1 M2 M3 M4 M5 f1 f2 f3 f4 f5 hc2) (slotW i) (hM c i M1 M2 M3 M4 M5 f1 f2 f3 f4 f5 hc2) S :=
  ⟨_, (((((((((SlotTiles.nil (slotW i) _).cons (k0_off5 i) 0 (by omega) (off5_eq i) (k0_off5_inb i hc2) _ (hM_0 c i M1 M2 M3 M4 M5 f1 f2 f3 f4 f5 hc2)).cons (k0_off8 i) 256 (by omega) (off8_eq i) (k0_off8_inb i hc2) _ (hM_1 c i M1 M2 M3 M4 M5 f1 f2 f3 f4 f5 hc2)).cons (k0_off11 i) 512 (by omega) (off11_eq i) (k0_off11_inb i hc2) _ (hM_2 c i M1 M2 M3 M4 M5 f1 f2 f3 f4 f5 hc2)).cons (k0_off14 i) 768 (by omega) (off14_eq i) (k0_off14_inb i hc2) _ (hM_3 c i M1 M2 M3 M4 M5 f1 f2 f3 f4 f5 hc2)).cons (k0_off17 i) 1024 (by omega) (off17_eq i) (k0_off17_inb i hc2) _ (hM_4 c i M1 M2 M3 M4 M5 f1 f2 f3 f4 f5 hc2)).cons (k0_off20 i) 1280 (by omega) (off20_eq i) (k0_off20_inb i hc2) _ (hM_5 c i M1 M2 M3 M4 M5 f1 f2 f3 f4 f5 hc2)).cons (k0_off23 i) 1536 (by omega) (off23_eq i) (k0_off23_inb i hc2) _ (hM_6 c i M1 M2 M3 M4 M5 f1 f2 f3 f4 f5 hc2)).cons (k0_off25 i) 1792 (by omega) (off25_eq i) (k0_off25_inb i hc2) _ (hM_7 c i M1 M2 M3 M4 M5 f1 f2 f3 f4 f5 hc2))⟩

theorem H10_9_slot : ∃ S, SlotTiles (runMid.sl.H10_9 (F := Ideal) c i M1 M2 M3 M4 M5 f1 f2 f3 f4 f5 hc2) (slotW i) (hM c i M1 M2 M3 M4 M5 f1 f2 f3 f4 f5 hc2) S :=
  ⟨_, ((((((((((SlotTiles.nil (slotW i) _).cons (k0_off5 i) 0 (by omega) (off5_eq i) (k0_off5_inb i hc2) _ (hM_0 c i M1 M2 M3 M4 M5 f1 f2 f3 f4 f5 hc2)).cons (k0_off8 i) 256 (by omega) (off8_eq i) (k0_off8_inb i hc2) _ (hM_1 c i M1 M2 M3 M4 M5 f1 f2 f3 f4 f5 hc2)).cons (k0_off11 i) 512 (by omega) (off11_eq i) (k0_off11_inb i hc2) _ (hM_2 c i M1 M2 M3 M4 M5 f1 f2 f3 f4 f5 hc2)).cons (k0_off14 i) 768 (by omega) (off14_eq i) (k0_off14_inb i hc2) _ (hM_3 c i M1 M2 M3 M4 M5 f1 f2 f3 f4 f5 hc2)).cons (k0_off17 i) 1024 (by omega) (off17_eq i) (k0_off17_inb i hc2) _ (hM_4 c i M1 M2 M3 M4 M5 f1 f2 f3 f4 f5 hc2)).cons (k0_off20 i) 1280 (by omega) (off20_eq i) (k0_off20_inb i hc2) _ (hM_5 c i M1 M2 M3 M4 M5 f1 f2 f3 f4 f5 hc2)).cons (k0_off23 i) 1536 (by omega) (off23_eq i) (k0_off23_inb i hc2) _ (hM_6 c i M1 M2 M3 M4 M5 f1 f2 f3 f4 f5 hc2)).cons (k0_off25 i) 1792 (by omega) (off25_eq i) (k0_off25_inb i hc2) _ (hM_7 c i M1 M2 M3 M4 M5 f1 f2 f3 f4 f5 hc2)).cons (k0_off26 i) 2048 (by omega) (off26_eq i) (k0_off26_inb i hc2) _ (hM_8 c i M1 M2 M3 M4 M5 f1 f2 f3 f4 f5 hc2))⟩

theorem H10_10_slot : ∃ S, SlotTiles (runMid.sl.H10_10 (F := Ideal) c i M1 M2 M3 M4 M5 f1 f2 f3 f4 f5 hc2) (slotW i) (hM c i M1 M2 M3 M4 M5 f1 f2 f3 f4 f5 hc2) S :=
  ⟨_, (((((((((((SlotTiles.nil (slotW i) _).cons (k0_off5 i) 0 (by omega) (off5_eq i) (k0_off5_inb i hc2) _ (hM_0 c i M1 M2 M3 M4 M5 f1 f2 f3 f4 f5 hc2)).cons (k0_off8 i) 256 (by omega) (off8_eq i) (k0_off8_inb i hc2) _ (hM_1 c i M1 M2 M3 M4 M5 f1 f2 f3 f4 f5 hc2)).cons (k0_off11 i) 512 (by omega) (off11_eq i) (k0_off11_inb i hc2) _ (hM_2 c i M1 M2 M3 M4 M5 f1 f2 f3 f4 f5 hc2)).cons (k0_off14 i) 768 (by omega) (off14_eq i) (k0_off14_inb i hc2) _ (hM_3 c i M1 M2 M3 M4 M5 f1 f2 f3 f4 f5 hc2)).cons (k0_off17 i) 1024 (by omega) (off17_eq i) (k0_off17_inb i hc2) _ (hM_4 c i M1 M2 M3 M4 M5 f1 f2 f3 f4 f5 hc2)).cons (k0_off20 i) 1280 (by omega) (off20_eq i) (k0_off20_inb i hc2) _ (hM_5 c i M1 M2 M3 M4 M5 f1 f2 f3 f4 f5 hc2)).cons (k0_off23 i) 1536 (by omega) (off23_eq i) (k0_off23_inb i hc2) _ (hM_6 c i M1 M2 M3 M4 M5 f1 f2 f3 f4 f5 hc2)).cons (k0_off25 i) 1792 (by omega) (off25_eq i) (k0_off25_inb i hc2) _ (hM_7 c i M1 M2 M3 M4 M5 f1 f2 f3 f4 f5 hc2)).cons (k0_off26 i) 2048 (by omega) (off26_eq i) (k0_off26_inb i hc2) _ (hM_8 c i M1 M2 M3 M4 M5 f1 f2 f3 f4 f5 hc2)).cons (k0_off27 i) 2304 (by omega) (off27_eq i) (k0_off27_inb i hc2) _ (hM_9 c i M1 M2 M3 M4 M5 f1 f2 f3 f4 f5 hc2))⟩

theorem H10_11_slot : ∃ S, SlotTiles (runMid.sl.H10_11 (F := Ideal) c i M1 M2 M3 M4 M5 f1 f2 f3 f4 f5 hc2) (slotW i) (hM c i M1 M2 M3 M4 M5 f1 f2 f3 f4 f5 hc2) S :=
  ⟨_, ((((((((((((SlotTiles.nil (slotW i) _).cons (k0_off5 i) 0 (by omega) (off5_eq i) (k0_off5_inb i hc2) _ (hM_0 c i M1 M2 M3 M4 M5 f1 f2 f3 f4 f5 hc2)).cons (k0_off8 i) 256 (by omega) (off8_eq i) (k0_off8_inb i hc2) _ (hM_1 c i M1 M2 M3 M4 M5 f1 f2 f3 f4 f5 hc2)).cons (k0_off11 i) 512 (by omega) (off11_eq i) (k0_off11_inb i hc2) _ (hM_2 c i M1 M2 M3 M4 M5 f1 f2 f3 f4 f5 hc2)).cons (k0_off14 i) 768 (by omega) (off14_eq i) (k0_off14_inb i hc2) _ (hM_3 c i M1 M2 M3 M4 M5 f1 f2 f3 f4 f5 hc2)).cons (k0_off17 i) 1024 (by omega) (off17_eq i) (k0_off17_inb i hc2) _ (hM_4 c i M1 M2 M3 M4 M5 f1 f2 f3 f4 f5 hc2)).cons (k0_off20 i) 1280 (by omega) (off20_eq i) (k0_off20_inb i hc2) _ (hM_5 c i M1 M2 M3 M4 M5 f1 f2 f3 f4 f5 hc2)).cons (k0_off23 i) 1536 (by omega) (off23_eq i) (k0_off23_inb i hc2) _ (hM_6 c i M1 M2 M3 M4 M5 f1 f2 f3 f4 f5 hc2)).cons (k0_off25 i) 1792 (by omega) (off25_eq i) (k0_off25_inb i hc2) _ (hM_7 c i M1 M2 M3 M4 M5 f1 f2 f3 f4 f5 hc2)).cons (k0_off26 i) 2048 (by omega) (off26_eq i) (k0_off26_inb i hc2) _ (hM_8 c i M1 M2 M3 M4 M5 f1 f2 f3 f4 f5 hc2)).cons (k0_off27 i) 2304 (by omega) (off27_eq i) (k0_off27_inb i hc2) _ (hM_9 c i M1 M2 M3 M4 M5 f1 f2 f3 f4 f5 hc2)).cons (k0_off28 i) 2560 (by omega) (off28_eq i) (k0_off28_inb i hc2) _ (hM_10 c i M1 M2 M3 M4 M5 f1 f2 f3 f4 f5 hc2))⟩

theorem H10_12_slot : ∃ S, SlotTiles (runMid.sl.H10_12 (F := Ideal) c i M1 M2 M3 M4 M5 f1 f2 f3 f4 f5 hc2) (slotW i) (hM c i M1 M2 M3 M4 M5 f1 f2 f3 f4 f5 hc2) S :=
  ⟨_, (((((((((((((SlotTiles.nil (slotW i) _).cons (k0_off5 i) 0 (by omega) (off5_eq i) (k0_off5_inb i hc2) _ (hM_0 c i M1 M2 M3 M4 M5 f1 f2 f3 f4 f5 hc2)).cons (k0_off8 i) 256 (by omega) (off8_eq i) (k0_off8_inb i hc2) _ (hM_1 c i M1 M2 M3 M4 M5 f1 f2 f3 f4 f5 hc2)).cons (k0_off11 i) 512 (by omega) (off11_eq i) (k0_off11_inb i hc2) _ (hM_2 c i M1 M2 M3 M4 M5 f1 f2 f3 f4 f5 hc2)).cons (k0_off14 i) 768 (by omega) (off14_eq i) (k0_off14_inb i hc2) _ (hM_3 c i M1 M2 M3 M4 M5 f1 f2 f3 f4 f5 hc2)).cons (k0_off17 i) 1024 (by omega) (off17_eq i) (k0_off17_inb i hc2) _ (hM_4 c i M1 M2 M3 M4 M5 f1 f2 f3 f4 f5 hc2)).cons (k0_off20 i) 1280 (by omega) (off20_eq i) (k0_off20_inb i hc2) _ (hM_5 c i M1 M2 M3 M4 M5 f1 f2 f3 f4 f5 hc2)).cons (k0_off23 i) 1536 (by omega) (off23_eq i) (k0_off23_inb i hc2) _ (hM_6 c i M1 M2 M3 M4 M5 f1 f2 f3 f4 f5 hc2)).cons (k0_off25 i) 1792 (by omega) (off25_eq i) (k0_off25_inb i hc2) _ (hM_7 c i M1 M2 M3 M4 M5 f1 f2 f3 f4 f5 hc2)).cons (k0_off26 i) 2048 (by omega) (off26_eq i) (k0_off26_inb i hc2) _ (hM_8 c i M1 M2 M3 M4 M5 f1 f2 f3 f4 f5 hc2)).cons (k0_off27 i) 2304 (by omega) (off27_eq i) (k0_off27_inb i hc2) _ (hM_9 c i M1 M2 M3 M4 M5 f1 f2 f3 f4 f5 hc2)).cons (k0_off28 i) 2560 (by omega) (off28_eq i) (k0_off28_inb i hc2) _ (hM_10 c i M1 M2 M3 M4 M5 f1 f2 f3 f4 f5 hc2)).cons (k0_off29 i) 2816 (by omega) (off29_eq i) (k0_off29_inb i hc2) _ (hM_11 c i M1 M2 M3 M4 M5 f1 f2 f3 f4 f5 hc2))⟩

theorem H10_13_slot : ∃ S, SlotTiles (runMid.sl.H10_13 (F := Ideal) c i M1 M2 M3 M4 M5 f1 f2 f3 f4 f5 hc2) (slotW i) (hM c i M1 M2 M3 M4 M5 f1 f2 f3 f4 f5 hc2) S :=
  ⟨_, ((((((((((((((SlotTiles.nil (slotW i) _).cons (k0_off5 i) 0 (by omega) (off5_eq i) (k0_off5_inb i hc2) _ (hM_0 c i M1 M2 M3 M4 M5 f1 f2 f3 f4 f5 hc2)).cons (k0_off8 i) 256 (by omega) (off8_eq i) (k0_off8_inb i hc2) _ (hM_1 c i M1 M2 M3 M4 M5 f1 f2 f3 f4 f5 hc2)).cons (k0_off11 i) 512 (by omega) (off11_eq i) (k0_off11_inb i hc2) _ (hM_2 c i M1 M2 M3 M4 M5 f1 f2 f3 f4 f5 hc2)).cons (k0_off14 i) 768 (by omega) (off14_eq i) (k0_off14_inb i hc2) _ (hM_3 c i M1 M2 M3 M4 M5 f1 f2 f3 f4 f5 hc2)).cons (k0_off17 i) 1024 (by omega) (off17_eq i) (k0_off17_inb i hc2) _ (hM_4 c i M1 M2 M3 M4 M5 f1 f2 f3 f4 f5 hc2)).cons (k0_off20 i) 1280 (by omega) (off20_eq i) (k0_off20_inb i hc2) _ (hM_5 c i M1 M2 M3 M4 M5 f1 f2 f3 f4 f5 hc2)).cons (k0_off23 i) 1536 (by omega) (off23_eq i) (k0_off23_inb i hc2) _ (hM_6 c i M1 M2 M3 M4 M5 f1 f2 f3 f4 f5 hc2)).cons (k0_off25 i) 1792 (by omega) (off25_eq i) (k0_off25_inb i hc2) _ (hM_7 c i M1 M2 M3 M4 M5 f1 f2 f3 f4 f5 hc2)).cons (k0_off26 i) 2048 (by omega) (off26_eq i) (k0_off26_inb i hc2) _ (hM_8 c i M1 M2 M3 M4 M5 f1 f2 f3 f4 f5 hc2)).cons (k0_off27 i) 2304 (by omega) (off27_eq i) (k0_off27_inb i hc2) _ (hM_9 c i M1 M2 M3 M4 M5 f1 f2 f3 f4 f5 hc2)).cons (k0_off28 i) 2560 (by omega) (off28_eq i) (k0_off28_inb i hc2) _ (hM_10 c i M1 M2 M3 M4 M5 f1 f2 f3 f4 f5 hc2)).cons (k0_off29 i) 2816 (by omega) (off29_eq i) (k0_off29_inb i hc2) _ (hM_11 c i M1 M2 M3 M4 M5 f1 f2 f3 f4 f5 hc2)).cons (k0_off30 i) 3072 (by omega) (off30_eq i) (k0_off30_inb i hc2) _ (hM_12 c i M1 M2 M3 M4 M5 f1 f2 f3 f4 f5 hc2))⟩

theorem H10_14_slot : ∃ S, SlotTiles (runMid.sl.H10_14 (F := Ideal) c i M1 M2 M3 M4 M5 f1 f2 f3 f4 f5 hc2) (slotW i) (hM c i M1 M2 M3 M4 M5 f1 f2 f3 f4 f5 hc2) S :=
  ⟨_, (((((((((((((((SlotTiles.nil (slotW i) _).cons (k0_off5 i) 0 (by omega) (off5_eq i) (k0_off5_inb i hc2) _ (hM_0 c i M1 M2 M3 M4 M5 f1 f2 f3 f4 f5 hc2)).cons (k0_off8 i) 256 (by omega) (off8_eq i) (k0_off8_inb i hc2) _ (hM_1 c i M1 M2 M3 M4 M5 f1 f2 f3 f4 f5 hc2)).cons (k0_off11 i) 512 (by omega) (off11_eq i) (k0_off11_inb i hc2) _ (hM_2 c i M1 M2 M3 M4 M5 f1 f2 f3 f4 f5 hc2)).cons (k0_off14 i) 768 (by omega) (off14_eq i) (k0_off14_inb i hc2) _ (hM_3 c i M1 M2 M3 M4 M5 f1 f2 f3 f4 f5 hc2)).cons (k0_off17 i) 1024 (by omega) (off17_eq i) (k0_off17_inb i hc2) _ (hM_4 c i M1 M2 M3 M4 M5 f1 f2 f3 f4 f5 hc2)).cons (k0_off20 i) 1280 (by omega) (off20_eq i) (k0_off20_inb i hc2) _ (hM_5 c i M1 M2 M3 M4 M5 f1 f2 f3 f4 f5 hc2)).cons (k0_off23 i) 1536 (by omega) (off23_eq i) (k0_off23_inb i hc2) _ (hM_6 c i M1 M2 M3 M4 M5 f1 f2 f3 f4 f5 hc2)).cons (k0_off25 i) 1792 (by omega) (off25_eq i) (k0_off25_inb i hc2) _ (hM_7 c i M1 M2 M3 M4 M5 f1 f2 f3 f4 f5 hc2)).cons (k0_off26 i) 2048 (by omega) (off26_eq i) (k0_off26_inb i hc2) _ (hM_8 c i M1 M2 M3 M4 M5 f1 f2 f3 f4 f5 hc2)).cons (k0_off27 i) 2304 (by omega) (off27_eq i) (k0_off27_inb i hc2) _ (hM_9 c i M1 M2 M3 M4 M5 f1 f2 f3 f4 f5 hc2)).cons (k0_off28 i) 2560 (by omega) (off28_eq i) (k0_off28_inb i hc2) _ (hM_10 c i M1 M2 M3 M4 M5 f1 f2 f3 f4 f5 hc2)).cons (k0_off29 i) 2816 (by omega) (off29_eq i) (k0_off29_inb i hc2) _ (hM_11 c i M1 M2 M3 M4 M5 f1 f2 f3 f4 f5 hc2)).cons (k0_off30 i) 3072 (by omega) (off30_eq i) (k0_off30_inb i hc2) _ (hM_12 c i M1 M2 M3 M4 M5 f1 f2 f3 f4 f5 hc2)).cons (k0_off31 i) 3328 (by omega) (off31_eq i) (k0_off31_inb i hc2) _ (hM_13 c i M1 M2 M3 M4 M5 f1 f2 f3 f4 f5 hc2))⟩

theorem H10_15_slot : ∃ S, SlotTiles (⟨Rect.unit (s := S2x512x3840) (k0_off32 i) S1x512x256.size (k0_off32_inb i hc2), k0_pay113 (F := Ideal) (runMid.sl.v1008 (F := Ideal) c M1 M3 f1 f3) (runMid.sl.v113 (F := Ideal) c i M2 f2 hc2) (M4.view.readAt (Elt Ideal) (Rect.unit (s := S1x3840) ![0, 3584] S1x256.size inb_S1x3840_S1x256_0_3584).toLoadRect f4) (M5.view.readAt (Elt Ideal) (Rect.unit (s := S512x3840) ![0, 3584] S512x256.size inb_S512x3840_S512x256_0_3584).toLoadRect f5)⟩ :: runMid.sl.H10_14 (F := Ideal) c i M1 M2 M3 M4 M5 f1 f2 f3 f4 f5 hc2) (slotW i) (hM c i M1 M2 M3 M4 M5 f1 f2 f3 f4 f5 hc2) S ∧ ∀ c, c < 3840 → S c :=
  ⟨_, ((((((((((((((((SlotTiles.nil (slotW i) _).cons (k0_off5 i) 0 (by omega) (off5_eq i) (k0_off5_inb i hc2) _ (hM_0 c i M1 M2 M3 M4 M5 f1 f2 f3 f4 f5 hc2)).cons (k0_off8 i) 256 (by omega) (off8_eq i) (k0_off8_inb i hc2) _ (hM_1 c i M1 M2 M3 M4 M5 f1 f2 f3 f4 f5 hc2)).cons (k0_off11 i) 512 (by omega) (off11_eq i) (k0_off11_inb i hc2) _ (hM_2 c i M1 M2 M3 M4 M5 f1 f2 f3 f4 f5 hc2)).cons (k0_off14 i) 768 (by omega) (off14_eq i) (k0_off14_inb i hc2) _ (hM_3 c i M1 M2 M3 M4 M5 f1 f2 f3 f4 f5 hc2)).cons (k0_off17 i) 1024 (by omega) (off17_eq i) (k0_off17_inb i hc2) _ (hM_4 c i M1 M2 M3 M4 M5 f1 f2 f3 f4 f5 hc2)).cons (k0_off20 i) 1280 (by omega) (off20_eq i) (k0_off20_inb i hc2) _ (hM_5 c i M1 M2 M3 M4 M5 f1 f2 f3 f4 f5 hc2)).cons (k0_off23 i) 1536 (by omega) (off23_eq i) (k0_off23_inb i hc2) _ (hM_6 c i M1 M2 M3 M4 M5 f1 f2 f3 f4 f5 hc2)).cons (k0_off25 i) 1792 (by omega) (off25_eq i) (k0_off25_inb i hc2) _ (hM_7 c i M1 M2 M3 M4 M5 f1 f2 f3 f4 f5 hc2)).cons (k0_off26 i) 2048 (by omega) (off26_eq i) (k0_off26_inb i hc2) _ (hM_8 c i M1 M2 M3 M4 M5 f1 f2 f3 f4 f5 hc2)).cons (k0_off27 i) 2304 (by omega) (off27_eq i) (k0_off27_inb i hc2) _ (hM_9 c i M1 M2 M3 M4 M5 f1 f2 f3 f4 f5 hc2)).cons (k0_off28 i) 2560 (by omega) (off28_eq i) (k0_off28_inb i hc2) _ (hM_10 c i M1 M2 M3 M4 M5 f1 f2 f3 f4 f5 hc2)).cons (k0_off29 i) 2816 (by omega) (off29_eq i) (k0_off29_inb i hc2) _ (hM_11 c i M1 M2 M3 M4 M5 f1 f2 f3 f4 f5 hc2)).cons (k0_off30 i) 3072 (by omega) (off30_eq i) (k0_off30_inb i hc2) _ (hM_12 c i M1 M2 M3 M4 M5 f1 f2 f3 f4 f5 hc2)).cons (k0_off31 i) 3328 (by omega) (off31_eq i) (k0_off31_inb i hc2) _ (hM_13 c i M1 M2 M3 M4 M5 f1 f2 f3 f4 f5 hc2)).cons (k0_off32 i) 3584 (by omega) (off32_eq i) (k0_off32_inb i hc2) _ (hM_14 c i M1 M2 M3 M4 M5 f1 f2 f3 f4 f5 hc2)), fun c hc => by omega⟩

theorem pay3_eq (x : FVec Ideal S512x128 .f32) : k0_pay3 x = x := by
  funext y
  obtain ⟨j, l, rfl⟩ : ∃ (j : Fin 512) (l : Fin 128), y = ix2 j l := ⟨y 0, y 1, eq_ix2 y⟩
  pointwise [k0_pay3]

theorem ss_0 : runMid.sl.v133 (F := Ideal) c i M1 M2 M3 M4 M5 f1 f2 f3 f4 f5 hc2 = sqT (tile (hM c i M1 M2 M3 M4 M5 f1 f2 f3 f4 f5 hc2) 0 (by omega)) :=
  (show runMid.sl.v133 (F := Ideal) c i M1 M2 M3 M4 M5 f1 f2 f3 f4 f5 hc2 = sqT (runMid.sl.v123 (F := Ideal) c i M1 M2 M3 M4 M5 f1 f2 f3 f4 f5 hc2) from rfl).trans (by rw [hM_0])

theorem ss_1 : runMid.sl.v189 (F := Ideal) c i M1 M2 M3 M4 M5 f1 f2 f3 f4 f5 hc2 = addf (sqT (tile (hM c i M1 M2 M3 M4 M5 f1 f2 f3 f4 f5 hc2) 0 (by omega))) (sqT (tile (hM c i M1 M2 M3 M4 M5 f1 f2 f3 f4 f5 hc2) 256 (by omega))) :=
  (show runMid.sl.v189 (F := Ideal) c i M1 M2 M3 M4 M5 f1 f2 f3 f4 f5 hc2 = addf (runMid.sl.v133 (F := Ideal) c i M1 M2 M3 M4 M5 f1 f2 f3 f4 f5 hc2) (sqT (runMid.sl.v178 (F := Ideal) c i M1 M2 M3 M4 M5 f1 f2 f3 f4 f5 hc2)) from rfl).trans (by rw [ss_0, hM_1])

theorem ss_2 : runMid.sl.v245 (F := Ideal) c i M1 M2 M3 M4 M5 f1 f2 f3 f4 f5 hc2 = addf (addf (sqT (tile (hM c i M1 M2 M3 M4 M5 f1 f2 f3 f4 f5 hc2) 0 (by omega))) (sqT (tile (hM c i M1 M2 M3 M4 M5 f1 f2 f3 f4 f5 hc2) 256 (by omega)))) (sqT (tile (hM c i M1 M2 M3 M4 M5 f1 f2 f3 f4 f5 hc2) 512 (by omega))) :=
  (show runMid.sl.v245 (F := Ideal) c i M1 M2 M3 M4 M5 f1 f2 f3 f4 f5 hc2 = addf (runMid.sl.v189 (F := Ideal) c i M1 M2 M3 M4 M5 f1 f2 f3 f4 f5 hc2) (sqT (runMid.sl.v234 (F := Ideal) c i M1 M2 M3 M4 M5 f1 f2 f3 f4 f5 hc2)) from rfl).trans (by rw [ss_1, hM_2])

theorem ss_3 : runMid.sl.v301 (F := Ideal) c i M1 M2 M3 M4 M5 f1 f2 f3 f4 f5 hc2 = addf (addf (addf (sqT (tile (hM c i M1 M2 M3 M4 M5 f1 f2 f3 f4 f5 hc2) 0 (by omega))) (sqT (tile (hM c i M1 M2 M3 M4 M5 f1 f2 f3 f4 f5 hc2) 256 (by omega)))) (sqT (tile (hM c i M1 M2 M3 M4 M5 f1 f2 f3 f4 f5 hc2) 512 (by omega)))) (sqT (tile (hM c i M1 M2 M3 M4 M5 f1 f2 f3 f4 f5 hc2) 768 (by omega))) :=
  (show runMid.sl.v301 (F := Ideal) c i M1 M2 M3 M4 M5 f1 f2 f3 f4 f5 hc2 = addf (runMid.sl.v245 (F := Ideal) c i M1 M2 M3 M4 M5 f1 f2 f3 f4 f5 hc2) (sqT (runMid.sl.v290 (F := Ideal) c i M1 M2 M3 M4 M5 f1 f2 f3 f4 f5 hc2)) from rfl).trans (by rw [ss_2, hM_3])

theorem ss_4 : runMid.sl.v357 (F := Ideal) c i M1 M2 M3 M4 M5 f1 f2 f3 f4 f5 hc2 = addf (addf (addf (addf (sqT (tile (hM c i M1 M2 M3 M4 M5 f1 f2 f3 f4 f5 hc2) 0 (by omega))) (sqT (tile (hM c i M1 M2 M3 M4 M5 f1 f2 f3 f4 f5 hc2) 256 (by omega)))) (sqT (tile (hM c i M1 M2 M3 M4 M5 f1 f2 f3 f4 f5 hc2) 512 (by omega)))) (sqT (tile (hM c i M1 M2 M3 M4 M5 f1 f2 f3 f4 f5 hc2) 768 (by omega)))) (sqT (tile (hM c i M1 M2 M3 M4 M5 f1 f2 f3 f4 f5 hc2) 1024 (by omega))) :=
  (show runMid.sl.v357 (F := Ideal) c i M1 M2 M3 M4 M5 f1 f2 f3 f4 f5 hc2 = addf (runMid.sl.v301 (F := Ideal) c i M1 M2 M3 M4 M5 f1 f2 f3 f4 f5 hc2) (sqT (runMid.sl.v346 (F := Ideal) c i M1 M2 M3 M4 M5 f1 f2 f3 f4 f5 hc2)) from rfl).trans (by rw [ss_3, hM_4])

theorem ss_5 : runMid.sl.v413 (F := Ideal) c i M1 M2 M3 M4 M5 f1 f2 f3 f4 f5 hc2 = addf (addf (addf (addf (addf (sqT (tile (hM c i M1 M2 M3 M4 M5 f1 f2 f3 f4 f5 hc2) 0 (by omega))) (sqT (tile (hM c i M1 M2 M3 M4 M5 f1 f2 f3 f4 f5 hc2) 256 (by omega)))) (sqT (tile (hM c i M1 M2 M3 M4 M5 f1 f2 f3 f4 f5 hc2) 512 (by omega)))) (sqT (tile (hM c i M1 M2 M3 M4 M5 f1 f2 f3 f4 f5 hc2) 768 (by omega)))) (sqT (tile (hM c i M1 M2 M3 M4 M5 f1 f2 f3 f4 f5 hc2) 1024 (by omega)))) (sqT (tile (hM c i M1 M2 M3 M4 M5 f1 f2 f3 f4 f5 hc2) 1280 (by omega))) :=
  (show runMid.sl.v413 (F := Ideal) c i M1 M2 M3 M4 M5 f1 f2 f3 f4 f5 hc2 = addf (runMid.sl.v357 (F := Ideal) c i M1 M2 M3 M4 M5 f1 f2 f3 f4 f5 hc2) (sqT (runMid.sl.v402 (F := Ideal) c i M1 M2 M3 M4 M5 f1 f2 f3 f4 f5 hc2)) from rfl).trans (by rw [ss_4, hM_5])

theorem ss_6 : runMid.sl.v469 (F := Ideal) c i M1 M2 M3 M4 M5 f1 f2 f3 f4 f5 hc2 = addf (addf (addf (addf (addf (addf (sqT (tile (hM c i M1 M2 M3 M4 M5 f1 f2 f3 f4 f5 hc2) 0 (by omega))) (sqT (tile (hM c i M1 M2 M3 M4 M5 f1 f2 f3 f4 f5 hc2) 256 (by omega)))) (sqT (tile (hM c i M1 M2 M3 M4 M5 f1 f2 f3 f4 f5 hc2) 512 (by omega)))) (sqT (tile (hM c i M1 M2 M3 M4 M5 f1 f2 f3 f4 f5 hc2) 768 (by omega)))) (sqT (tile (hM c i M1 M2 M3 M4 M5 f1 f2 f3 f4 f5 hc2) 1024 (by omega)))) (sqT (tile (hM c i M1 M2 M3 M4 M5 f1 f2 f3 f4 f5 hc2) 1280 (by omega)))) (sqT (tile (hM c i M1 M2 M3 M4 M5 f1 f2 f3 f4 f5 hc2) 1536 (by omega))) :=
  (show runMid.sl.v469 (F := Ideal) c i M1 M2 M3 M4 M5 f1 f2 f3 f4 f5 hc2 = addf (runMid.sl.v413 (F := Ideal) c i M1 M2 M3 M4 M5 f1 f2 f3 f4 f5 hc2) (sqT (runMid.sl.v458 (F := Ideal) c i M1 M2 M3 M4 M5 f1 f2 f3 f4 f5 hc2)) from rfl).trans (by rw [ss_5, hM_6])

theorem ss_7 : runMid.sl.v614 (F := Ideal) c i M1 M2 M3 M4 M5 f1 f2 f3 f4 f5 hc2 = addf (addf (addf (addf (addf (addf (addf (sqT (tile (hM c i M1 M2 M3 M4 M5 f1 f2 f3 f4 f5 hc2) 0 (by omega))) (sqT (tile (hM c i M1 M2 M3 M4 M5 f1 f2 f3 f4 f5 hc2) 256 (by omega)))) (sqT (tile (hM c i M1 M2 M3 M4 M5 f1 f2 f3 f4 f5 hc2) 512 (by omega)))) (sqT (tile (hM c i M1 M2 M3 M4 M5 f1 f2 f3 f4 f5 hc2) 768 (by omega)))) (sqT (tile (hM c i M1 M2 M3 M4 M5 f1 f2 f3 f4 f5 hc2) 1024 (by omega)))) (sqT (tile (hM c i M1 M2 M3 M4 M5 f1 f2 f3 f4 f5 hc2) 1280 (by omega)))) (sqT (tile (hM c i M1 M2 M3 M4 M5 f1 f2 f3 f4 f5 hc2) 1536 (by omega)))) (sqT (tile (hM c i M1 M2 M3 M4 M5 f1 f2 f3 f4 f5 hc2) 1792 (by omega))) :=
  (show runMid.sl.v614 (F := Ideal) c i M1 M2 M3 M4 M5 f1 f2 f3 f4 f5 hc2 = addf (runMid.sl.v469 (F := Ideal) c i M1 M2 M3 M4 M5 f1 f2 f3 f4 f5 hc2) (sqT (runMid.sl.v603 (F := Ideal) c i M1 M2 M3 M4 M5 f1 f2 f3 f4 f5 hc2)) from rfl).trans (by rw [ss_6, hM_7])

theorem ss_8 : runMid.sl.v694 (F := Ideal) c i M1 M2 M3 M4 M5 f1 f2 f3 f4 f5 hc2 = addf (addf (addf (addf (addf (addf (addf (addf (sqT (tile (hM c i M1 M2 M3 M4 M5 f1 f2 f3 f4 f5 hc2) 0 (by omega))) (sqT (tile (hM c i M1 M2 M3 M4 M5 f1 f2 f3 f4 f5 hc2) 256 (by omega)))) (sqT (tile (hM c i M1 M2 M3 M4 M5 f1 f2 f3 f4 f5 hc2) 512 (by omega)))) (sqT (tile (hM c i M1 M2 M3 M4 M5 f1 f2 f3 f4 f5 hc2) 768 (by omega)))) (sqT (tile (hM c i M1 M2 M3 M4 M5 f1 f2 f3 f4 f5 hc2) 1024 (by omega)))) (sqT (tile (hM c i M1 M2 M3 M4 M5 f1 f2 f3 f4 f5 hc2) 1280 (by omega)))) (sqT (tile (hM c i M1 M2 M3 M4 M5 f1 f2 f3 f4 f5 hc2) 1536 (by omega)))) (sqT (tile (hM c i M1 M2 M3 M4 M5 f1 f2 f3 f4 f5 hc2) 1792 (by omega)))) (sqT (tile (hM c i M1 M2 M3 M4 M5 f1 f2 f3 f4 f5 hc2) 2048 (by omega))) :=
  (show runMid.sl.v694 (F := Ideal) c i M1 M2 M3 M4 M5 f1 f2 f3 f4 f5 hc2 = addf (runMid.sl.v614 (F := Ideal) c i M1 M2 M3 M4 M5 f1 f2 f3 f4 f5 hc2) (sqT (runMid.sl.v683 (F := Ideal) c i M1 M2 M3 M4 M5 f1 f2 f3 f4 f5 hc2)) from rfl).trans (by rw [ss_7, hM_8])

theorem ss_9 : runMid.sl.v756 (F := Ideal) c i M1 M2 M3 M4 M5 f1 f2 f3 f4 f5 hc2 = addf (addf (addf (addf (addf (addf (addf (addf (addf (sqT (tile (hM c i M1 M2 M3 M4 M5 f1 f2 f3 f4 f5 hc2) 0 (by omega))) (sqT (tile (hM c i M1 M2 M3 M4 M5 f1 f2 f3 f4 f5 hc2) 256 (by omega)))) (sqT (tile (hM c i M1 M2 M3 M4 M5 f1 f2 f3 f4 f5 hc2) 512 (by omega)))) (sqT (tile (hM c i M1 M2 M3 M4 M5 f1 f2 f3 f4 f5 hc2) 768 (by omega)))) (sqT (tile (hM c i M1 M2 M3 M4 M5 f1 f2 f3 f4 f5 hc2) 1024 (by omega)))) (sqT (tile (hM c i M1 M2 M3 M4 M5 f1 f2 f3 f4 f5 hc2) 1280 (by omega)))) (sqT (tile (hM c i M1 M2 M3 M4 M5 f1 f2 f3 f4 f5 hc2) 1536 (by omega)))) (sqT (tile (hM c i M1 M2 M3 M4 M5 f1 f2 f3 f4 f5 hc2) 1792 (by omega)))) (sqT (tile (hM c i M1 M2 M3 M4 M5 f1 f2 f3 f4 f5 hc2) 2048 (by omega)))) (sqT (tile (hM c i M1 M2 M3 M4 M5 f1 f2 f3 f4 f5 hc2) 2304 (by omega))) :=
  (show runMid.sl.v756 (F := Ideal) c i M1 M2 M3 M4 M5 f1 f2 f3 f4 f5 hc2 = addf (runMid.sl.v694 (F := Ideal) c i M1 M2 M3 M4 M5 f1 f2 f3 f4 f5 hc2) (sqT (runMid.sl.v745 (F := Ideal) c i M1 M2 M3 M4 M5 f1 f2 f3 f4 f5 hc2)) from rfl).trans (by rw [ss_8, hM_9])

theorem ss_10 : runMid.sl.v818 (F := Ideal) c i M1 M2 M3 M4 M5 f1 f2 f3 f4 f5 hc2 = addf (addf (addf (addf (addf (addf (addf (addf (addf (addf (sqT (tile (hM c i M1 M2 M3 M4 M5 f1 f2 f3 f4 f5 hc2) 0 (by omega))) (sqT (tile (hM c i M1 M2 M3 M4 M5 f1 f2 f3 f4 f5 hc2) 256 (by omega)))) (sqT (tile (hM c i M1 M2 M3 M4 M5 f1 f2 f3 f4 f5 hc2) 512 (by omega)))) (sqT (tile (hM c i M1 M2 M3 M4 M5 f1 f2 f3 f4 f5 hc2) 768 (by omega)))) (sqT (tile (hM c i M1 M2 M3 M4 M5 f1 f2 f3 f4 f5 hc2) 1024 (by omega)))) (sqT (tile (hM c i M1 M2 M3 M4 M5 f1 f2 f3 f4 f5 hc2) 1280 (by omega)))) (sqT (tile (hM c i M1 M2 M3 M4 M5 f1 f2 f3 f4 f5 hc2) 1536 (by omega)))) (sqT (tile (hM c i M1 M2 M3 M4 M5 f1 f2 f3 f4 f5 hc2) 1792 (by omega)))) (sqT (tile (hM c i M1 M2 M3 M4 M5 f1 f2 f3 f4 f5 hc2) 2048 (by omega)))) (sqT (tile (hM c i M1 M2 M3 M4 M5 f1 f2 f3 f4 f5 hc2) 2304 (by omega)))) (sqT (tile (hM c i M1 M2 M3 M4 M5 f1 f2 f3 f4 f5 hc2) 2560 (by omega))) :=
  (show runMid.sl.v818 (F := Ideal) c i M1 M2 M3 M4 M5 f1 f2 f3 f4 f5 hc2 = addf (runMid.sl.v756 (F := Ideal) c i M1 M2 M3 M4 M5 f1 f2 f3 f4 f5 hc2) (sqT (runMid.sl.v807 (F := Ideal) c i M1 M2 M3 M4 M5 f1 f2 f3 f4 f5 hc2)) from rfl).trans (by rw [ss_9, hM_10])

theorem ss_11 : runMid.sl.v880 (F := Ideal) c i M1 M2 M3 M4 M5 f1 f2 f3 f4 f5 hc2 = addf (addf (addf (addf (addf (addf (addf (addf (addf (addf (addf (sqT (tile (hM c i M1 M2 M3 M4 M5 f1 f2 f3 f4 f5 hc2) 0 (by omega))) (sqT (tile (hM c i M1 M2 M3 M4 M5 f1 f2 f3 f4 f5 hc2) 256 (by omega)))) (sqT (tile (hM c i M1 M2 M3 M4 M5 f1 f2 f3 f4 f5 hc2) 512 (by omega)))) (sqT (tile (hM c i M1 M2 M3 M4 M5 f1 f2 f3 f4 f5 hc2) 768 (by omega)))) (sqT (tile (hM c i M1 M2 M3 M4 M5 f1 f2 f3 f4 f5 hc2) 1024 (by omega)))) (sqT (tile (hM c i M1 M2 M3 M4 M5 f1 f2 f3 f4 f5 hc2) 1280 (by omega)))) (sqT (tile (hM c i M1 M2 M3 M4 M5 f1 f2 f3 f4 f5 hc2) 1536 (by omega)))) (sqT (tile (hM c i M1 M2 M3 M4 M5 f1 f2 f3 f4 f5 hc2) 1792 (by omega)))) (sqT (tile (hM c i M1 M2 M3 M4 M5 f1 f2 f3 f4 f5 hc2) 2048 (by omega)))) (sqT (tile (hM c i M1 M2 M3 M4 M5 f1 f2 f3 f4 f5 hc2) 2304 (by omega)))) (sqT (tile (hM c i M1 M2 M3 M4 M5 f1 f2 f3 f4 f5 hc2) 2560 (by omega)))) (sqT (tile (hM c i M1 M2 M3 M4 M5 f1 f2 f3 f4 f5 hc2) 2816 (by omega))) :=
  (show runMid.sl.v880 (F := Ideal) c i M1 M2 M3 M4 M5 f1 f2 f3 f4 f5 hc2 = addf (runMid.sl.v818 (F := Ideal) c i M1 M2 M3 M4 M5 f1 f2 f3 f4 f5 hc2) (sqT (runMid.sl.v869 (F := Ideal) c i M1 M2 M3 M4 M5 f1 f2 f3 f4 f5 hc2)) from rfl).trans (by rw [ss_10, hM_11])

theorem ss_12 : runMid.sl.v942 (F := Ideal) c i M1 M2 M3 M4 M5 f1 f2 f3 f4 f5 hc2 = addf (addf (addf (addf (addf (addf (addf (addf (addf (addf (addf (addf (sqT (tile (hM c i M1 M2 M3 M4 M5 f1 f2 f3 f4 f5 hc2) 0 (by omega))) (sqT (tile (hM c i M1 M2 M3 M4 M5 f1 f2 f3 f4 f5 hc2) 256 (by omega)))) (sqT (tile (hM c i M1 M2 M3 M4 M5 f1 f2 f3 f4 f5 hc2) 512 (by omega)))) (sqT (tile (hM c i M1 M2 M3 M4 M5 f1 f2 f3 f4 f5 hc2) 768 (by omega)))) (sqT (tile (hM c i M1 M2 M3 M4 M5 f1 f2 f3 f4 f5 hc2) 1024 (by omega)))) (sqT (tile (hM c i M1 M2 M3 M4 M5 f1 f2 f3 f4 f5 hc2) 1280 (by omega)))) (sqT (tile (hM c i M1 M2 M3 M4 M5 f1 f2 f3 f4 f5 hc2) 1536 (by omega)))) (sqT (tile (hM c i M1 M2 M3 M4 M5 f1 f2 f3 f4 f5 hc2) 1792 (by omega)))) (sqT (tile (hM c i M1 M2 M3 M4 M5 f1 f2 f3 f4 f5 hc2) 2048 (by omega)))) (sqT (tile (hM c i M1 M2 M3 M4 M5 f1 f2 f3 f4 f5 hc2) 2304 (by omega)))) (sqT (tile (hM c i M1 M2 M3 M4 M5 f1 f2 f3 f4 f5 hc2) 2560 (by omega)))) (sqT (tile (hM c i M1 M2 M3 M4 M5 f1 f2 f3 f4 f5 hc2) 2816 (by omega)))) (sqT (tile (hM c i M1 M2 M3 M4 M5 f1 f2 f3 f4 f5 hc2) 3072 (by omega))) :=
  (show runMid.sl.v942 (F := Ideal) c i M1 M2 M3 M4 M5 f1 f2 f3 f4 f5 hc2 = addf (runMid.sl.v880 (F := Ideal) c i M1 M2 M3 M4 M5 f1 f2 f3 f4 f5 hc2) (sqT (runMid.sl.v931 (F := Ideal) c i M1 M2 M3 M4 M5 f1 f2 f3 f4 f5 hc2)) from rfl).trans (by rw [ss_11, hM_12])

theorem ss_13 : runMid.sl.v1004 (F := Ideal) c i M1 M2 M3 M4 M5 f1 f2 f3 f4 f5 hc2 = addf (addf (addf (addf (addf (addf (addf (addf (addf (addf (addf (addf (addf (sqT (tile (hM c i M1 M2 M3 M4 M5 f1 f2 f3 f4 f5 hc2) 0 (by omega))) (sqT (tile (hM c i M1 M2 M3 M4 M5 f1 f2 f3 f4 f5 hc2) 256 (by omega)))) (sqT (tile (hM c i M1 M2 M3 M4 M5 f1 f2 f3 f4 f5 hc2) 512 (by omega)))) (sqT (tile (hM c i M1 M2 M3 M4 M5 f1 f2 f3 f4 f5 hc2) 768 (by omega)))) (sqT (tile (hM c i M1 M2 M3 M4 M5 f1 f2 f3 f4 f5 hc2) 1024 (by omega)))) (sqT (tile (hM c i M1 M2 M3 M4 M5 f1 f2 f3 f4 f5 hc2) 1280 (by omega)))) (sqT (tile (hM c i M1 M2 M3 M4 M5 f1 f2 f3 f4 f5 hc2) 1536 (by omega)))) (sqT (tile (hM c i M1 M2 M3 M4 M5 f1 f2 f3 f4 f5 hc2) 1792 (by omega)))) (sqT (tile (hM c i M1 M2 M3 M4 M5 f1 f2 f3 f4 f5 hc2) 2048 (by omega)))) (sqT (tile (hM c i M1 M2 M3 M4 M5 f1 f2 f3 f4 f5 hc2) 2304 (by omega)))) (sqT (tile (hM c i M1 M2 M3 M4 M5 f1 f2 f3 f4 f5 hc2) 2560 (by omega)))) (sqT (tile (hM c i M1 M2 M3 M4 M5 f1 f2 f3 f4 f5 hc2) 2816 (by omega)))) (sqT (tile (hM c i M1 M2 M3 M4 M5 f1 f2 f3 f4 f5 hc2) 3072 (by omega)))) (sqT (tile (hM c i M1 M2 M3 M4 M5 f1 f2 f3 f4 f5 hc2) 3328 (by omega))) :=
  (show runMid.sl.v1004 (F := Ideal) c i M1 M2 M3 M4 M5 f1 f2 f3 f4 f5 hc2 = addf (runMid.sl.v942 (F := Ideal) c i M1 M2 M3 M4 M5 f1 f2 f3 f4 f5 hc2) (sqT (runMid.sl.v993 (F := Ideal) c i M1 M2 M3 M4 M5 f1 f2 f3 f4 f5 hc2)) from rfl).trans (by rw [ss_12, hM_13])

theorem ss_14 : k0_pay3 (runMid.sl.r_4 (F := Ideal) c i M1 M2 M3 M4 M5 f1 f2 f3 f4 f5 hc2) = ssB (hM c i M1 M2 M3 M4 M5 f1 f2 f3 f4 f5 hc2) :=
  (show k0_pay3 (runMid.sl.r_4 (F := Ideal) c i M1 M2 M3 M4 M5 f1 f2 f3 f4 f5 hc2) = k0_pay3 (addf (runMid.sl.v1004 (F := Ideal) c i M1 M2 M3 M4 M5 f1 f2 f3 f4 f5 hc2) (sqT (k0_pay112 (F := Ideal) (runMid.sl.v1008 (F := Ideal) c M1 M3 f1 f3) (runMid.sl.v113 (F := Ideal) c i M2 f2 hc2) (M4.view.readAt (Elt Ideal) (Rect.unit (s := S1x3840) ![0, 3584] S1x256.size inb_S1x3840_S1x256_0_3584).toLoadRect f4) (M5.view.readAt (Elt Ideal) (Rect.unit (s := S512x3840) ![0, 3584] S512x256.size inb_S512x3840_S512x256_0_3584).toLoadRect f5)))) from rfl).trans (by rw [ss_13, hM_14]; exact pay3_eq _)

end Cert.KernelIdeal.Hand

end
-- ==== Proof.MidFacts.lean ====
/-
  What a point in between writes of the codes and the scales: those of the block before.
-/
module

public import proofs.«01_k».proof.Proof.Pieces
public import proofs.«01_k».proof.Proof.RunVal
public import proofs.«01_k».proof.Proof.HFacts

@[expose] public section

noncomputable section

namespace Cert.KernelIdeal.Hand

open Cert.KernelIdeal Cert.KernelIdeal.Gen Cert.Hand
open Idealize.ShloMosaic Idealize.ShloMosaic.TcCoe

variable (c : Dev nD) (i : grid0.Coords)
  (M1 : Memref sig .tc .vmem S512x4096 .fp8e4m3)  (M2 : Memref sig .tc .vmem S16x2048 .f32)  (M3 : Memref sig .tc .vmem S4096x3840 .fp8e4m3)  (M4 : Memref sig .tc .vmem S1x3840 .f32)  (M5 : Memref sig .tc .vmem S512x3840 .bf16)  (M6 : Memref sig .tc .vmem S1x3840 .f32)  (M10 : Memref sig .tc .vmem S2x512x3840 .bf16)  (M11 : Memref sig .tc .vmem S512x128 .f32)
 (f1 : Bf (F := Ideal) c M1) (f2 : Bf (F := Ideal) c M2) (f3 : Bf (F := Ideal) c M3) (f4 : Bf (F := Ideal) c M4) (f5 : Bf (F := Ideal) c M5) (f6 : Bf (F := Ideal) c M6) (f10 : Bf (F := Ideal) c M10) (f11 : Bf (F := Ideal) c M11)
  (hc2 : k0_cond2 i = 1#1)

/-- The block before, normalised. -/
def nM : FVec Ideal S512x3840 .f32 :=
  nB (slotB (M10.view.read (Elt Ideal) f10) (slotR i)) (M11.view.read (Elt Ideal) f11) (M6.view.read (Elt Ideal) f6)

theorem nM_0 : nT (rT (M11.view.readAt (Elt Ideal) (Rect.unit (s := S512x128) ![0, 0] S512x128.size inb_S512x128_S512x128_0_0).toLoadRect f11)) (M10.view.readAt (Elt Ideal) (Rect.unit (s := S2x512x3840) (k0_off2 i) S1x512x256.size (k0_off2_inb i hc2)).toLoadRect f10) (M6.view.readAt (Elt Ideal) (Rect.unit (s := S1x3840) ![0, 0] S1x256.size inb_S1x3840_S1x256_0_0).toLoadRect f6) = tile (nM c i M6 M10 M11 f6 f10 f11) 0 (by omega) := by
  rw [ld_whole]; exact nT_tile M10.view f10 _ M6.view f6 _ (slotR i) 0 (by omega) (off2_eq i) _ _

theorem nM_1 : nT (rT (M11.view.readAt (Elt Ideal) (Rect.unit (s := S512x128) ![0, 0] S512x128.size inb_S512x128_S512x128_0_0).toLoadRect f11)) (M10.view.readAt (Elt Ideal) (Rect.unit (s := S2x512x3840) (k0_off6 i) S1x512x256.size (k0_off6_inb i hc2)).toLoadRect f10) (M6.view.readAt (Elt Ideal) (Rect.unit (s := S1x3840) ![0, 256] S1x256.size inb_S1x3840_S1x256_0_256).toLoadRect f6) = tile (nM c i M6 M10 M11 f6 f10 f11) 256 (by omega) := by
  rw [ld_whole]; exact nT_tile M10.view f10 _ M6.view f6 _ (slotR i) 256 (by omega) (off6_eq i) _ _

theorem nM_2 : nT (rT (M11.view.readAt (Elt Ideal) (Rect.unit (s := S512x128) ![0, 0] S512x128.size inb_S512x128_S512x128_0_0).toLoadRect f11)) (M10.view.readAt (Elt Ideal) (Rect.unit (s := S2x512x3840) (k0_off9 i) S1x512x256.size (k0_off9_inb i hc2)).toLoadRect f10) (M6.view.readAt (Elt Ideal) (Rect.unit (s := S1x3840) ![0, 512] S1x256.size inb_S1x3840_S1x256_0_512).toLoadRect f6) = tile (nM c i M6 M10 M11 f6 f10 f11) 512 (by omega) := by
  rw [ld_whole]; exact nT_tile M10.view f10 _ M6.view f6 _ (slotR i) 512 (by omega) (off9_eq i) _ _

theorem nM_3 : nT (rT (M11.view.readAt (Elt Ideal) (Rect.unit (s := S512x128) ![0, 0] S512x128.size inb_S512x128_S512x128_0_0).toLoadRect f11)) (M10.view.readAt (Elt Ideal) (Rect.unit (s := S2x512x3840) (k0_off12 i) S1x512x256.size (k0_off12_inb i hc2)).toLoadRect f10) (M6.view.readAt (Elt Ideal) (Rect.unit (s := S1x3840) ![0, 768] S1x256.size inb_S1x3840_S1x256_0_768).toLoadRect f6) = tile (nM c i M6 M10 M11 f6 f10 f11) 768 (by omega) := by
  rw [ld_whole]; exact nT_tile M10.view f10 _ M6.view f6 _ (slotR i) 768 (by omega) (off12_eq i) _ _

theorem nM_4 : nT (rT (M11.view.readAt (Elt Ideal) (Rect.unit (s := S512x128) ![0, 0] S512x128.size inb_S512x128_S512x128_0_0).toLoadRect f11)) (M10.view.readAt (Elt Ideal) (Rect.unit (s := S2x512x3840) (k0_off15 i) S1x512x256.size (k0_off15_inb i hc2)).toLoadRect f10) (M6.view.readAt (Elt Ideal) (Rect.unit (s := S1x3840) ![0, 1024] S1x256.size inb_S1x3840_S1x256_0_1024).toLoadRect f6) = tile (nM c i M6 M10 M11 f6 f10 f11) 1024 (by omega) := by
  rw [ld_whole]; exact nT_tile M10.view f10 _ M6.view f6 _ (slotR i) 1024 (by omega) (off15_eq i) _ _

theorem nM_5 : nT (rT (M11.view.readAt (Elt Ideal) (Rect.unit (s := S512x128) ![0, 0] S512x128.size inb_S512x128_S512x128_0_0).toLoadRect f11)) (M10.view.readAt (Elt Ideal) (Rect.unit (s := S2x512x3840) (k0_off18 i) S1x512x256.size (k0_off18_inb i hc2)).toLoadRect f10) (M6.view.readAt (Elt Ideal) (Rect.unit (s := S1x3840) ![0, 1280] S1x256.size inb_S1x3840_S1x256_0_1280).toLoadRect f6) = tile (nM c i M6 M10 M11 f6 f10 f11) 1280 (by omega) := by
  rw [ld_whole]; exact nT_tile M10.view f10 _ M6.view f6 _ (slotR i) 1280 (by omega) (off18_eq i) _ _

theorem nM_6 : nT (rT (M11.view.readAt (Elt Ideal) (Rect.unit (s := S512x128) ![0, 0] S512x128.size inb_S512x128_S512x128_0_0).toLoadRect f11)) (M10.view.readAt (Elt Ideal) (Rect.unit (s := S2x512x3840) (k0_off21 i) S1x512x256.size (k0_off21_inb i hc2)).toLoadRect f10) (M6.view.readAt (Elt Ideal) (Rect.unit (s := S1x3840) ![0, 1536] S1x256.size inb_S1x3840_S1x256_0_1536).toLoadRect f6) = tile (nM c i M6 M10 M11 f6 f10 f11) 1536 (by omega) := by
  rw [ld_whole]; exact nT_tile M10.view f10 _ M6.view f6 _ (slotR i) 1536 (by omega) (off21_eq i) _ _

theorem nM_7 : nT (rT (M11.view.readAt (Elt Ideal) (Rect.unit (s := S512x128) ![0, 0] S512x128.size inb_S512x128_S512x128_0_0).toLoadRect f11)) (M10.view.readAt (Elt Ideal) (Rect.unit (s := S2x512x3840) (k0_off3 i) S1x512x256.size (k0_off3_inb i hc2)).toLoadRect f10) (M6.view.readAt (Elt Ideal) (Rect.unit (s := S1x3840) ![0, 1792] S1x256.size inb_S1x3840_S1x256_0_1792).toLoadRect f6) = tile (nM c i M6 M10 M11 f6 f10 f11) 1792 (by omega) := by
  rw [ld_whole]; exact nT_tile M10.view f10 _ M6.view f6 _ (slotR i) 1792 (by omega) (off3_eq i) _ _

theorem nM_8 : nT (rT (M11.view.readAt (Elt Ideal) (Rect.unit (s := S512x128) ![0, 0] S512x128.size inb_S512x128_S512x128_0_0).toLoadRect f11)) (M10.view.readAt (Elt Ideal) (Rect.unit (s := S2x512x3840) (k0_off7 i) S1x512x256.size (k0_off7_inb i hc2)).toLoadRect f10) (M6.view.readAt (Elt Ideal) (Rect.unit (s := S1x3840) ![0, 2048] S1x256.size inb_S1x3840_S1x256_0_2048).toLoadRect f6) = tile (nM c i M6 M10 M11 f6 f10 f11) 2048 (by omega) := by
  rw [ld_whole]; exact nT_tile M10.view f10 _ M6.view f6 _ (slotR i) 2048 (by omega) (off7_eq i) _ _

theorem nM_9 : nT (rT (M11.view.readAt (Elt Ideal) (Rect.unit (s := S512x128) ![0, 0] S512x128.size inb_S512x128_S512x128_0_0).toLoadRect f11)) (M10.view.readAt (Elt Ideal) (Rect.unit (s := S2x512x3840) (k0_off10 i) S1x512x256.size (k0_off10_inb i hc2)).toLoadRect f10) (M6.view.readAt (Elt Ideal) (Rect.unit (s := S1x3840) ![0, 2304] S1x256.size inb_S1x3840_S1x256_0_2304).toLoadRect f6) = tile (nM c i M6 M10 M11 f6 f10 f11) 2304 (by omega) := by
  rw [ld_whole]; exact nT_tile M10.view f10 _ M6.view f6 _ (slotR i) 2304 (by omega) (off10_eq i) _ _

theorem nM_10 : nT (rT (M11.view.readAt (Elt Ideal) (Rect.unit (s := S512x128) ![0, 0] S512x128.size inb_S512x128_S512x128_0_0).toLoadRect f11)) (M10.view.readAt (Elt Ideal) (Rect.unit (s := S2x512x3840) (k0_off13 i) S1x512x256.size (k0_off13_inb i hc2)).toLoadRect f10) (M6.view.readAt (Elt Ideal) (Rect.unit (s := S1x3840) ![0, 2560] S1x256.size inb_S1x3840_S1x256_0_2560).toLoadRect f6) = tile (nM c i M6 M10 M11 f6 f10 f11) 2560 (by omega) := by
  rw [ld_whole]; exact nT_tile M10.view f10 _ M6.view f6 _ (slotR i) 2560 (by omega) (off13_eq i) _ _

theorem nM_11 : nT (rT (M11.view.readAt (Elt Ideal) (Rect.unit (s := S512x128) ![0, 0] S512x128.size inb_S512x128_S512x128_0_0).toLoadRect f11)) (M10.view.readAt (Elt Ideal) (Rect.unit (s := S2x512x3840) (k0_off16 i) S1x512x256.size (k0_off16_inb i hc2)).toLoadRect f10) (M6.view.readAt (Elt Ideal) (Rect.unit (s := S1x3840) ![0, 2816] S1x256.size inb_S1x3840_S1x256_0_2816).toLoadRect f6) = tile (nM c i M6 M10 M11 f6 f10 f11) 2816 (by omega) := by
  rw [ld_whole]; exact nT_tile M10.view f10 _ M6.view f6 _ (slotR i) 2816 (by omega) (off16_eq i) _ _

theorem nM_12 : nT (rT (M11.view.readAt (Elt Ideal) (Rect.unit (s := S512x128) ![0, 0] S512x128.size inb_S512x128_S512x128_0_0).toLoadRect f11)) (M10.view.readAt (Elt Ideal) (Rect.unit (s := S2x512x3840) (k0_off19 i) S1x512x256.size (k0_off19_inb i hc2)).toLoadRect f10) (M6.view.readAt (Elt Ideal) (Rect.unit (s := S1x3840) ![0, 3072] S1x256.size inb_S1x3840_S1x256_0_3072).toLoadRect f6) = tile (nM c i M6 M10 M11 f6 f10 f11) 3072 (by omega) := by
  rw [ld_whole]; exact nT_tile M10.view f10 _ M6.view f6 _ (slotR i) 3072 (by omega) (off19_eq i) _ _

theorem nM_13 : nT (rT (M11.view.readAt (Elt Ideal) (Rect.unit (s := S512x128) ![0, 0] S512x128.size inb_S512x128_S512x128_0_0).toLoadRect f11)) (M10.view.readAt (Elt Ideal) (Rect.unit (s := S2x512x3840) (k0_off22 i) S1x512x256.size (k0_off22_inb i hc2)).toLoadRect f10) (M6.view.readAt (Elt Ideal) (Rect.unit (s := S1x3840) ![0, 3328] S1x256.size inb_S1x3840_S1x256_0_3328).toLoadRect f6) = tile (nM c i M6 M10 M11 f6 f10 f11) 3328 (by omega) := by
  rw [ld_whole]; exact nT_tile M10.view f10 _ M6.view f6 _ (slotR i) 3328 (by omega) (off22_eq i) _ _

theorem nM_14 : nT (rT (M11.view.readAt (Elt Ideal) (Rect.unit (s := S512x128) ![0, 0] S512x128.size inb_S512x128_S512x128_0_0).toLoadRect f11)) (M10.view.readAt (Elt Ideal) (Rect.unit (s := S2x512x3840) (k0_off4 i) S1x512x256.size (k0_off4_inb i hc2)).toLoadRect f10) (M6.view.readAt (Elt Ideal) (Rect.unit (s := S1x3840) ![0, 3584] S1x256.size inb_S1x3840_S1x256_0_3584).toLoadRect f6) = tile (nM c i M6 M10 M11 f6 f10 f11) 3584 (by omega) := by
  rw [ld_whole]; exact nT_tile M10.view f10 _ M6.view f6 _ (slotR i) 3584 (by omega) (off4_eq i) _ _

theorem nm_0 : runMid.sl.v82 (F := Ideal) c i M6 M10 M11 f6 f10 f11 hc2 = mT (tile (nM c i M6 M10 M11 f6 f10 f11) 0 (by omega)) :=
  (show runMid.sl.v82 (F := Ideal) c i M6 M10 M11 f6 f10 f11 hc2 = mT (nT (rT (M11.view.readAt (Elt Ideal) (Rect.unit (s := S512x128) ![0, 0] S512x128.size inb_S512x128_S512x128_0_0).toLoadRect f11)) (M10.view.readAt (Elt Ideal) (Rect.unit (s := S2x512x3840) (k0_off2 i) S1x512x256.size (k0_off2_inb i hc2)).toLoadRect f10) (M6.view.readAt (Elt Ideal) (Rect.unit (s := S1x3840) ![0, 0] S1x256.size inb_S1x3840_S1x256_0_0).toLoadRect f6)) from rfl).trans (by rw [nM_0 c i M6 M10 M11 f6 f10 f11 hc2])

theorem nm_1 : runMid.sl.v97 (F := Ideal) c i M6 M10 M11 f6 f10 f11 hc2 = maximumf (mT (tile (nM c i M6 M10 M11 f6 f10 f11) 0 (by omega))) (mT (tile (nM c i M6 M10 M11 f6 f10 f11) 1792 (by omega))) :=
  (show runMid.sl.v97 (F := Ideal) c i M6 M10 M11 f6 f10 f11 hc2 = maximumf (runMid.sl.v82 (F := Ideal) c i M6 M10 M11 f6 f10 f11 hc2) (mT (nT (rT (M11.view.readAt (Elt Ideal) (Rect.unit (s := S512x128) ![0, 0] S512x128.size inb_S512x128_S512x128_0_0).toLoadRect f11)) (M10.view.readAt (Elt Ideal) (Rect.unit (s := S2x512x3840) (k0_off3 i) S1x512x256.size (k0_off3_inb i hc2)).toLoadRect f10) (M6.view.readAt (Elt Ideal) (Rect.unit (s := S1x3840) ![0, 1792] S1x256.size inb_S1x3840_S1x256_0_1792).toLoadRect f6))) from rfl).trans (by rw [nm_0 c i M6 M10 M11 f6 f10 f11 hc2, nM_7 c i M6 M10 M11 f6 f10 f11 hc2])

theorem nm_2 : runMid.sl.v112 (F := Ideal) c i M6 M10 M11 f6 f10 f11 hc2 = maximumf (maximumf (mT (tile (nM c i M6 M10 M11 f6 f10 f11) 0 (by omega))) (mT (tile (nM c i M6 M10 M11 f6 f10 f11) 1792 (by omega)))) (mT (tile (nM c i M6 M10 M11 f6 f10 f11) 3584 (by omega))) :=
  (show runMid.sl.v112 (F := Ideal) c i M6 M10 M11 f6 f10 f11 hc2 = maximumf (runMid.sl.v97 (F := Ideal) c i M6 M10 M11 f6 f10 f11 hc2) (mT (nT (rT (M11.view.readAt (Elt Ideal) (Rect.unit (s := S512x128) ![0, 0] S512x128.size inb_S512x128_S512x128_0_0).toLoadRect f11)) (M10.view.readAt (Elt Ideal) (Rect.unit (s := S2x512x3840) (k0_off4 i) S1x512x256.size (k0_off4_inb i hc2)).toLoadRect f10) (M6.view.readAt (Elt Ideal) (Rect.unit (s := S1x3840) ![0, 3584] S1x256.size inb_S1x3840_S1x256_0_3584).toLoadRect f6))) from rfl).trans (by rw [nm_1 c i M6 M10 M11 f6 f10 f11 hc2, nM_14 c i M6 M10 M11 f6 f10 f11 hc2])

theorem nm_3 : runMid.sl.v152 (F := Ideal) c i M6 M10 M11 f6 f10 f11 hc2 = maximumf (maximumf (maximumf (mT (tile (nM c i M6 M10 M11 f6 f10 f11) 0 (by omega))) (mT (tile (nM c i M6 M10 M11 f6 f10 f11) 1792 (by omega)))) (mT (tile (nM c i M6 M10 M11 f6 f10 f11) 3584 (by omega)))) (mT (tile (nM c i M6 M10 M11 f6 f10 f11) 256 (by omega))) :=
  (show runMid.sl.v152 (F := Ideal) c i M6 M10 M11 f6 f10 f11 hc2 = maximumf (runMid.sl.v112 (F := Ideal) c i M6 M10 M11 f6 f10 f11 hc2) (mT (nT (rT (M11.view.readAt (Elt Ideal) (Rect.unit (s := S512x128) ![0, 0] S512x128.size inb_S512x128_S512x128_0_0).toLoadRect f11)) (M10.view.readAt (Elt Ideal) (Rect.unit (s := S2x512x3840) (k0_off6 i) S1x512x256.size (k0_off6_inb i hc2)).toLoadRect f10) (M6.view.readAt (Elt Ideal) (Rect.unit (s := S1x3840) ![0, 256] S1x256.size inb_S1x3840_S1x256_0_256).toLoadRect f6))) from rfl).trans (by rw [nm_2 c i M6 M10 M11 f6 f10 f11 hc2, nM_1 c i M6 M10 M11 f6 f10 f11 hc2])

theorem nm_4 : runMid.sl.v167 (F := Ideal) c i M6 M10 M11 f6 f10 f11 hc2 = maximumf (maximumf (maximumf (maximumf (mT (tile (nM c i M6 M10 M11 f6 f10 f11) 0 (by omega))) (mT (tile (nM c i M6 M10 M11 f6 f10 f11) 1792 (by omega)))) (mT (tile (nM c i M6 M10 M11 f6 f10 f11) 3584 (by omega)))) (mT (tile (nM c i M6 M10 M11 f6 f10 f11) 256 (by omega)))) (mT (tile (nM c i M6 M10 M11 f6 f10 f11) 2048 (by omega))) :=
  (show runMid.sl.v167 (F := Ideal) c i M6 M10 M11 f6 f10 f11 hc2 = maximumf (runMid.sl.v152 (F := Ideal) c i M6 M10 M11 f6 f10 f11 hc2) (mT (nT (rT (M11.view.readAt (Elt Ideal) (Rect.unit (s := S512x128) ![0, 0] S512x128.size inb_S512x128_S512x128_0_0).toLoadRect f11)) (M10.view.readAt (Elt Ideal) (Rect.unit (s := S2x512x3840) (k0_off7 i) S1x512x256.size (k0_off7_inb i hc2)).toLoadRect f10) (M6.view.readAt (Elt Ideal) (Rect.unit (s := S1x3840) ![0, 2048] S1x256.size inb_S1x3840_S1x256_0_2048).toLoadRect f6))) from rfl).trans (by rw [nm_3 c i M6 M10 M11 f6 f10 f11 hc2, nM_8 c i M6 M10 M11 f6 f10 f11 hc2])

theorem nm_5 : runMid.sl.v208 (F := Ideal) c i M6 M10 M11 f6 f10 f11 hc2 = maximumf (maximumf (maximumf (maximumf (maximumf (mT (tile (nM c i M6 M10 M11 f6 f10 f11) 0 (by omega))) (mT (tile (nM c i M6 M10 M11 f6 f10 f11) 1792 (by omega)))) (mT (tile (nM c i M6 M10 M11 f6 f10 f11) 3584 (by omega)))) (mT (tile (nM c i M6 M10 M11 f6 f10 f11) 256 (by omega)))) (mT (tile (nM c i M6 M10 M11 f6 f10 f11) 2048 (by omega)))) (mT (tile (nM c i M6 M10 M11 f6 f10 f11) 512 (by omega))) :=
  (show runMid.sl.v208 (F := Ideal) c i M6 M10 M11 f6 f10 f11 hc2 = maximumf (runMid.sl.v167 (F := Ideal) c i M6 M10 M11 f6 f10 f11 hc2) (mT (nT (rT (M11.view.readAt (Elt Ideal) (Rect.unit (s := S512x128) ![0, 0] S512x128.size inb_S512x128_S512x128_0_0).toLoadRect f11)) (M10.view.readAt (Elt Ideal) (Rect.unit (s := S2x512x3840) (k0_off9 i) S1x512x256.size (k0_off9_inb i hc2)).toLoadRect f10) (M6.view.readAt (Elt Ideal) (Rect.unit (s := S1x3840) ![0, 512] S1x256.size inb_S1x3840_S1x256_0_512).toLoadRect f6))) from rfl).trans (by rw [nm_4 c i M6 M10 M11 f6 f10 f11 hc2, nM_2 c i M6 M10 M11 f6 f10 f11 hc2])

theorem nm_6 : runMid.sl.v223 (F := Ideal) c i M6 M10 M11 f6 f10 f11 hc2 = maximumf (maximumf (maximumf (maximumf (maximumf (maximumf (mT (tile (nM c i M6 M10 M11 f6 f10 f11) 0 (by omega))) (mT (tile (nM c i M6 M10 M11 f6 f10 f11) 1792 (by omega)))) (mT (tile (nM c i M6 M10 M11 f6 f10 f11) 3584 (by omega)))) (mT (tile (nM c i M6 M10 M11 f6 f10 f11) 256 (by omega)))) (mT (tile (nM c i M6 M10 M11 f6 f10 f11) 2048 (by omega)))) (mT (tile (nM c i M6 M10 M11 f6 f10 f11) 512 (by omega)))) (mT (tile (nM c i M6 M10 M11 f6 f10 f11) 2304 (by omega))) :=
  (show runMid.sl.v223 (F := Ideal) c i M6 M10 M11 f6 f10 f11 hc2 = maximumf (runMid.sl.v208 (F := Ideal) c i M6 M10 M11 f6 f10 f11 hc2) (mT (nT (rT (M11.view.readAt (Elt Ideal) (Rect.unit (s := S512x128) ![0, 0] S512x128.size inb_S512x128_S512x128_0_0).toLoadRect f11)) (M10.view.readAt (Elt Ideal) (Rect.unit (s := S2x512x3840) (k0_off10 i) S1x512x256.size (k0_off10_inb i hc2)).toLoadRect f10) (M6.view.readAt (Elt Ideal) (Rect.unit (s := S1x3840) ![0, 2304] S1x256.size inb_S1x3840_S1x256_0_2304).toLoadRect f6))) from rfl).trans (by rw [nm_5 c i M6 M10 M11 f6 f10 f11 hc2, nM_9 c i M6 M10 M11 f6 f10 f11 hc2])

theorem nm_7 : runMid.sl.v264 (F := Ideal) c i M6 M10 M11 f6 f10 f11 hc2 = maximumf (maximumf (maximumf (maximumf (maximumf (maximumf (maximumf (mT (tile (nM c i M6 M10 M11 f6 f10 f11) 0 (by omega))) (mT (tile (nM c i M6 M10 M11 f6 f10 f11) 1792 (by omega)))) (mT (tile (nM c i M6 M10 M11 f6 f10 f11) 3584 (by omega)))) (mT (tile (nM c i M6 M10 M11 f6 f10 f11) 256 (by omega)))) (mT (tile (nM c i M6 M10 M11 f6 f10 f11) 2048 (by omega)))) (mT (tile (nM c i M6 M10 M11 f6 f10 f11) 512 (by omega)))) (mT (tile (nM c i M6 M10 M11 f6 f10 f11) 2304 (by omega)))) (mT (tile (nM c i M6 M10 M11 f6 f10 f11) 768 (by omega))) :=
  (show runMid.sl.v264 (F := Ideal) c i M6 M10 M11 f6 f10 f11 hc2 = maximumf (runMid.sl.v223 (F := Ideal) c i M6 M10 M11 f6 f10 f11 hc2) (mT (nT (rT (M11.view.readAt (Elt Ideal) (Rect.unit (s := S512x128) ![0, 0] S512x128.size inb_S512x128_S512x128_0_0).toLoadRect f11)) (M10.view.readAt (Elt Ideal) (Rect.unit (s := S2x512x3840) (k0_off12 i) S1x512x256.size (k0_off12_inb i hc2)).toLoadRect f10) (M6.view.readAt (Elt Ideal) (Rect.unit (s := S1x3840) ![0, 768] S1x256.size inb_S1x3840_S1x256_0_768).toLoadRect f6))) from rfl).trans (by rw [nm_6 c i M6 M10 M11 f6 f10 f11 hc2, nM_3 c i M6 M10 M11 f6 f10 f11 hc2])

theorem nm_8 : runMid.sl.v279 (F := Ideal) c i M6 M10 M11 f6 f10 f11 hc2 = maximumf (maximumf (maximumf (maximumf (maximumf (maximumf (maximumf (maximumf (mT (tile (nM c i M6 M10 M11 f6 f10 f11) 0 (by omega))) (mT (tile (nM c i M6 M10 M11 f6 f10 f11) 1792 (by omega)))) (mT (tile (nM c i M6 M10 M11 f6 f10 f11) 3584 (by omega)))) (mT (tile (nM c i M6 M10 M11 f6 f10 f11) 256 (by omega)))) (mT (tile (nM c i M6 M10 M11 f6 f10 f11) 2048 (by omega)))) (mT (tile (nM c i M6 M10 M11 f6 f10 f11) 512 (by omega)))) (mT (tile (nM c i M6 M10 M11 f6 f10 f11) 2304 (by omega)))) (mT (tile (nM c i M6 M10 M11 f6 f10 f11) 768 (by omega)))) (mT (tile (nM c i M6 M10 M11 f6 f10 f11) 2560 (by omega))) :=
  (show runMid.sl.v279 (F := Ideal) c i M6 M10 M11 f6 f10 f11 hc2 = maximumf (runMid.sl.v264 (F := Ideal) c i M6 M10 M11 f6 f10 f11 hc2) (mT (nT (rT (M11.view.readAt (Elt Ideal) (Rect.unit (s := S512x128) ![0, 0] S512x128.size inb_S512x128_S512x128_0_0).toLoadRect f11)) (M10.view.readAt (Elt Ideal) (Rect.unit (s := S2x512x3840) (k0_off13 i) S1x512x256.size (k0_off13_inb i hc2)).toLoadRect f10) (M6.view.readAt (Elt Ideal) (Rect.unit (s := S1x3840) ![0, 2560] S1x256.size inb_S1x3840_S1x256_0_2560).toLoadRect f6))) from rfl).trans (by rw [nm_7 c i M6 M10 M11 f6 f10 f11 hc2, nM_10 c i M6 M10 M11 f6 f10 f11 hc2])

theorem nm_9 : runMid.sl.v320 (F := Ideal) c i M6 M10 M11 f6 f10 f11 hc2 = maximumf (maximumf (maximumf (maximumf (maximumf (maximumf (maximumf (maximumf (maximumf (mT (tile (nM c i M6 M10 M11 f6 f10 f11) 0 (by omega))) (mT (tile (nM c i M6 M10 M11 f6 f10 f11) 1792 (by omega)))) (mT (tile (nM c i M6 M10 M11 f6 f10 f11) 3584 (by omega)))) (mT (tile (nM c i M6 M10 M11 f6 f10 f11) 256 (by omega)))) (mT (tile (nM c i M6 M10 M11 f6 f10 f11) 2048 (by omega)))) (mT (tile (nM c i M6 M10 M11 f6 f10 f11) 512 (by omega)))) (mT (tile (nM c i M6 M10 M11 f6 f10 f11) 2304 (by omega)))) (mT (tile (nM c i M6 M10 M11 f6 f10 f11) 768 (by omega)))) (mT (tile (nM c i M6 M10 M11 f6 f10 f11) 2560 (by omega)))) (mT (tile (nM c i M6 M10 M11 f6 f10 f11) 1024 (by omega))) :=
  (show runMid.sl.v320 (F := Ideal) c i M6 M10 M11 f6 f10 f11 hc2 = maximumf (runMid.sl.v279 (F := Ideal) c i M6 M10 M11 f6 f10 f11 hc2) (mT (nT (rT (M11.view.readAt (Elt Ideal) (Rect.unit (s := S512x128) ![0, 0] S512x128.size inb_S512x128_S512x128_0_0).toLoadRect f11)) (M10.view.readAt (Elt Ideal) (Rect.unit (s := S2x512x3840) (k0_off15 i) S1x512x256.size (k0_off15_inb i hc2)).toLoadRect f10) (M6.view.readAt (Elt Ideal) (Rect.unit (s := S1x3840) ![0, 1024] S1x256.size inb_S1x3840_S1x256_0_1024).toLoadRect f6))) from rfl).trans (by rw [nm_8 c i M6 M10 M11 f6 f10 f11 hc2, nM_4 c i M6 M10 M11 f6 f10 f11 hc2])

theorem nm_10 : runMid.sl.v335 (F := Ideal) c i M6 M10 M11 f6 f10 f11 hc2 = maximumf (maximumf (maximumf (maximumf (maximumf (maximumf (maximumf (maximumf (maximumf (maximumf (mT (tile (nM c i M6 M10 M11 f6 f10 f11) 0 (by omega))) (mT (tile (nM c i M6 M10 M11 f6 f10 f11) 1792 (by omega)))) (mT (tile (nM c i M6 M10 M11 f6 f10 f11) 3584 (by omega)))) (mT (tile (nM c i M6 M10 M11 f6 f10 f11) 256 (by omega)))) (mT (tile (nM c i M6 M10 M11 f6 f10 f11) 2048 (by omega)))) (mT (tile (nM c i M6 M10 M11 f6 f10 f11) 512 (by omega)))) (mT (tile (nM c i M6 M10 M11 f6 f10 f11) 2304 (by omega)))) (mT (tile (nM c i M6 M10 M11 f6 f10 f11) 768 (by omega)))) (mT (tile (nM c i M6 M10 M11 f6 f10 f11) 2560 (by omega)))) (mT (tile (nM c i M6 M10 M11 f6 f10 f11) 1024 (by omega)))) (mT (tile (nM c i M6 M10 M11 f6 f10 f11) 2816 (by omega))) :=
  (show runMid.sl.v335 (F := Ideal) c i M6 M10 M11 f6 f10 f11 hc2 = maximumf (runMid.sl.v320 (F := Ideal) c i M6 M10 M11 f6 f10 f11 hc2) (mT (nT (rT (M11.view.readAt (Elt Ideal) (Rect.unit (s := S512x128) ![0, 0] S512x128.size inb_S512x128_S512x128_0_0).toLoadRect f11)) (M10.view.readAt (Elt Ideal) (Rect.unit (s := S2x512x3840) (k0_off16 i) S1x512x256.size (k0_off16_inb i hc2)).toLoadRect f10) (M6.view.readAt (Elt Ideal) (Rect.unit (s := S1x3840) ![0, 2816] S1x256.size inb_S1x3840_S1x256_0_2816).toLoadRect f6))) from rfl).trans (by rw [nm_9 c i M6 M10 M11 f6 f10 f11 hc2, nM_11 c i M6 M10 M11 f6 f10 f11 hc2])

theorem nm_11 : runMid.sl.v376 (F := Ideal) c i M6 M10 M11 f6 f10 f11 hc2 = maximumf (maximumf (maximumf (maximumf (maximumf (maximumf (maximumf (maximumf (maximumf (maximumf (maximumf (mT (tile (nM c i M6 M10 M11 f6 f10 f11) 0 (by omega))) (mT (tile (nM c i M6 M10 M11 f6 f10 f11) 1792 (by omega)))) (mT (tile (nM c i M6 M10 M11 f6 f10 f11) 3584 (by omega)))) (mT (tile (nM c i M6 M10 M11 f6 f10 f11) 256 (by omega)))) (mT (tile (nM c i M6 M10 M11 f6 f10 f11) 2048 (by omega)))) (mT (tile (nM c i M6 M10 M11 f6 f10 f11) 512 (by omega)))) (mT (tile (nM c i M6 M10 M11 f6 f10 f11) 2304 (by omega)))) (mT (tile (nM c i M6 M10 M11 f6 f10 f11) 768 (by omega)))) (mT (tile (nM c i M6 M10 M11 f6 f10 f11) 2560 (by omega)))) (mT (tile (nM c i M6 M10 M11 f6 f10 f11) 1024 (by omega)))) (mT (tile (nM c i M6 M10 M11 f6 f10 f11) 2816 (by omega)))) (mT (tile (nM c i M6 M10 M11 f6 f10 f11) 1280 (by omega))) :=
  (show runMid.sl.v376 (F := Ideal) c i M6 M10 M11 f6 f10 f11 hc2 = maximumf (runMid.sl.v335 (F := Ideal) c i M6 M10 M11 f6 f10 f11 hc2) (mT (nT (rT (M11.view.readAt (Elt Ideal) (Rect.unit (s := S512x128) ![0, 0] S512x128.size inb_S512x128_S512x128_0_0).toLoadRect f11)) (M10.view.readAt (Elt Ideal) (Rect.unit (s := S2x512x3840) (k0_off18 i) S1x512x256.size (k0_off18_inb i hc2)).toLoadRect f10) (M6.view.readAt (Elt Ideal) (Rect.unit (s := S1x3840) ![0, 1280] S1x256.size inb_S1x3840_S1x256_0_1280).toLoadRect f6))) from rfl).trans (by rw [nm_10 c i M6 M10 M11 f6 f10 f11 hc2, nM_5 c i M6 M10 M11 f6 f10 f11 hc2])

theorem nm_12 : runMid.sl.v391 (F := Ideal) c i M6 M10 M11 f6 f10 f11 hc2 = maximumf (maximumf (maximumf (maximumf (maximumf (maximumf (maximumf (maximumf (maximumf (maximumf (maximumf (maximumf (mT (tile (nM c i M6 M10 M11 f6 f10 f11) 0 (by omega))) (mT (tile (nM c i M6 M10 M11 f6 f10 f11) 1792 (by omega)))) (mT (tile (nM c i M6 M10 M11 f6 f10 f11) 3584 (by omega)))) (mT (tile (nM c i M6 M10 M11 f6 f10 f11) 256 (by omega)))) (mT (tile (nM c i M6 M10 M11 f6 f10 f11) 2048 (by omega)))) (mT (tile (nM c i M6 M10 M11 f6 f10 f11) 512 (by omega)))) (mT (tile (nM c i M6 M10 M11 f6 f10 f11) 2304 (by omega)))) (mT (tile (nM c i M6 M10 M11 f6 f10 f11) 768 (by omega)))) (mT (tile (nM c i M6 M10 M11 f6 f10 f11) 2560 (by omega)))) (mT (tile (nM c i M6 M10 M11 f6 f10 f11) 1024 (by omega)))) (mT (tile (nM c i M6 M10 M11 f6 f10 f11) 2816 (by omega)))) (mT (tile (nM c i M6 M10 M11 f6 f10 f11) 1280 (by omega)))) (mT (tile (nM c i M6 M10 M11 f6 f10 f11) 3072 (by omega))) :=
  (show runMid.sl.v391 (F := Ideal) c i M6 M10 M11 f6 f10 f11 hc2 = maximumf (runMid.sl.v376 (F := Ideal) c i M6 M10 M11 f6 f10 f11 hc2) (mT (nT (rT (M11.view.readAt (Elt Ideal) (Rect.unit (s := S512x128) ![0, 0] S512x128.size inb_S512x128_S512x128_0_0).toLoadRect f11)) (M10.view.readAt (Elt Ideal) (Rect.unit (s := S2x512x3840) (k0_off19 i) S1x512x256.size (k0_off19_inb i hc2)).toLoadRect f10) (M6.view.readAt (Elt Ideal) (Rect.unit (s := S1x3840) ![0, 3072] S1x256.size inb_S1x3840_S1x256_0_3072).toLoadRect f6))) from rfl).trans (by rw [nm_11 c i M6 M10 M11 f6 f10 f11 hc2, nM_12 c i M6 M10 M11 f6 f10 f11 hc2])

theorem nm_13 : runMid.sl.v432 (F := Ideal) c i M6 M10 M11 f6 f10 f11 hc2 = maximumf (maximumf (maximumf (maximumf (maximumf (maximumf (maximumf (maximumf (maximumf (maximumf (maximumf (maximumf (maximumf (mT (tile (nM c i M6 M10 M11 f6 f10 f11) 0 (by omega))) (mT (tile (nM c i M6 M10 M11 f6 f10 f11) 1792 (by omega)))) (mT (tile (nM c i M6 M10 M11 f6 f10 f11) 3584 (by omega)))) (mT (tile (nM c i M6 M10 M11 f6 f10 f11) 256 (by omega)))) (mT (tile (nM c i M6 M10 M11 f6 f10 f11) 2048 (by omega)))) (mT (tile (nM c i M6 M10 M11 f6 f10 f11) 512 (by omega)))) (mT (tile (nM c i M6 M10 M11 f6 f10 f11) 2304 (by omega)))) (mT (tile (nM c i M6 M10 M11 f6 f10 f11) 768 (by omega)))) (mT (tile (nM c i M6 M10 M11 f6 f10 f11) 2560 (by omega)))) (mT (tile (nM c i M6 M10 M11 f6 f10 f11) 1024 (by omega)))) (mT (tile (nM c i M6 M10 M11 f6 f10 f11) 2816 (by omega)))) (mT (tile (nM c i M6 M10 M11 f6 f10 f11) 1280 (by omega)))) (mT (tile (nM c i M6 M10 M11 f6 f10 f11) 3072 (by omega)))) (mT (tile (nM c i M6 M10 M11 f6 f10 f11) 1536 (by omega))) :=
  (show runMid.sl.v432 (F := Ideal) c i M6 M10 M11 f6 f10 f11 hc2 = maximumf (runMid.sl.v391 (F := Ideal) c i M6 M10 M11 f6 f10 f11 hc2) (mT (nT (rT (M11.view.readAt (Elt Ideal) (Rect.unit (s := S512x128) ![0, 0] S512x128.size inb_S512x128_S512x128_0_0).toLoadRect f11)) (M10.view.readAt (Elt Ideal) (Rect.unit (s := S2x512x3840) (k0_off21 i) S1x512x256.size (k0_off21_inb i hc2)).toLoadRect f10) (M6.view.readAt (Elt Ideal) (Rect.unit (s := S1x3840) ![0, 1536] S1x256.size inb_S1x3840_S1x256_0_1536).toLoadRect f6))) from rfl).trans (by rw [nm_12 c i M6 M10 M11 f6 f10 f11 hc2, nM_6 c i M6 M10 M11 f6 f10 f11 hc2])

theorem nm_14 : runMid.sl.v447 (F := Ideal) c i M6 M10 M11 f6 f10 f11 hc2 = mB (nM c i M6 M10 M11 f6 f10 f11) :=
  (show runMid.sl.v447 (F := Ideal) c i M6 M10 M11 f6 f10 f11 hc2 = maximumf (runMid.sl.v432 (F := Ideal) c i M6 M10 M11 f6 f10 f11 hc2) (mT (nT (rT (M11.view.readAt (Elt Ideal) (Rect.unit (s := S512x128) ![0, 0] S512x128.size inb_S512x128_S512x128_0_0).toLoadRect f11)) (M10.view.readAt (Elt Ideal) (Rect.unit (s := S2x512x3840) (k0_off22 i) S1x512x256.size (k0_off22_inb i hc2)).toLoadRect f10) (M6.view.readAt (Elt Ideal) (Rect.unit (s := S1x3840) ![0, 3328] S1x256.size inb_S1x3840_S1x256_0_3328).toLoadRect f6))) from rfl).trans (by rw [nm_13 c i M6 M10 M11 f6 f10 f11 hc2, nM_13 c i M6 M10 M11 f6 f10 f11 hc2]; rfl)

theorem n_x : runMid.sl.v477 (F := Ideal) c i M6 M10 M11 f6 f10 f11 hc2 = xqT (mB (nM c i M6 M10 M11 f6 f10 f11)) :=
  (show runMid.sl.v477 (F := Ideal) c i M6 M10 M11 f6 f10 f11 hc2 = xqT (runMid.sl.v447 (F := Ideal) c i M6 M10 M11 f6 f10 f11 hc2) from rfl).trans (by rw [nm_14])

theorem n_s0 : runMid.sl.v485 (F := Ideal) c i M6 M10 M11 f6 f10 f11 hc2 = (stepT (xqT (mB (nM c i M6 M10 M11 f6 f10 f11))) 128#32 (broadcast S512x1 0#32)) :=
  (show runMid.sl.v485 (F := Ideal) c i M6 M10 M11 f6 f10 f11 hc2 = stepT (runMid.sl.v477 (F := Ideal) c i M6 M10 M11 f6 f10 f11 hc2) 128#32 (broadcast S512x1 0#32) from rfl).trans (by rw [n_x])

theorem n_s1 : runMid.sl.v492 (F := Ideal) c i M6 M10 M11 f6 f10 f11 hc2 = (stepT (xqT (mB (nM c i M6 M10 M11 f6 f10 f11))) 64#32 (stepT (xqT (mB (nM c i M6 M10 M11 f6 f10 f11))) 128#32 (broadcast S512x1 0#32))) :=
  (show runMid.sl.v492 (F := Ideal) c i M6 M10 M11 f6 f10 f11 hc2 = stepT (runMid.sl.v477 (F := Ideal) c i M6 M10 M11 f6 f10 f11 hc2) 64#32 (runMid.sl.v485 (F := Ideal) c i M6 M10 M11 f6 f10 f11 hc2) from rfl).trans (by rw [n_x, n_s0])

theorem n_s2 : runMid.sl.v499 (F := Ideal) c i M6 M10 M11 f6 f10 f11 hc2 = (stepT (xqT (mB (nM c i M6 M10 M11 f6 f10 f11))) 32#32 (stepT (xqT (mB (nM c i M6 M10 M11 f6 f10 f11))) 64#32 (stepT (xqT (mB (nM c i M6 M10 M11 f6 f10 f11))) 128#32 (broadcast S512x1 0#32)))) :=
  (show runMid.sl.v499 (F := Ideal) c i M6 M10 M11 f6 f10 f11 hc2 = stepT (runMid.sl.v477 (F := Ideal) c i M6 M10 M11 f6 f10 f11 hc2) 32#32 (runMid.sl.v492 (F := Ideal) c i M6 M10 M11 f6 f10 f11 hc2) from rfl).trans (by rw [n_x, n_s1])

theorem n_s3 : runMid.sl.v506 (F := Ideal) c i M6 M10 M11 f6 f10 f11 hc2 = (stepT (xqT (mB (nM c i M6 M10 M11 f6 f10 f11))) 16#32 (stepT (xqT (mB (nM c i M6 M10 M11 f6 f10 f11))) 32#32 (stepT (xqT (mB (nM c i M6 M10 M11 f6 f10 f11))) 64#32 (stepT (xqT (mB (nM c i M6 M10 M11 f6 f10 f11))) 128#32 (broadcast S512x1 0#32))))) :=
  (show runMid.sl.v506 (F := Ideal) c i M6 M10 M11 f6 f10 f11 hc2 = stepT (runMid.sl.v477 (F := Ideal) c i M6 M10 M11 f6 f10 f11 hc2) 16#32 (runMid.sl.v499 (F := Ideal) c i M6 M10 M11 f6 f10 f11 hc2) from rfl).trans (by rw [n_x, n_s2])

theorem n_s4 : runMid.sl.v513 (F := Ideal) c i M6 M10 M11 f6 f10 f11 hc2 = (stepT (xqT (mB (nM c i M6 M10 M11 f6 f10 f11))) 8#32 (stepT (xqT (mB (nM c i M6 M10 M11 f6 f10 f11))) 16#32 (stepT (xqT (mB (nM c i M6 M10 M11 f6 f10 f11))) 32#32 (stepT (xqT (mB (nM c i M6 M10 M11 f6 f10 f11))) 64#32 (stepT (xqT (mB (nM c i M6 M10 M11 f6 f10 f11))) 128#32 (broadcast S512x1 0#32)))))) :=
  (show runMid.sl.v513 (F := Ideal) c i M6 M10 M11 f6 f10 f11 hc2 = stepT (runMid.sl.v477 (F := Ideal) c i M6 M10 M11 f6 f10 f11 hc2) 8#32 (runMid.sl.v506 (F := Ideal) c i M6 M10 M11 f6 f10 f11 hc2) from rfl).trans (by rw [n_x, n_s3])

theorem n_s5 : runMid.sl.v520 (F := Ideal) c i M6 M10 M11 f6 f10 f11 hc2 = (stepT (xqT (mB (nM c i M6 M10 M11 f6 f10 f11))) 4#32 (stepT (xqT (mB (nM c i M6 M10 M11 f6 f10 f11))) 8#32 (stepT (xqT (mB (nM c i M6 M10 M11 f6 f10 f11))) 16#32 (stepT (xqT (mB (nM c i M6 M10 M11 f6 f10 f11))) 32#32 (stepT (xqT (mB (nM c i M6 M10 M11 f6 f10 f11))) 64#32 (stepT (xqT (mB (nM c i M6 M10 M11 f6 f10 f11))) 128#32 (broadcast S512x1 0#32))))))) :=
  (show runMid.sl.v520 (F := Ideal) c i M6 M10 M11 f6 f10 f11 hc2 = stepT (runMid.sl.v477 (F := Ideal) c i M6 M10 M11 f6 f10 f11 hc2) 4#32 (runMid.sl.v513 (F := Ideal) c i M6 M10 M11 f6 f10 f11 hc2) from rfl).trans (by rw [n_x, n_s4])

theorem n_s6 : runMid.sl.v527 (F := Ideal) c i M6 M10 M11 f6 f10 f11 hc2 = (stepT (xqT (mB (nM c i M6 M10 M11 f6 f10 f11))) 2#32 (stepT (xqT (mB (nM c i M6 M10 M11 f6 f10 f11))) 4#32 (stepT (xqT (mB (nM c i M6 M10 M11 f6 f10 f11))) 8#32 (stepT (xqT (mB (nM c i M6 M10 M11 f6 f10 f11))) 16#32 (stepT (xqT (mB (nM c i M6 M10 M11 f6 f10 f11))) 32#32 (stepT (xqT (mB (nM c i M6 M10 M11 f6 f10 f11))) 64#32 (stepT (xqT (mB (nM c i M6 M10 M11 f6 f10 f11))) 128#32 (broadcast S512x1 0#32)))))))) :=
  (show runMid.sl.v527 (F := Ideal) c i M6 M10 M11 f6 f10 f11 hc2 = stepT (runMid.sl.v477 (F := Ideal) c i M6 M10 M11 f6 f10 f11 hc2) 2#32 (runMid.sl.v520 (F := Ideal) c i M6 M10 M11 f6 f10 f11 hc2) from rfl).trans (by rw [n_x, n_s5])

theorem n_s7 : runMid.sl.v534 (F := Ideal) c i M6 M10 M11 f6 f10 f11 hc2 = fieldT (xqT (mB (nM c i M6 M10 M11 f6 f10 f11))) :=
  (show runMid.sl.v534 (F := Ideal) c i M6 M10 M11 f6 f10 f11 hc2 = stepT (runMid.sl.v477 (F := Ideal) c i M6 M10 M11 f6 f10 f11 hc2) 1#32 (runMid.sl.v527 (F := Ideal) c i M6 M10 M11 f6 f10 f11 hc2) from rfl).trans (by rw [n_x, n_s6]; rfl)

theorem n_e : runMid.sl.v545 (F := Ideal) c i M6 M10 M11 f6 f10 f11 hc2 = eB (nM c i M6 M10 M11 f6 f10 f11) :=
  (show runMid.sl.v545 (F := Ideal) c i M6 M10 M11 f6 f10 f11 hc2 = eT (runMid.sl.v534 (F := Ideal) c i M6 M10 M11 f6 f10 f11 hc2) from rfl).trans (by rw [n_s7]; rfl)

theorem n_i : runMid.sl.v552 (F := Ideal) c i M6 M10 M11 f6 f10 f11 hc2 = invT (eB (nM c i M6 M10 M11 f6 f10 f11)) :=
  (show runMid.sl.v552 (F := Ideal) c i M6 M10 M11 f6 f10 f11 hc2 = invT (runMid.sl.v545 (F := Ideal) c i M6 M10 M11 f6 f10 f11 hc2) from rfl).trans (by rw [n_e])

theorem n_sc : runMid.sl.v561 (F := Ideal) c i M6 M10 M11 f6 f10 f11 hc2 = scT (eB (nM c i M6 M10 M11 f6 f10 f11)) :=
  (show runMid.sl.v561 (F := Ideal) c i M6 M10 M11 f6 f10 f11 hc2 = scT (runMid.sl.v545 (F := Ideal) c i M6 M10 M11 f6 f10 f11 hc2) from rfl).trans (by rw [n_e])

theorem nC_0 : runMid.sl.v635 (F := Ideal) c i M1 M2 M3 M4 M5 M6 M10 M11 f1 f2 f3 f4 f5 f6 f10 f11 hc2 = tile (cB (nM c i M6 M10 M11 f6 f10 f11)) 0 (by omega) := by
  refine (show runMid.sl.v635 (F := Ideal) c i M1 M2 M3 M4 M5 M6 M10 M11 f1 f2 f3 f4 f5 f6 f10 f11 hc2 = qT (nT (rT (M11.view.readAt (Elt Ideal) (Rect.unit (s := S512x128) ![0, 0] S512x128.size inb_S512x128_S512x128_0_0).toLoadRect f11)) (M10.view.readAt (Elt Ideal) (Rect.unit (s := S2x512x3840) (k0_off2 i) S1x512x256.size (k0_off2_inb i hc2)).toLoadRect (M10.view.writes (Elt Ideal) f10 (runMid.sl.H10_8 (F := Ideal) c i M1 M2 M3 M4 M5 f1 f2 f3 f4 f5 hc2))) (M6.view.readAt (Elt Ideal) (Rect.unit (s := S1x3840) ![0, 0] S1x256.size inb_S1x3840_S1x256_0_0).toLoadRect f6)) (runMid.sl.v552 (F := Ideal) c i M6 M10 M11 f6 f10 f11 hc2) from rfl).trans ?_
  rw [ld_whole, nT_tile M10.view _ _ M6.view f6 _ (slotR i) 0 (by omega) (off2_eq i) _ _, n_i c i M6 M10 M11 f6 f10 f11 hc2]
  obtain ⟨S, hS⟩ := H10_8_slot c i M1 M2 M3 M4 M5 f1 f2 f3 f4 f5 hc2
  rw [hS.other (slotR i) (slotR_ne i) M10.view f10]
  exact qT_tile (nM c i M6 M10 M11 f6 f10 f11) 0 (by omega)

theorem nC_1 : runMid.sl.v715 (F := Ideal) c i M1 M2 M3 M4 M5 M6 M10 M11 f1 f2 f3 f4 f5 f6 f10 f11 hc2 = tile (cB (nM c i M6 M10 M11 f6 f10 f11)) 256 (by omega) := by
  refine (show runMid.sl.v715 (F := Ideal) c i M1 M2 M3 M4 M5 M6 M10 M11 f1 f2 f3 f4 f5 f6 f10 f11 hc2 = qT (nT (rT (M11.view.readAt (Elt Ideal) (Rect.unit (s := S512x128) ![0, 0] S512x128.size inb_S512x128_S512x128_0_0).toLoadRect f11)) (M10.view.readAt (Elt Ideal) (Rect.unit (s := S2x512x3840) (k0_off6 i) S1x512x256.size (k0_off6_inb i hc2)).toLoadRect (M10.view.writes (Elt Ideal) f10 (runMid.sl.H10_9 (F := Ideal) c i M1 M2 M3 M4 M5 f1 f2 f3 f4 f5 hc2))) (M6.view.readAt (Elt Ideal) (Rect.unit (s := S1x3840) ![0, 256] S1x256.size inb_S1x3840_S1x256_0_256).toLoadRect f6)) (runMid.sl.v552 (F := Ideal) c i M6 M10 M11 f6 f10 f11 hc2) from rfl).trans ?_
  rw [ld_whole, nT_tile M10.view _ _ M6.view f6 _ (slotR i) 256 (by omega) (off6_eq i) _ _, n_i c i M6 M10 M11 f6 f10 f11 hc2]
  obtain ⟨S, hS⟩ := H10_9_slot c i M1 M2 M3 M4 M5 f1 f2 f3 f4 f5 hc2
  rw [hS.other (slotR i) (slotR_ne i) M10.view f10]
  exact qT_tile (nM c i M6 M10 M11 f6 f10 f11) 256 (by omega)

theorem nC_2 : runMid.sl.v777 (F := Ideal) c i M1 M2 M3 M4 M5 M6 M10 M11 f1 f2 f3 f4 f5 f6 f10 f11 hc2 = tile (cB (nM c i M6 M10 M11 f6 f10 f11)) 512 (by omega) := by
  refine (show runMid.sl.v777 (F := Ideal) c i M1 M2 M3 M4 M5 M6 M10 M11 f1 f2 f3 f4 f5 f6 f10 f11 hc2 = qT (nT (rT (M11.view.readAt (Elt Ideal) (Rect.unit (s := S512x128) ![0, 0] S512x128.size inb_S512x128_S512x128_0_0).toLoadRect f11)) (M10.view.readAt (Elt Ideal) (Rect.unit (s := S2x512x3840) (k0_off9 i) S1x512x256.size (k0_off9_inb i hc2)).toLoadRect (M10.view.writes (Elt Ideal) f10 (runMid.sl.H10_10 (F := Ideal) c i M1 M2 M3 M4 M5 f1 f2 f3 f4 f5 hc2))) (M6.view.readAt (Elt Ideal) (Rect.unit (s := S1x3840) ![0, 512] S1x256.size inb_S1x3840_S1x256_0_512).toLoadRect f6)) (runMid.sl.v552 (F := Ideal) c i M6 M10 M11 f6 f10 f11 hc2) from rfl).trans ?_
  rw [ld_whole, nT_tile M10.view _ _ M6.view f6 _ (slotR i) 512 (by omega) (off9_eq i) _ _, n_i c i M6 M10 M11 f6 f10 f11 hc2]
  obtain ⟨S, hS⟩ := H10_10_slot c i M1 M2 M3 M4 M5 f1 f2 f3 f4 f5 hc2
  rw [hS.other (slotR i) (slotR_ne i) M10.view f10]
  exact qT_tile (nM c i M6 M10 M11 f6 f10 f11) 512 (by omega)

theorem nC_3 : runMid.sl.v839 (F := Ideal) c i M1 M2 M3 M4 M5 M6 M10 M11 f1 f2 f3 f4 f5 f6 f10 f11 hc2 = tile (cB (nM c i M6 M10 M11 f6 f10 f11)) 768 (by omega) := by
  refine (show runMid.sl.v839 (F := Ideal) c i M1 M2 M3 M4 M5 M6 M10 M11 f1 f2 f3 f4 f5 f6 f10 f11 hc2 = qT (nT (rT (M11.view.readAt (Elt Ideal) (Rect.unit (s := S512x128) ![0, 0] S512x128.size inb_S512x128_S512x128_0_0).toLoadRect f11)) (M10.view.readAt (Elt Ideal) (Rect.unit (s := S2x512x3840) (k0_off12 i) S1x512x256.size (k0_off12_inb i hc2)).toLoadRect (M10.view.writes (Elt Ideal) f10 (runMid.sl.H10_11 (F := Ideal) c i M1 M2 M3 M4 M5 f1 f2 f3 f4 f5 hc2))) (M6.view.readAt (Elt Ideal) (Rect.unit (s := S1x3840) ![0, 768] S1x256.size inb_S1x3840_S1x256_0_768).toLoadRect f6)) (runMid.sl.v552 (F := Ideal) c i M6 M10 M11 f6 f10 f11 hc2) from rfl).trans ?_
  rw [ld_whole, nT_tile M10.view _ _ M6.view f6 _ (slotR i) 768 (by omega) (off12_eq i) _ _, n_i c i M6 M10 M11 f6 f10 f11 hc2]
  obtain ⟨S, hS⟩ := H10_11_slot c i M1 M2 M3 M4 M5 f1 f2 f3 f4 f5 hc2
  rw [hS.other (slotR i) (slotR_ne i) M10.view f10]
  exact qT_tile (nM c i M6 M10 M11 f6 f10 f11) 768 (by omega)

theorem nC_4 : runMid.sl.v901 (F := Ideal) c i M1 M2 M3 M4 M5 M6 M10 M11 f1 f2 f3 f4 f5 f6 f10 f11 hc2 = tile (cB (nM c i M6 M10 M11 f6 f10 f11)) 1024 (by omega) := by
  refine (show runMid.sl.v901 (F := Ideal) c i M1 M2 M3 M4 M5 M6 M10 M11 f1 f2 f3 f4 f5 f6 f10 f11 hc2 = qT (nT (rT (M11.view.readAt (Elt Ideal) (Rect.unit (s := S512x128) ![0, 0] S512x128.size inb_S512x128_S512x128_0_0).toLoadRect f11)) (M10.view.readAt (Elt Ideal) (Rect.unit (s := S2x512x3840) (k0_off15 i) S1x512x256.size (k0_off15_inb i hc2)).toLoadRect (M10.view.writes (Elt Ideal) f10 (runMid.sl.H10_12 (F := Ideal) c i M1 M2 M3 M4 M5 f1 f2 f3 f4 f5 hc2))) (M6.view.readAt (Elt Ideal) (Rect.unit (s := S1x3840) ![0, 1024] S1x256.size inb_S1x3840_S1x256_0_1024).toLoadRect f6)) (runMid.sl.v552 (F := Ideal) c i M6 M10 M11 f6 f10 f11 hc2) from rfl).trans ?_
  rw [ld_whole, nT_tile M10.view _ _ M6.view f6 _ (slotR i) 1024 (by omega) (off15_eq i) _ _, n_i c i M6 M10 M11 f6 f10 f11 hc2]
  obtain ⟨S, hS⟩ := H10_12_slot c i M1 M2 M3 M4 M5 f1 f2 f3 f4 f5 hc2
  rw [hS.other (slotR i) (slotR_ne i) M10.view f10]
  exact qT_tile (nM c i M6 M10 M11 f6 f10 f11) 1024 (by omega)

theorem nC_5 : runMid.sl.v963 (F := Ideal) c i M1 M2 M3 M4 M5 M6 M10 M11 f1 f2 f3 f4 f5 f6 f10 f11 hc2 = tile (cB (nM c i M6 M10 M11 f6 f10 f11)) 1280 (by omega) := by
  refine (show runMid.sl.v963 (F := Ideal) c i M1 M2 M3 M4 M5 M6 M10 M11 f1 f2 f3 f4 f5 f6 f10 f11 hc2 = qT (nT (rT (M11.view.readAt (Elt Ideal) (Rect.unit (s := S512x128) ![0, 0] S512x128.size inb_S512x128_S512x128_0_0).toLoadRect f11)) (M10.view.readAt (Elt Ideal) (Rect.unit (s := S2x512x3840) (k0_off18 i) S1x512x256.size (k0_off18_inb i hc2)).toLoadRect (M10.view.writes (Elt Ideal) f10 (runMid.sl.H10_13 (F := Ideal) c i M1 M2 M3 M4 M5 f1 f2 f3 f4 f5 hc2))) (M6.view.readAt (Elt Ideal) (Rect.unit (s := S1x3840) ![0, 1280] S1x256.size inb_S1x3840_S1x256_0_1280).toLoadRect f6)) (runMid.sl.v552 (F := Ideal) c i M6 M10 M11 f6 f10 f11 hc2) from rfl).trans ?_
  rw [ld_whole, nT_tile M10.view _ _ M6.view f6 _ (slotR i) 1280 (by omega) (off18_eq i) _ _, n_i c i M6 M10 M11 f6 f10 f11 hc2]
  obtain ⟨S, hS⟩ := H10_13_slot c i M1 M2 M3 M4 M5 f1 f2 f3 f4 f5 hc2
  rw [hS.other (slotR i) (slotR_ne i) M10.view f10]
  exact qT_tile (nM c i M6 M10 M11 f6 f10 f11) 1280 (by omega)

theorem nC_6 : runMid.sl.v1025 (F := Ideal) c i M1 M2 M3 M4 M5 M6 M10 M11 f1 f2 f3 f4 f5 f6 f10 f11 hc2 = tile (cB (nM c i M6 M10 M11 f6 f10 f11)) 1536 (by omega) := by
  refine (show runMid.sl.v1025 (F := Ideal) c i M1 M2 M3 M4 M5 M6 M10 M11 f1 f2 f3 f4 f5 f6 f10 f11 hc2 = qT (nT (rT (M11.view.readAt (Elt Ideal) (Rect.unit (s := S512x128) ![0, 0] S512x128.size inb_S512x128_S512x128_0_0).toLoadRect f11)) (M10.view.readAt (Elt Ideal) (Rect.unit (s := S2x512x3840) (k0_off21 i) S1x512x256.size (k0_off21_inb i hc2)).toLoadRect (M10.view.writes (Elt Ideal) f10 (runMid.sl.H10_14 (F := Ideal) c i M1 M2 M3 M4 M5 f1 f2 f3 f4 f5 hc2))) (M6.view.readAt (Elt Ideal) (Rect.unit (s := S1x3840) ![0, 1536] S1x256.size inb_S1x3840_S1x256_0_1536).toLoadRect f6)) (runMid.sl.v552 (F := Ideal) c i M6 M10 M11 f6 f10 f11 hc2) from rfl).trans ?_
  rw [ld_whole, nT_tile M10.view _ _ M6.view f6 _ (slotR i) 1536 (by omega) (off21_eq i) _ _, n_i c i M6 M10 M11 f6 f10 f11 hc2]
  obtain ⟨S, hS⟩ := H10_14_slot c i M1 M2 M3 M4 M5 f1 f2 f3 f4 f5 hc2
  rw [hS.other (slotR i) (slotR_ne i) M10.view f10]
  exact qT_tile (nM c i M6 M10 M11 f6 f10 f11) 1536 (by omega)

theorem nC_7 : runMid.sl.v653 (F := Ideal) c i M1 M2 M3 M4 M5 M6 M10 M11 f1 f2 f3 f4 f5 f6 f10 f11 hc2 = tile (cB (nM c i M6 M10 M11 f6 f10 f11)) 1792 (by omega) := by
  refine (show runMid.sl.v653 (F := Ideal) c i M1 M2 M3 M4 M5 M6 M10 M11 f1 f2 f3 f4 f5 f6 f10 f11 hc2 = qT (nT (rT (M11.view.readAt (Elt Ideal) (Rect.unit (s := S512x128) ![0, 0] S512x128.size inb_S512x128_S512x128_0_0).toLoadRect f11)) (M10.view.readAt (Elt Ideal) (Rect.unit (s := S2x512x3840) (k0_off3 i) S1x512x256.size (k0_off3_inb i hc2)).toLoadRect (M10.view.writes (Elt Ideal) f10 (runMid.sl.H10_8 (F := Ideal) c i M1 M2 M3 M4 M5 f1 f2 f3 f4 f5 hc2))) (M6.view.readAt (Elt Ideal) (Rect.unit (s := S1x3840) ![0, 1792] S1x256.size inb_S1x3840_S1x256_0_1792).toLoadRect f6)) (runMid.sl.v552 (F := Ideal) c i M6 M10 M11 f6 f10 f11 hc2) from rfl).trans ?_
  rw [ld_whole, nT_tile M10.view _ _ M6.view f6 _ (slotR i) 1792 (by omega) (off3_eq i) _ _, n_i c i M6 M10 M11 f6 f10 f11 hc2]
  obtain ⟨S, hS⟩ := H10_8_slot c i M1 M2 M3 M4 M5 f1 f2 f3 f4 f5 hc2
  rw [hS.other (slotR i) (slotR_ne i) M10.view f10]
  exact qT_tile (nM c i M6 M10 M11 f6 f10 f11) 1792 (by omega)

theorem nC_8 : runMid.sl.v733 (F := Ideal) c i M1 M2 M3 M4 M5 M6 M10 M11 f1 f2 f3 f4 f5 f6 f10 f11 hc2 = tile (cB (nM c i M6 M10 M11 f6 f10 f11)) 2048 (by omega) := by
  refine (show runMid.sl.v733 (F := Ideal) c i M1 M2 M3 M4 M5 M6 M10 M11 f1 f2 f3 f4 f5 f6 f10 f11 hc2 = qT (nT (rT (M11.view.readAt (Elt Ideal) (Rect.unit (s := S512x128) ![0, 0] S512x128.size inb_S512x128_S512x128_0_0).toLoadRect f11)) (M10.view.readAt (Elt Ideal) (Rect.unit (s := S2x512x3840) (k0_off7 i) S1x512x256.size (k0_off7_inb i hc2)).toLoadRect (M10.view.writes (Elt Ideal) f10 (runMid.sl.H10_9 (F := Ideal) c i M1 M2 M3 M4 M5 f1 f2 f3 f4 f5 hc2))) (M6.view.readAt (Elt Ideal) (Rect.unit (s := S1x3840) ![0, 2048] S1x256.size inb_S1x3840_S1x256_0_2048).toLoadRect f6)) (runMid.sl.v552 (F := Ideal) c i M6 M10 M11 f6 f10 f11 hc2) from rfl).trans ?_
  rw [ld_whole, nT_tile M10.view _ _ M6.view f6 _ (slotR i) 2048 (by omega) (off7_eq i) _ _, n_i c i M6 M10 M11 f6 f10 f11 hc2]
  obtain ⟨S, hS⟩ := H10_9_slot c i M1 M2 M3 M4 M5 f1 f2 f3 f4 f5 hc2
  rw [hS.other (slotR i) (slotR_ne i) M10.view f10]
  exact qT_tile (nM c i M6 M10 M11 f6 f10 f11) 2048 (by omega)

theorem nC_9 : runMid.sl.v795 (F := Ideal) c i M1 M2 M3 M4 M5 M6 M10 M11 f1 f2 f3 f4 f5 f6 f10 f11 hc2 = tile (cB (nM c i M6 M10 M11 f6 f10 f11)) 2304 (by omega) := by
  refine (show runMid.sl.v795 (F := Ideal) c i M1 M2 M3 M4 M5 M6 M10 M11 f1 f2 f3 f4 f5 f6 f10 f11 hc2 = qT (nT (rT (M11.view.readAt (Elt Ideal) (Rect.unit (s := S512x128) ![0, 0] S512x128.size inb_S512x128_S512x128_0_0).toLoadRect f11)) (M10.view.readAt (Elt Ideal) (Rect.unit (s := S2x512x3840) (k0_off10 i) S1x512x256.size (k0_off10_inb i hc2)).toLoadRect (M10.view.writes (Elt Ideal) f10 (runMid.sl.H10_10 (F := Ideal) c i M1 M2 M3 M4 M5 f1 f2 f3 f4 f5 hc2))) (M6.view.readAt (Elt Ideal) (Rect.unit (s := S1x3840) ![0, 2304] S1x256.size inb_S1x3840_S1x256_0_2304).toLoadRect f6)) (runMid.sl.v552 (F := Ideal) c i M6 M10 M11 f6 f10 f11 hc2) from rfl).trans ?_
  rw [ld_whole, nT_tile M10.view _ _ M6.view f6 _ (slotR i) 2304 (by omega) (off10_eq i) _ _, n_i c i M6 M10 M11 f6 f10 f11 hc2]
  obtain ⟨S, hS⟩ := H10_10_slot c i M1 M2 M3 M4 M5 f1 f2 f3 f4 f5 hc2
  rw [hS.other (slotR i) (slotR_ne i) M10.view f10]
  exact qT_tile (nM c i M6 M10 M11 f6 f10 f11) 2304 (by omega)

theorem nC_10 : runMid.sl.v857 (F := Ideal) c i M1 M2 M3 M4 M5 M6 M10 M11 f1 f2 f3 f4 f5 f6 f10 f11 hc2 = tile (cB (nM c i M6 M10 M11 f6 f10 f11)) 2560 (by omega) := by
  refine (show runMid.sl.v857 (F := Ideal) c i M1 M2 M3 M4 M5 M6 M10 M11 f1 f2 f3 f4 f5 f6 f10 f11 hc2 = qT (nT (rT (M11.view.readAt (Elt Ideal) (Rect.unit (s := S512x128) ![0, 0] S512x128.size inb_S512x128_S512x128_0_0).toLoadRect f11)) (M10.view.readAt (Elt Ideal) (Rect.unit (s := S2x512x3840) (k0_off13 i) S1x512x256.size (k0_off13_inb i hc2)).toLoadRect (M10.view.writes (Elt Ideal) f10 (runMid.sl.H10_11 (F := Ideal) c i M1 M2 M3 M4 M5 f1 f2 f3 f4 f5 hc2))) (M6.view.readAt (Elt Ideal) (Rect.unit (s := S1x3840) ![0, 2560] S1x256.size inb_S1x3840_S1x256_0_2560).toLoadRect f6)) (runMid.sl.v552 (F := Ideal) c i M6 M10 M11 f6 f10 f11 hc2) from rfl).trans ?_
  rw [ld_whole, nT_tile M10.view _ _ M6.view f6 _ (slotR i) 2560 (by omega) (off13_eq i) _ _, n_i c i M6 M10 M11 f6 f10 f11 hc2]
  obtain ⟨S, hS⟩ := H10_11_slot c i M1 M2 M3 M4 M5 f1 f2 f3 f4 f5 hc2
  rw [hS.other (slotR i) (slotR_ne i) M10.view f10]
  exact qT_tile (nM c i M6 M10 M11 f6 f10 f11) 2560 (by omega)

theorem nC_11 : runMid.sl.v919 (F := Ideal) c i M1 M2 M3 M4 M5 M6 M10 M11 f1 f2 f3 f4 f5 f6 f10 f11 hc2 = tile (cB (nM c i M6 M10 M11 f6 f10 f11)) 2816 (by omega) := by
  refine (show runMid.sl.v919 (F := Ideal) c i M1 M2 M3 M4 M5 M6 M10 M11 f1 f2 f3 f4 f5 f6 f10 f11 hc2 = qT (nT (rT (M11.view.readAt (Elt Ideal) (Rect.unit (s := S512x128) ![0, 0] S512x128.size inb_S512x128_S512x128_0_0).toLoadRect f11)) (M10.view.readAt (Elt Ideal) (Rect.unit (s := S2x512x3840) (k0_off16 i) S1x512x256.size (k0_off16_inb i hc2)).toLoadRect (M10.view.writes (Elt Ideal) f10 (runMid.sl.H10_12 (F := Ideal) c i M1 M2 M3 M4 M5 f1 f2 f3 f4 f5 hc2))) (M6.view.readAt (Elt Ideal) (Rect.unit (s := S1x3840) ![0, 2816] S1x256.size inb_S1x3840_S1x256_0_2816).toLoadRect f6)) (runMid.sl.v552 (F := Ideal) c i M6 M10 M11 f6 f10 f11 hc2) from rfl).trans ?_
  rw [ld_whole, nT_tile M10.view _ _ M6.view f6 _ (slotR i) 2816 (by omega) (off16_eq i) _ _, n_i c i M6 M10 M11 f6 f10 f11 hc2]
  obtain ⟨S, hS⟩ := H10_12_slot c i M1 M2 M3 M4 M5 f1 f2 f3 f4 f5 hc2
  rw [hS.other (slotR i) (slotR_ne i) M10.view f10]
  exact qT_tile (nM c i M6 M10 M11 f6 f10 f11) 2816 (by omega)

theorem nC_12 : runMid.sl.v981 (F := Ideal) c i M1 M2 M3 M4 M5 M6 M10 M11 f1 f2 f3 f4 f5 f6 f10 f11 hc2 = tile (cB (nM c i M6 M10 M11 f6 f10 f11)) 3072 (by omega) := by
  refine (show runMid.sl.v981 (F := Ideal) c i M1 M2 M3 M4 M5 M6 M10 M11 f1 f2 f3 f4 f5 f6 f10 f11 hc2 = qT (nT (rT (M11.view.readAt (Elt Ideal) (Rect.unit (s := S512x128) ![0, 0] S512x128.size inb_S512x128_S512x128_0_0).toLoadRect f11)) (M10.view.readAt (Elt Ideal) (Rect.unit (s := S2x512x3840) (k0_off19 i) S1x512x256.size (k0_off19_inb i hc2)).toLoadRect (M10.view.writes (Elt Ideal) f10 (runMid.sl.H10_13 (F := Ideal) c i M1 M2 M3 M4 M5 f1 f2 f3 f4 f5 hc2))) (M6.view.readAt (Elt Ideal) (Rect.unit (s := S1x3840) ![0, 3072] S1x256.size inb_S1x3840_S1x256_0_3072).toLoadRect f6)) (runMid.sl.v552 (F := Ideal) c i M6 M10 M11 f6 f10 f11 hc2) from rfl).trans ?_
  rw [ld_whole, nT_tile M10.view _ _ M6.view f6 _ (slotR i) 3072 (by omega) (off19_eq i) _ _, n_i c i M6 M10 M11 f6 f10 f11 hc2]
  obtain ⟨S, hS⟩ := H10_13_slot c i M1 M2 M3 M4 M5 f1 f2 f3 f4 f5 hc2
  rw [hS.other (slotR i) (slotR_ne i) M10.view f10]
  exact qT_tile (nM c i M6 M10 M11 f6 f10 f11) 3072 (by omega)

theorem nC_13 : runMid.sl.v1043 (F := Ideal) c i M1 M2 M3 M4 M5 M6 M10 M11 f1 f2 f3 f4 f5 f6 f10 f11 hc2 = tile (cB (nM c i M6 M10 M11 f6 f10 f11)) 3328 (by omega) := by
  refine (show runMid.sl.v1043 (F := Ideal) c i M1 M2 M3 M4 M5 M6 M10 M11 f1 f2 f3 f4 f5 f6 f10 f11 hc2 = qT (nT (rT (M11.view.readAt (Elt Ideal) (Rect.unit (s := S512x128) ![0, 0] S512x128.size inb_S512x128_S512x128_0_0).toLoadRect f11)) (M10.view.readAt (Elt Ideal) (Rect.unit (s := S2x512x3840) (k0_off22 i) S1x512x256.size (k0_off22_inb i hc2)).toLoadRect (M10.view.writes (Elt Ideal) f10 (runMid.sl.H10_14 (F := Ideal) c i M1 M2 M3 M4 M5 f1 f2 f3 f4 f5 hc2))) (M6.view.readAt (Elt Ideal) (Rect.unit (s := S1x3840) ![0, 3328] S1x256.size inb_S1x3840_S1x256_0_3328).toLoadRect f6)) (runMid.sl.v552 (F := Ideal) c i M6 M10 M11 f6 f10 f11 hc2) from rfl).trans ?_
  rw [ld_whole, nT_tile M10.view _ _ M6.view f6 _ (slotR i) 3328 (by omega) (off22_eq i) _ _, n_i c i M6 M10 M11 f6 f10 f11 hc2]
  obtain ⟨S, hS⟩ := H10_14_slot c i M1 M2 M3 M4 M5 f1 f2 f3 f4 f5 hc2
  rw [hS.other (slotR i) (slotR_ne i) M10.view f10]
  exact qT_tile (nM c i M6 M10 M11 f6 f10 f11) 3328 (by omega)

theorem nC_14 : runMid.sl.v671 (F := Ideal) c i M6 M10 M11 f6 f10 f11 hc2 = tile (cB (nM c i M6 M10 M11 f6 f10 f11)) 3584 (by omega) := by
  refine (show runMid.sl.v671 (F := Ideal) c i M6 M10 M11 f6 f10 f11 hc2 = qT (nT (rT (M11.view.readAt (Elt Ideal) (Rect.unit (s := S512x128) ![0, 0] S512x128.size inb_S512x128_S512x128_0_0).toLoadRect f11)) (M10.view.readAt (Elt Ideal) (Rect.unit (s := S2x512x3840) (k0_off4 i) S1x512x256.size (k0_off4_inb i hc2)).toLoadRect f10) (M6.view.readAt (Elt Ideal) (Rect.unit (s := S1x3840) ![0, 3584] S1x256.size inb_S1x3840_S1x256_0_3584).toLoadRect f6)) (runMid.sl.v552 (F := Ideal) c i M6 M10 M11 f6 f10 f11 hc2) from rfl).trans ?_
  rw [nM_14 c i M6 M10 M11 f6 f10 f11 hc2, n_i c i M6 M10 M11 f6 f10 f11 hc2]
  exact qT_tile (nM c i M6 M10 M11 f6 f10 f11) 3584 (by omega)

set_option maxRecDepth 4000 in
theorem H8_n : ∃ S, TilesOf (runMid.sl.H8_15 (F := Ideal) c i M1 M2 M3 M4 M5 M6 M10 M11 f1 f2 f3 f4 f5 f6 f10 f11 hc2) (cB (nM c i M6 M10 M11 f6 f10 f11)) S ∧ ∀ c, c < 3840 → S c :=
  ⟨_, ((((((((((((((((TilesOf.nil _).cons 0 (by omega) inb_S512x3840_S512x256_0_0 _ (nC_0 c i M1 M2 M3 M4 M5 M6 M10 M11 f1 f2 f3 f4 f5 f6 f10 f11 hc2)).cons 1792 (by omega) inb_S512x3840_S512x256_0_1792 _ (nC_7 c i M1 M2 M3 M4 M5 M6 M10 M11 f1 f2 f3 f4 f5 f6 f10 f11 hc2)).cons 3584 (by omega) inb_S512x3840_S512x256_0_3584 _ (nC_14 c i M6 M10 M11 f6 f10 f11 hc2)).cons 256 (by omega) inb_S512x3840_S512x256_0_256 _ (nC_1 c i M1 M2 M3 M4 M5 M6 M10 M11 f1 f2 f3 f4 f5 f6 f10 f11 hc2)).cons 2048 (by omega) inb_S512x3840_S512x256_0_2048 _ (nC_8 c i M1 M2 M3 M4 M5 M6 M10 M11 f1 f2 f3 f4 f5 f6 f10 f11 hc2)).cons 512 (by omega) inb_S512x3840_S512x256_0_512 _ (nC_2 c i M1 M2 M3 M4 M5 M6 M10 M11 f1 f2 f3 f4 f5 f6 f10 f11 hc2)).cons 2304 (by omega) inb_S512x3840_S512x256_0_2304 _ (nC_9 c i M1 M2 M3 M4 M5 M6 M10 M11 f1 f2 f3 f4 f5 f6 f10 f11 hc2)).cons 768 (by omega) inb_S512x3840_S512x256_0_768 _ (nC_3 c i M1 M2 M3 M4 M5 M6 M10 M11 f1 f2 f3 f4 f5 f6 f10 f11 hc2)).cons 2560 (by omega) inb_S512x3840_S512x256_0_2560 _ (nC_10 c i M1 M2 M3 M4 M5 M6 M10 M11 f1 f2 f3 f4 f5 f6 f10 f11 hc2)).cons 1024 (by omega) inb_S512x3840_S512x256_0_1024 _ (nC_4 c i M1 M2 M3 M4 M5 M6 M10 M11 f1 f2 f3 f4 f5 f6 f10 f11 hc2)).cons 2816 (by omega) inb_S512x3840_S512x256_0_2816 _ (nC_11 c i M1 M2 M3 M4 M5 M6 M10 M11 f1 f2 f3 f4 f5 f6 f10 f11 hc2)).cons 1280 (by omega) inb_S512x3840_S512x256_0_1280 _ (nC_5 c i M1 M2 M3 M4 M5 M6 M10 M11 f1 f2 f3 f4 f5 f6 f10 f11 hc2)).cons 3072 (by omega) inb_S512x3840_S512x256_0_3072 _ (nC_12 c i M1 M2 M3 M4 M5 M6 M10 M11 f1 f2 f3 f4 f5 f6 f10 f11 hc2)).cons 1536 (by omega) inb_S512x3840_S512x256_0_1536 _ (nC_6 c i M1 M2 M3 M4 M5 M6 M10 M11 f1 f2 f3 f4 f5 f6 f10 f11 hc2)).cons 3328 (by omega) inb_S512x3840_S512x256_0_3328 _ (nC_13 c i M1 M2 M3 M4 M5 M6 M10 M11 f1 f2 f3 f4 f5 f6 f10 f11 hc2)), fun c hc => by omega⟩

end Cert.KernelIdeal.Hand

end
-- ==== Proof.LastFacts.lean ====
/-
  What the last point writes of the codes and the scales: those of the block before.
-/
module

public import proofs.«01_k».proof.Proof.Pieces
public import proofs.«01_k».proof.Proof.RunVal
public import proofs.«01_k».proof.Proof.MidFacts

@[expose] public section

noncomputable section

namespace Cert.KernelIdeal.Hand

open Cert.KernelIdeal Cert.KernelIdeal.Gen Cert.Hand
open Idealize.ShloMosaic Idealize.ShloMosaic.TcCoe

variable (c : Dev nD) (i : grid0.Coords)
  (M1 : Memref sig .tc .vmem S512x4096 .fp8e4m3)  (M2 : Memref sig .tc .vmem S16x2048 .f32)  (M3 : Memref sig .tc .vmem S4096x3840 .fp8e4m3)  (M4 : Memref sig .tc .vmem S1x3840 .f32)  (M5 : Memref sig .tc .vmem S512x3840 .bf16)  (M6 : Memref sig .tc .vmem S1x3840 .f32)  (M10 : Memref sig .tc .vmem S2x512x3840 .bf16)  (M11 : Memref sig .tc .vmem S512x128 .f32)
 (f1 : Bf (F := Ideal) c M1) (f2 : Bf (F := Ideal) c M2) (f3 : Bf (F := Ideal) c M3) (f4 : Bf (F := Ideal) c M4) (f5 : Bf (F := Ideal) c M5) (f6 : Bf (F := Ideal) c M6) (f10 : Bf (F := Ideal) c M10) (f11 : Bf (F := Ideal) c M11)
  (hc3 : k0_cond3 i = 1#1)

theorem lM_0 : nT (rT (M11.view.readAt (Elt Ideal) (Rect.unit (s := S512x128) ![0, 0] S512x128.size inb_S512x128_S512x128_0_0).toLoadRect f11)) (M10.view.readAt (Elt Ideal) (Rect.unit (s := S2x512x3840) (k0_off33 i) S1x512x256.size (k0_off33_inb i hc3)).toLoadRect f10) (M6.view.readAt (Elt Ideal) (Rect.unit (s := S1x3840) ![0, 0] S1x256.size inb_S1x3840_S1x256_0_0).toLoadRect f6) = tile (nM c i M6 M10 M11 f6 f10 f11) 0 (by omega) := by
  rw [ld_whole]; exact nT_tile M10.view f10 _ M6.view f6 _ (slotR i) 0 (by omega) (off33_eq i) _ _

theorem lM_1 : nT (rT (M11.view.readAt (Elt Ideal) (Rect.unit (s := S512x128) ![0, 0] S512x128.size inb_S512x128_S512x128_0_0).toLoadRect f11)) (M10.view.readAt (Elt Ideal) (Rect.unit (s := S2x512x3840) (k0_off36 i) S1x512x256.size (k0_off36_inb i hc3)).toLoadRect f10) (M6.view.readAt (Elt Ideal) (Rect.unit (s := S1x3840) ![0, 256] S1x256.size inb_S1x3840_S1x256_0_256).toLoadRect f6) = tile (nM c i M6 M10 M11 f6 f10 f11) 256 (by omega) := by
  rw [ld_whole]; exact nT_tile M10.view f10 _ M6.view f6 _ (slotR i) 256 (by omega) (off36_eq i) _ _

theorem lM_2 : nT (rT (M11.view.readAt (Elt Ideal) (Rect.unit (s := S512x128) ![0, 0] S512x128.size inb_S512x128_S512x128_0_0).toLoadRect f11)) (M10.view.readAt (Elt Ideal) (Rect.unit (s := S2x512x3840) (k0_off38 i) S1x512x256.size (k0_off38_inb i hc3)).toLoadRect f10) (M6.view.readAt (Elt Ideal) (Rect.unit (s := S1x3840) ![0, 512] S1x256.size inb_S1x3840_S1x256_0_512).toLoadRect f6) = tile (nM c i M6 M10 M11 f6 f10 f11) 512 (by omega) := by
  rw [ld_whole]; exact nT_tile M10.view f10 _ M6.view f6 _ (slotR i) 512 (by omega) (off38_eq i) _ _

theorem lM_3 : nT (rT (M11.view.readAt (Elt Ideal) (Rect.unit (s := S512x128) ![0, 0] S512x128.size inb_S512x128_S512x128_0_0).toLoadRect f11)) (M10.view.readAt (Elt Ideal) (Rect.unit (s := S2x512x3840) (k0_off40 i) S1x512x256.size (k0_off40_inb i hc3)).toLoadRect f10) (M6.view.readAt (Elt Ideal) (Rect.unit (s := S1x3840) ![0, 768] S1x256.size inb_S1x3840_S1x256_0_768).toLoadRect f6) = tile (nM c i M6 M10 M11 f6 f10 f11) 768 (by omega) := by
  rw [ld_whole]; exact nT_tile M10.view f10 _ M6.view f6 _ (slotR i) 768 (by omega) (off40_eq i) _ _

theorem lM_4 : nT (rT (M11.view.readAt (Elt Ideal) (Rect.unit (s := S512x128) ![0, 0] S512x128.size inb_S512x128_S512x128_0_0).toLoadRect f11)) (M10.view.readAt (Elt Ideal) (Rect.unit (s := S2x512x3840) (k0_off42 i) S1x512x256.size (k0_off42_inb i hc3)).toLoadRect f10) (M6.view.readAt (Elt Ideal) (Rect.unit (s := S1x3840) ![0, 1024] S1x256.size inb_S1x3840_S1x256_0_1024).toLoadRect f6) = tile (nM c i M6 M10 M11 f6 f10 f11) 1024 (by omega) := by
  rw [ld_whole]; exact nT_tile M10.view f10 _ M6.view f6 _ (slotR i) 1024 (by omega) (off42_eq i) _ _

theorem lM_5 : nT (rT (M11.view.readAt (Elt Ideal) (Rect.unit (s := S512x128) ![0, 0] S512x128.size inb_S512x128_S512x128_0_0).toLoadRect f11)) (M10.view.readAt (Elt Ideal) (Rect.unit (s := S2x512x3840) (k0_off44 i) S1x512x256.size (k0_off44_inb i hc3)).toLoadRect f10) (M6.view.readAt (Elt Ideal) (Rect.unit (s := S1x3840) ![0, 1280] S1x256.size inb_S1x3840_S1x256_0_1280).toLoadRect f6) = tile (nM c i M6 M10 M11 f6 f10 f11) 1280 (by omega) := by
  rw [ld_whole]; exact nT_tile M10.view f10 _ M6.view f6 _ (slotR i) 1280 (by omega) (off44_eq i) _ _

theorem lM_6 : nT (rT (M11.view.readAt (Elt Ideal) (Rect.unit (s := S512x128) ![0, 0] S512x128.size inb_S512x128_S512x128_0_0).toLoadRect f11)) (M10.view.readAt (Elt Ideal) (Rect.unit (s := S2x512x3840) (k0_off46 i) S1x512x256.size (k0_off46_inb i hc3)).toLoadRect f10) (M6.view.readAt (Elt Ideal) (Rect.unit (s := S1x3840) ![0, 1536] S1x256.size inb_S1x3840_S1x256_0_1536).toLoadRect f6) = tile (nM c i M6 M10 M11 f6 f10 f11) 1536 (by omega) := by
  rw [ld_whole]; exact nT_tile M10.view f10 _ M6.view f6 _ (slotR i) 1536 (by omega) (off46_eq i) _ _

theorem lM_7 : nT (rT (M11.view.readAt (Elt Ideal) (Rect.unit (s := S512x128) ![0, 0] S512x128.size inb_S512x128_S512x128_0_0).toLoadRect f11)) (M10.view.readAt (Elt Ideal) (Rect.unit (s := S2x512x3840) (k0_off34 i) S1x512x256.size (k0_off34_inb i hc3)).toLoadRect f10) (M6.view.readAt (Elt Ideal) (Rect.unit (s := S1x3840) ![0, 1792] S1x256.size inb_S1x3840_S1x256_0_1792).toLoadRect f6) = tile (nM c i M6 M10 M11 f6 f10 f11) 1792 (by omega) := by
  rw [ld_whole]; exact nT_tile M10.view f10 _ M6.view f6 _ (slotR i) 1792 (by omega) (off34_eq i) _ _

theorem lM_8 : nT (rT (M11.view.readAt (Elt Ideal) (Rect.unit (s := S512x128) ![0, 0] S512x128.size inb_S512x128_S512x128_0_0).toLoadRect f11)) (M10.view.readAt (Elt Ideal) (Rect.unit (s := S2x512x3840) (k0_off37 i) S1x512x256.size (k0_off37_inb i hc3)).toLoadRect f10) (M6.view.readAt (Elt Ideal) (Rect.unit (s := S1x3840) ![0, 2048] S1x256.size inb_S1x3840_S1x256_0_2048).toLoadRect f6) = tile (nM c i M6 M10 M11 f6 f10 f11) 2048 (by omega) := by
  rw [ld_whole]; exact nT_tile M10.view f10 _ M6.view f6 _ (slotR i) 2048 (by omega) (off37_eq i) _ _

theorem lM_9 : nT (rT (M11.view.readAt (Elt Ideal) (Rect.unit (s := S512x128) ![0, 0] S512x128.size inb_S512x128_S512x128_0_0).toLoadRect f11)) (M10.view.readAt (Elt Ideal) (Rect.unit (s := S2x512x3840) (k0_off39 i) S1x512x256.size (k0_off39_inb i hc3)).toLoadRect f10) (M6.view.readAt (Elt Ideal) (Rect.unit (s := S1x3840) ![0, 2304] S1x256.size inb_S1x3840_S1x256_0_2304).toLoadRect f6) = tile (nM c i M6 M10 M11 f6 f10 f11) 2304 (by omega) := by
  rw [ld_whole]; exact nT_tile M10.view f10 _ M6.view f6 _ (slotR i) 2304 (by omega) (off39_eq i) _ _

theorem lM_10 : nT (rT (M11.view.readAt (Elt Ideal) (Rect.unit (s := S512x128) ![0, 0] S512x128.size inb_S512x128_S512x128_0_0).toLoadRect f11)) (M10.view.readAt (Elt Ideal) (Rect.unit (s := S2x512x3840) (k0_off41 i) S1x512x256.size (k0_off41_inb i hc3)).toLoadRect f10) (M6.view.readAt (Elt Ideal) (Rect.unit (s := S1x3840) ![0, 2560] S1x256.size inb_S1x3840_S1x256_0_2560).toLoadRect f6) = tile (nM c i M6 M10 M11 f6 f10 f11) 2560 (by omega) := by
  rw [ld_whole]; exact nT_tile M10.view f10 _ M6.view f6 _ (slotR i) 2560 (by omega) (off41_eq i) _ _

theorem lM_11 : nT (rT (M11.view.readAt (Elt Ideal) (Rect.unit (s := S512x128) ![0, 0] S512x128.size inb_S512x128_S512x128_0_0).toLoadRect f11)) (M10.view.readAt (Elt Ideal) (Rect.unit (s := S2x512x3840) (k0_off43 i) S1x512x256.size (k0_off43_inb i hc3)).toLoadRect f10) (M6.view.readAt (Elt Ideal) (Rect.unit (s := S1x3840) ![0, 2816] S1x256.size inb_S1x3840_S1x256_0_2816).toLoadRect f6) = tile (nM c i M6 M10 M11 f6 f10 f11) 2816 (by omega) := by
  rw [ld_whole]; exact nT_tile M10.view f10 _ M6.view f6 _ (slotR i) 2816 (by omega) (off43_eq i) _ _

theorem lM_12 : nT (rT (M11.view.readAt (Elt Ideal) (Rect.unit (s := S512x128) ![0, 0] S512x128.size inb_S512x128_S512x128_0_0).toLoadRect f11)) (M10.view.readAt (Elt Ideal) (Rect.unit (s := S2x512x3840) (k0_off45 i) S1x512x256.size (k0_off45_inb i hc3)).toLoadRect f10) (M6.view.readAt (Elt Ideal) (Rect.unit (s := S1x3840) ![0, 3072] S1x256.size inb_S1x3840_S1x256_0_3072).toLoadRect f6) = tile (nM c i M6 M10 M11 f6 f10 f11) 3072 (by omega) := by
  rw [ld_whole]; exact nT_tile M10.view f10 _ M6.view f6 _ (slotR i) 3072 (by omega) (off45_eq i) _ _

theorem lM_13 : nT (rT (M11.view.readAt (Elt Ideal) (Rect.unit (s := S512x128) ![0, 0] S512x128.size inb_S512x128_S512x128_0_0).toLoadRect f11)) (M10.view.readAt (Elt Ideal) (Rect.unit (s := S2x512x3840) (k0_off47 i) S1x512x256.size (k0_off47_inb i hc3)).toLoadRect f10) (M6.view.readAt (Elt Ideal) (Rect.unit (s := S1x3840) ![0, 3328] S1x256.size inb_S1x3840_S1x256_0_3328).toLoadRect f6) = tile (nM c i M6 M10 M11 f6 f10 f11) 3328 (by omega) := by
  rw [ld_whole]; exact nT_tile M10.view f10 _ M6.view f6 _ (slotR i) 3328 (by omega) (off47_eq i) _ _

theorem lM_14 : nT (rT (M11.view.readAt (Elt Ideal) (Rect.unit (s := S512x128) ![0, 0] S512x128.size inb_S512x128_S512x128_0_0).toLoadRect f11)) (M10.view.readAt (Elt Ideal) (Rect.unit (s := S2x512x3840) (k0_off35 i) S1x512x256.size (k0_off35_inb i hc3)).toLoadRect f10) (M6.view.readAt (Elt Ideal) (Rect.unit (s := S1x3840) ![0, 3584] S1x256.size inb_S1x3840_S1x256_0_3584).toLoadRect f6) = tile (nM c i M6 M10 M11 f6 f10 f11) 3584 (by omega) := by
  rw [ld_whole]; exact nT_tile M10.view f10 _ M6.view f6 _ (slotR i) 3584 (by omega) (off35_eq i) _ _

theorem lm_1 : runLast.sl.r_1 (F := Ideal) c i M6 M10 M11 f6 f10 f11 hc3 = maximumf (mT (tile (nM c i M6 M10 M11 f6 f10 f11) 0 (by omega))) (mT (tile (nM c i M6 M10 M11 f6 f10 f11) 1792 (by omega))) :=
  (show runLast.sl.r_1 (F := Ideal) c i M6 M10 M11 f6 f10 f11 hc3 = maximumf (mT (nT (rT (M11.view.readAt (Elt Ideal) (Rect.unit (s := S512x128) ![0, 0] S512x128.size inb_S512x128_S512x128_0_0).toLoadRect f11)) (M10.view.readAt (Elt Ideal) (Rect.unit (s := S2x512x3840) (k0_off33 i) S1x512x256.size (k0_off33_inb i hc3)).toLoadRect f10) (M6.view.readAt (Elt Ideal) (Rect.unit (s := S1x3840) ![0, 0] S1x256.size inb_S1x3840_S1x256_0_0).toLoadRect f6))) (mT (nT (rT (M11.view.readAt (Elt Ideal) (Rect.unit (s := S512x128) ![0, 0] S512x128.size inb_S512x128_S512x128_0_0).toLoadRect f11)) (M10.view.readAt (Elt Ideal) (Rect.unit (s := S2x512x3840) (k0_off34 i) S1x512x256.size (k0_off34_inb i hc3)).toLoadRect f10) (M6.view.readAt (Elt Ideal) (Rect.unit (s := S1x3840) ![0, 1792] S1x256.size inb_S1x3840_S1x256_0_1792).toLoadRect f6))) from rfl).trans (by rw [lM_0 c i M6 M10 M11 f6 f10 f11 hc3, lM_7 c i M6 M10 M11 f6 f10 f11 hc3])

theorem lm_2 : runLast.sl.v73 (F := Ideal) c i M6 M10 M11 f6 f10 f11 hc3 = maximumf (maximumf (mT (tile (nM c i M6 M10 M11 f6 f10 f11) 0 (by omega))) (mT (tile (nM c i M6 M10 M11 f6 f10 f11) 1792 (by omega)))) (mT (tile (nM c i M6 M10 M11 f6 f10 f11) 3584 (by omega))) :=
  (show runLast.sl.v73 (F := Ideal) c i M6 M10 M11 f6 f10 f11 hc3 = maximumf (runLast.sl.r_1 (F := Ideal) c i M6 M10 M11 f6 f10 f11 hc3) (mT (nT (rT (M11.view.readAt (Elt Ideal) (Rect.unit (s := S512x128) ![0, 0] S512x128.size inb_S512x128_S512x128_0_0).toLoadRect f11)) (M10.view.readAt (Elt Ideal) (Rect.unit (s := S2x512x3840) (k0_off35 i) S1x512x256.size (k0_off35_inb i hc3)).toLoadRect f10) (M6.view.readAt (Elt Ideal) (Rect.unit (s := S1x3840) ![0, 3584] S1x256.size inb_S1x3840_S1x256_0_3584).toLoadRect f6))) from rfl).trans (by rw [lm_1 c i M6 M10 M11 f6 f10 f11 hc3, lM_14 c i M6 M10 M11 f6 f10 f11 hc3])

theorem lm_3 : runLast.sl.v88 (F := Ideal) c i M6 M10 M11 f6 f10 f11 hc3 = maximumf (maximumf (maximumf (mT (tile (nM c i M6 M10 M11 f6 f10 f11) 0 (by omega))) (mT (tile (nM c i M6 M10 M11 f6 f10 f11) 1792 (by omega)))) (mT (tile (nM c i M6 M10 M11 f6 f10 f11) 3584 (by omega)))) (mT (tile (nM c i M6 M10 M11 f6 f10 f11) 256 (by omega))) :=
  (show runLast.sl.v88 (F := Ideal) c i M6 M10 M11 f6 f10 f11 hc3 = maximumf (runLast.sl.v73 (F := Ideal) c i M6 M10 M11 f6 f10 f11 hc3) (mT (nT (rT (M11.view.readAt (Elt Ideal) (Rect.unit (s := S512x128) ![0, 0] S512x128.size inb_S512x128_S512x128_0_0).toLoadRect f11)) (M10.view.readAt (Elt Ideal) (Rect.unit (s := S2x512x3840) (k0_off36 i) S1x512x256.size (k0_off36_inb i hc3)).toLoadRect f10) (M6.view.readAt (Elt Ideal) (Rect.unit (s := S1x3840) ![0, 256] S1x256.size inb_S1x3840_S1x256_0_256).toLoadRect f6))) from rfl).trans (by rw [lm_2 c i M6 M10 M11 f6 f10 f11 hc3, lM_1 c i M6 M10 M11 f6 f10 f11 hc3])

theorem lm_4 : runLast.sl.v103 (F := Ideal) c i M6 M10 M11 f6 f10 f11 hc3 = maximumf (maximumf (maximumf (maximumf (mT (tile (nM c i M6 M10 M11 f6 f10 f11) 0 (by omega))) (mT (tile (nM c i M6 M10 M11 f6 f10 f11) 1792 (by omega)))) (mT (tile (nM c i M6 M10 M11 f6 f10 f11) 3584 (by omega)))) (mT (tile (nM c i M6 M10 M11 f6 f10 f11) 256 (by omega)))) (mT (tile (nM c i M6 M10 M11 f6 f10 f11) 2048 (by omega))) :=
  (show runLast.sl.v103 (F := Ideal) c i M6 M10 M11 f6 f10 f11 hc3 = maximumf (runLast.sl.v88 (F := Ideal) c i M6 M10 M11 f6 f10 f11 hc3) (mT (nT (rT (M11.view.readAt (Elt Ideal) (Rect.unit (s := S512x128) ![0, 0] S512x128.size inb_S512x128_S512x128_0_0).toLoadRect f11)) (M10.view.readAt (Elt Ideal) (Rect.unit (s := S2x512x3840) (k0_off37 i) S1x512x256.size (k0_off37_inb i hc3)).toLoadRect f10) (M6.view.readAt (Elt Ideal) (Rect.unit (s := S1x3840) ![0, 2048] S1x256.size inb_S1x3840_S1x256_0_2048).toLoadRect f6))) from rfl).trans (by rw [lm_3 c i M6 M10 M11 f6 f10 f11 hc3, lM_8 c i M6 M10 M11 f6 f10 f11 hc3])

theorem lm_5 : runLast.sl.v118 (F := Ideal) c i M6 M10 M11 f6 f10 f11 hc3 = maximumf (maximumf (maximumf (maximumf (maximumf (mT (tile (nM c i M6 M10 M11 f6 f10 f11) 0 (by omega))) (mT (tile (nM c i M6 M10 M11 f6 f10 f11) 1792 (by omega)))) (mT (tile (nM c i M6 M10 M11 f6 f10 f11) 3584 (by omega)))) (mT (tile (nM c i M6 M10 M11 f6 f10 f11) 256 (by omega)))) (mT (tile (nM c i M6 M10 M11 f6 f10 f11) 2048 (by omega)))) (mT (tile (nM c i M6 M10 M11 f6 f10 f11) 512 (by omega))) :=
  (show runLast.sl.v118 (F := Ideal) c i M6 M10 M11 f6 f10 f11 hc3 = maximumf (runLast.sl.v103 (F := Ideal) c i M6 M10 M11 f6 f10 f11 hc3) (mT (nT (rT (M11.view.readAt (Elt Ideal) (Rect.unit (s := S512x128) ![0, 0] S512x128.size inb_S512x128_S512x128_0_0).toLoadRect f11)) (M10.view.readAt (Elt Ideal) (Rect.unit (s := S2x512x3840) (k0_off38 i) S1x512x256.size (k0_off38_inb i hc3)).toLoadRect f10) (M6.view.readAt (Elt Ideal) (Rect.unit (s := S1x3840) ![0, 512] S1x256.size inb_S1x3840_S1x256_0_512).toLoadRect f6))) from rfl).trans (by rw [lm_4 c i M6 M10 M11 f6 f10 f11 hc3, lM_2 c i M6 M10 M11 f6 f10 f11 hc3])

theorem lm_6 : runLast.sl.v133 (F := Ideal) c i M6 M10 M11 f6 f10 f11 hc3 = maximumf (maximumf (maximumf (maximumf (maximumf (maximumf (mT (tile (nM c i M6 M10 M11 f6 f10 f11) 0 (by omega))) (mT (tile (nM c i M6 M10 M11 f6 f10 f11) 1792 (by omega)))) (mT (tile (nM c i M6 M10 M11 f6 f10 f11) 3584 (by omega)))) (mT (tile (nM c i M6 M10 M11 f6 f10 f11) 256 (by omega)))) (mT (tile (nM c i M6 M10 M11 f6 f10 f11) 2048 (by omega)))) (mT (tile (nM c i M6 M10 M11 f6 f10 f11) 512 (by omega)))) (mT (tile (nM c i M6 M10 M11 f6 f10 f11) 2304 (by omega))) :=
  (show runLast.sl.v133 (F := Ideal) c i M6 M10 M11 f6 f10 f11 hc3 = maximumf (runLast.sl.v118 (F := Ideal) c i M6 M10 M11 f6 f10 f11 hc3) (mT (nT (rT (M11.view.readAt (Elt Ideal) (Rect.unit (s := S512x128) ![0, 0] S512x128.size inb_S512x128_S512x128_0_0).toLoadRect f11)) (M10.view.readAt (Elt Ideal) (Rect.unit (s := S2x512x3840) (k0_off39 i) S1x512x256.size (k0_off39_inb i hc3)).toLoadRect f10) (M6.view.readAt (Elt Ideal) (Rect.unit (s := S1x3840) ![0, 2304] S1x256.size inb_S1x3840_S1x256_0_2304).toLoadRect f6))) from rfl).trans (by rw [lm_5 c i M6 M10 M11 f6 f10 f11 hc3, lM_9 c i M6 M10 M11 f6 f10 f11 hc3])

theorem lm_7 : runLast.sl.v148 (F := Ideal) c i M6 M10 M11 f6 f10 f11 hc3 = maximumf (maximumf (maximumf (maximumf (maximumf (maximumf (maximumf (mT (tile (nM c i M6 M10 M11 f6 f10 f11) 0 (by omega))) (mT (tile (nM c i M6 M10 M11 f6 f10 f11) 1792 (by omega)))) (mT (tile (nM c i M6 M10 M11 f6 f10 f11) 3584 (by omega)))) (mT (tile (nM c i M6 M10 M11 f6 f10 f11) 256 (by omega)))) (mT (tile (nM c i M6 M10 M11 f6 f10 f11) 2048 (by omega)))) (mT (tile (nM c i M6 M10 M11 f6 f10 f11) 512 (by omega)))) (mT (tile (nM c i M6 M10 M11 f6 f10 f11) 2304 (by omega)))) (mT (tile (nM c i M6 M10 M11 f6 f10 f11) 768 (by omega))) :=
  (show runLast.sl.v148 (F := Ideal) c i M6 M10 M11 f6 f10 f11 hc3 = maximumf (runLast.sl.v133 (F := Ideal) c i M6 M10 M11 f6 f10 f11 hc3) (mT (nT (rT (M11.view.readAt (Elt Ideal) (Rect.unit (s := S512x128) ![0, 0] S512x128.size inb_S512x128_S512x128_0_0).toLoadRect f11)) (M10.view.readAt (Elt Ideal) (Rect.unit (s := S2x512x3840) (k0_off40 i) S1x512x256.size (k0_off40_inb i hc3)).toLoadRect f10) (M6.view.readAt (Elt Ideal) (Rect.unit (s := S1x3840) ![0, 768] S1x256.size inb_S1x3840_S1x256_0_768).toLoadRect f6))) from rfl).trans (by rw [lm_6 c i M6 M10 M11 f6 f10 f11 hc3, lM_3 c i M6 M10 M11 f6 f10 f11 hc3])

theorem lm_8 : runLast.sl.v163 (F := Ideal) c i M6 M10 M11 f6 f10 f11 hc3 = maximumf (maximumf (maximumf (maximumf (maximumf (maximumf (maximumf (maximumf (mT (tile (nM c i M6 M10 M11 f6 f10 f11) 0 (by omega))) (mT (tile (nM c i M6 M10 M11 f6 f10 f11) 1792 (by omega)))) (mT (tile (nM c i M6 M10 M11 f6 f10 f11) 3584 (by omega)))) (mT (tile (nM c i M6 M10 M11 f6 f10 f11) 256 (by omega)))) (mT (tile (nM c i M6 M10 M11 f6 f10 f11) 2048 (by omega)))) (mT (tile (nM c i M6 M10 M11 f6 f10 f11) 512 (by omega)))) (mT (tile (nM c i M6 M10 M11 f6 f10 f11) 2304 (by omega)))) (mT (tile (nM c i M6 M10 M11 f6 f10 f11) 768 (by omega)))) (mT (tile (nM c i M6 M10 M11 f6 f10 f11) 2560 (by omega))) :=
  (show runLast.sl.v163 (F := Ideal) c i M6 M10 M11 f6 f10 f11 hc3 = maximumf (runLast.sl.v148 (F := Ideal) c i M6 M10 M11 f6 f10 f11 hc3) (mT (nT (rT (M11.view.readAt (Elt Ideal) (Rect.unit (s := S512x128) ![0, 0] S512x128.size inb_S512x128_S512x128_0_0).toLoadRect f11)) (M10.view.readAt (Elt Ideal) (Rect.unit (s := S2x512x3840) (k0_off41 i) S1x512x256.size (k0_off41_inb i hc3)).toLoadRect f10) (M6.view.readAt (Elt Ideal) (Rect.unit (s := S1x3840) ![0, 2560] S1x256.size inb_S1x3840_S1x256_0_2560).toLoadRect f6))) from rfl).trans (by rw [lm_7 c i M6 M10 M11 f6 f10 f11 hc3, lM_10 c i M6 M10 M11 f6 f10 f11 hc3])

theorem lm_9 : runLast.sl.v178 (F := Ideal) c i M6 M10 M11 f6 f10 f11 hc3 = maximumf (maximumf (maximumf (maximumf (maximumf (maximumf (maximumf (maximumf (maximumf (mT (tile (nM c i M6 M10 M11 f6 f10 f11) 0 (by omega))) (mT (tile (nM c i M6 M10 M11 f6 f10 f11) 1792 (by omega)))) (mT (tile (nM c i M6 M10 M11 f6 f10 f11) 3584 (by omega)))) (mT (tile (nM c i M6 M10 M11 f6 f10 f11) 256 (by omega)))) (mT (tile (nM c i M6 M10 M11 f6 f10 f11) 2048 (by omega)))) (mT (tile (nM c i M6 M10 M11 f6 f10 f11) 512 (by omega)))) (mT (tile (nM c i M6 M10 M11 f6 f10 f11) 2304 (by omega)))) (mT (tile (nM c i M6 M10 M11 f6 f10 f11) 768 (by omega)))) (mT (tile (nM c i M6 M10 M11 f6 f10 f11) 2560 (by omega)))) (mT (tile (nM c i M6 M10 M11 f6 f10 f11) 1024 (by omega))) :=
  (show runLast.sl.v178 (F := Ideal) c i M6 M10 M11 f6 f10 f11 hc3 = maximumf (runLast.sl.v163 (F := Ideal) c i M6 M10 M11 f6 f10 f11 hc3) (mT (nT (rT (M11.view.readAt (Elt Ideal) (Rect.unit (s := S512x128) ![0, 0] S512x128.size inb_S512x128_S512x128_0_0).toLoadRect f11)) (M10.view.readAt (Elt Ideal) (Rect.unit (s := S2x512x3840) (k0_off42 i) S1x512x256.size (k0_off42_inb i hc3)).toLoadRect f10) (M6.view.readAt (Elt Ideal) (Rect.unit (s := S1x3840) ![0, 1024] S1x256.size inb_S1x3840_S1x256_0_1024).toLoadRect f6))) from rfl).trans (by rw [lm_8 c i M6 M10 M11 f6 f10 f11 hc3, lM_4 c i M6 M10 M11 f6 f10 f11 hc3])

theorem lm_10 : runLast.sl.v193 (F := Ideal) c i M6 M10 M11 f6 f10 f11 hc3 = maximumf (maximumf (maximumf (maximumf (maximumf (maximumf (maximumf (maximumf (maximumf (maximumf (mT (tile (nM c i M6 M10 M11 f6 f10 f11) 0 (by omega))) (mT (tile (nM c i M6 M10 M11 f6 f10 f11) 1792 (by omega)))) (mT (tile (nM c i M6 M10 M11 f6 f10 f11) 3584 (by omega)))) (mT (tile (nM c i M6 M10 M11 f6 f10 f11) 256 (by omega)))) (mT (tile (nM c i M6 M10 M11 f6 f10 f11) 2048 (by omega)))) (mT (tile (nM c i M6 M10 M11 f6 f10 f11) 512 (by omega)))) (mT (tile (nM c i M6 M10 M11 f6 f10 f11) 2304 (by omega)))) (mT (tile (nM c i M6 M10 M11 f6 f10 f11) 768 (by omega)))) (mT (tile (nM c i M6 M10 M11 f6 f10 f11) 2560 (by omega)))) (mT (tile (nM c i M6 M10 M11 f6 f10 f11) 1024 (by omega)))) (mT (tile (nM c i M6 M10 M11 f6 f10 f11) 2816 (by omega))) :=
  (show runLast.sl.v193 (F := Ideal) c i M6 M10 M11 f6 f10 f11 hc3 = maximumf (runLast.sl.v178 (F := Ideal) c i M6 M10 M11 f6 f10 f11 hc3) (mT (nT (rT (M11.view.readAt (Elt Ideal) (Rect.unit (s := S512x128) ![0, 0] S512x128.size inb_S512x128_S512x128_0_0).toLoadRect f11)) (M10.view.readAt (Elt Ideal) (Rect.unit (s := S2x512x3840) (k0_off43 i) S1x512x256.size (k0_off43_inb i hc3)).toLoadRect f10) (M6.view.readAt (Elt Ideal) (Rect.unit (s := S1x3840) ![0, 2816] S1x256.size inb_S1x3840_S1x256_0_2816).toLoadRect f6))) from rfl).trans (by rw [lm_9 c i M6 M10 M11 f6 f10 f11 hc3, lM_11 c i M6 M10 M11 f6 f10 f11 hc3])

theorem lm_11 : runLast.sl.v208 (F := Ideal) c i M6 M10 M11 f6 f10 f11 hc3 = maximumf (maximumf (maximumf (maximumf (maximumf (maximumf (maximumf (maximumf (maximumf (maximumf (maximumf (mT (tile (nM c i M6 M10 M11 f6 f10 f11) 0 (by omega))) (mT (tile (nM c i M6 M10 M11 f6 f10 f11) 1792 (by omega)))) (mT (tile (nM c i M6 M10 M11 f6 f10 f11) 3584 (by omega)))) (mT (tile (nM c i M6 M10 M11 f6 f10 f11) 256 (by omega)))) (mT (tile (nM c i M6 M10 M11 f6 f10 f11) 2048 (by omega)))) (mT (tile (nM c i M6 M10 M11 f6 f10 f11) 512 (by omega)))) (mT (tile (nM c i M6 M10 M11 f6 f10 f11) 2304 (by omega)))) (mT (tile (nM c i M6 M10 M11 f6 f10 f11) 768 (by omega)))) (mT (tile (nM c i M6 M10 M11 f6 f10 f11) 2560 (by omega)))) (mT (tile (nM c i M6 M10 M11 f6 f10 f11) 1024 (by omega)))) (mT (tile (nM c i M6 M10 M11 f6 f10 f11) 2816 (by omega)))) (mT (tile (nM c i M6 M10 M11 f6 f10 f11) 1280 (by omega))) :=
  (show runLast.sl.v208 (F := Ideal) c i M6 M10 M11 f6 f10 f11 hc3 = maximumf (runLast.sl.v193 (F := Ideal) c i M6 M10 M11 f6 f10 f11 hc3) (mT (nT (rT (M11.view.readAt (Elt Ideal) (Rect.unit (s := S512x128) ![0, 0] S512x128.size inb_S512x128_S512x128_0_0).toLoadRect f11)) (M10.view.readAt (Elt Ideal) (Rect.unit (s := S2x512x3840) (k0_off44 i) S1x512x256.size (k0_off44_inb i hc3)).toLoadRect f10) (M6.view.readAt (Elt Ideal) (Rect.unit (s := S1x3840) ![0, 1280] S1x256.size inb_S1x3840_S1x256_0_1280).toLoadRect f6))) from rfl).trans (by rw [lm_10 c i M6 M10 M11 f6 f10 f11 hc3, lM_5 c i M6 M10 M11 f6 f10 f11 hc3])

theorem lm_12 : runLast.sl.v223 (F := Ideal) c i M6 M10 M11 f6 f10 f11 hc3 = maximumf (maximumf (maximumf (maximumf (maximumf (maximumf (maximumf (maximumf (maximumf (maximumf (maximumf (maximumf (mT (tile (nM c i M6 M10 M11 f6 f10 f11) 0 (by omega))) (mT (tile (nM c i M6 M10 M11 f6 f10 f11) 1792 (by omega)))) (mT (tile (nM c i M6 M10 M11 f6 f10 f11) 3584 (by omega)))) (mT (tile (nM c i M6 M10 M11 f6 f10 f11) 256 (by omega)))) (mT (tile (nM c i M6 M10 M11 f6 f10 f11) 2048 (by omega)))) (mT (tile (nM c i M6 M10 M11 f6 f10 f11) 512 (by omega)))) (mT (tile (nM c i M6 M10 M11 f6 f10 f11) 2304 (by omega)))) (mT (tile (nM c i M6 M10 M11 f6 f10 f11) 768 (by omega)))) (mT (tile (nM c i M6 M10 M11 f6 f10 f11) 2560 (by omega)))) (mT (tile (nM c i M6 M10 M11 f6 f10 f11) 1024 (by omega)))) (mT (tile (nM c i M6 M10 M11 f6 f10 f11) 2816 (by omega)))) (mT (tile (nM c i M6 M10 M11 f6 f10 f11) 1280 (by omega)))) (mT (tile (nM c i M6 M10 M11 f6 f10 f11) 3072 (by omega))) :=
  (show runLast.sl.v223 (F := Ideal) c i M6 M10 M11 f6 f10 f11 hc3 = maximumf (runLast.sl.v208 (F := Ideal) c i M6 M10 M11 f6 f10 f11 hc3) (mT (nT (rT (M11.view.readAt (Elt Ideal) (Rect.unit (s := S512x128) ![0, 0] S512x128.size inb_S512x128_S512x128_0_0).toLoadRect f11)) (M10.view.readAt (Elt Ideal) (Rect.unit (s := S2x512x3840) (k0_off45 i) S1x512x256.size (k0_off45_inb i hc3)).toLoadRect f10) (M6.view.readAt (Elt Ideal) (Rect.unit (s := S1x3840) ![0, 3072] S1x256.size inb_S1x3840_S1x256_0_3072).toLoadRect f6))) from rfl).trans (by rw [lm_11 c i M6 M10 M11 f6 f10 f11 hc3, lM_12 c i M6 M10 M11 f6 f10 f11 hc3])

theorem lm_13 : runLast.sl.v238 (F := Ideal) c i M6 M10 M11 f6 f10 f11 hc3 = maximumf (maximumf (maximumf (maximumf (maximumf (maximumf (maximumf (maximumf (maximumf (maximumf (maximumf (maximumf (maximumf (mT (tile (nM c i M6 M10 M11 f6 f10 f11) 0 (by omega))) (mT (tile (nM c i M6 M10 M11 f6 f10 f11) 1792 (by omega)))) (mT (tile (nM c i M6 M10 M11 f6 f10 f11) 3584 (by omega)))) (mT (tile (nM c i M6 M10 M11 f6 f10 f11) 256 (by omega)))) (mT (tile (nM c i M6 M10 M11 f6 f10 f11) 2048 (by omega)))) (mT (tile (nM c i M6 M10 M11 f6 f10 f11) 512 (by omega)))) (mT (tile (nM c i M6 M10 M11 f6 f10 f11) 2304 (by omega)))) (mT (tile (nM c i M6 M10 M11 f6 f10 f11) 768 (by omega)))) (mT (tile (nM c i M6 M10 M11 f6 f10 f11) 2560 (by omega)))) (mT (tile (nM c i M6 M10 M11 f6 f10 f11) 1024 (by omega)))) (mT (tile (nM c i M6 M10 M11 f6 f10 f11) 2816 (by omega)))) (mT (tile (nM c i M6 M10 M11 f6 f10 f11) 1280 (by omega)))) (mT (tile (nM c i M6 M10 M11 f6 f10 f11) 3072 (by omega)))) (mT (tile (nM c i M6 M10 M11 f6 f10 f11) 1536 (by omega))) :=
  (show runLast.sl.v238 (F := Ideal) c i M6 M10 M11 f6 f10 f11 hc3 = maximumf (runLast.sl.v223 (F := Ideal) c i M6 M10 M11 f6 f10 f11 hc3) (mT (nT (rT (M11.view.readAt (Elt Ideal) (Rect.unit (s := S512x128) ![0, 0] S512x128.size inb_S512x128_S512x128_0_0).toLoadRect f11)) (M10.view.readAt (Elt Ideal) (Rect.unit (s := S2x512x3840) (k0_off46 i) S1x512x256.size (k0_off46_inb i hc3)).toLoadRect f10) (M6.view.readAt (Elt Ideal) (Rect.unit (s := S1x3840) ![0, 1536] S1x256.size inb_S1x3840_S1x256_0_1536).toLoadRect f6))) from rfl).trans (by rw [lm_12 c i M6 M10 M11 f6 f10 f11 hc3, lM_6 c i M6 M10 M11 f6 f10 f11 hc3])

theorem lm_14 : runLast.sl.v253 (F := Ideal) c i M6 M10 M11 f6 f10 f11 hc3 = mB (nM c i M6 M10 M11 f6 f10 f11) :=
  (show runLast.sl.v253 (F := Ideal) c i M6 M10 M11 f6 f10 f11 hc3 = maximumf (runLast.sl.v238 (F := Ideal) c i M6 M10 M11 f6 f10 f11 hc3) (mT (nT (rT (M11.view.readAt (Elt Ideal) (Rect.unit (s := S512x128) ![0, 0] S512x128.size inb_S512x128_S512x128_0_0).toLoadRect f11)) (M10.view.readAt (Elt Ideal) (Rect.unit (s := S2x512x3840) (k0_off47 i) S1x512x256.size (k0_off47_inb i hc3)).toLoadRect f10) (M6.view.readAt (Elt Ideal) (Rect.unit (s := S1x3840) ![0, 3328] S1x256.size inb_S1x3840_S1x256_0_3328).toLoadRect f6))) from rfl).trans (by rw [lm_13 c i M6 M10 M11 f6 f10 f11 hc3, lM_13 c i M6 M10 M11 f6 f10 f11 hc3]; rfl)

theorem l_x : runLast.sl.v257 (F := Ideal) c i M6 M10 M11 f6 f10 f11 hc3 = xqT (mB (nM c i M6 M10 M11 f6 f10 f11)) :=
  (show runLast.sl.v257 (F := Ideal) c i M6 M10 M11 f6 f10 f11 hc3 = xqT (runLast.sl.v253 (F := Ideal) c i M6 M10 M11 f6 f10 f11 hc3) from rfl).trans (by rw [lm_14])

theorem l_s0 : runLast.sl.v265 (F := Ideal) c i M6 M10 M11 f6 f10 f11 hc3 = (stepT (xqT (mB (nM c i M6 M10 M11 f6 f10 f11))) 128#32 (broadcast S512x1 0#32)) :=
  (show runLast.sl.v265 (F := Ideal) c i M6 M10 M11 f6 f10 f11 hc3 = stepT (runLast.sl.v257 (F := Ideal) c i M6 M10 M11 f6 f10 f11 hc3) 128#32 (broadcast S512x1 0#32) from rfl).trans (by rw [l_x])

theorem l_s1 : runLast.sl.v272 (F := Ideal) c i M6 M10 M11 f6 f10 f11 hc3 = (stepT (xqT (mB (nM c i M6 M10 M11 f6 f10 f11))) 64#32 (stepT (xqT (mB (nM c i M6 M10 M11 f6 f10 f11))) 128#32 (broadcast S512x1 0#32))) :=
  (show runLast.sl.v272 (F := Ideal) c i M6 M10 M11 f6 f10 f11 hc3 = stepT (runLast.sl.v257 (F := Ideal) c i M6 M10 M11 f6 f10 f11 hc3) 64#32 (runLast.sl.v265 (F := Ideal) c i M6 M10 M11 f6 f10 f11 hc3) from rfl).trans (by rw [l_x, l_s0])

theorem l_s2 : runLast.sl.v279 (F := Ideal) c i M6 M10 M11 f6 f10 f11 hc3 = (stepT (xqT (mB (nM c i M6 M10 M11 f6 f10 f11))) 32#32 (stepT (xqT (mB (nM c i M6 M10 M11 f6 f10 f11))) 64#32 (stepT (xqT (mB (nM c i M6 M10 M11 f6 f10 f11))) 128#32 (broadcast S512x1 0#32)))) :=
  (show runLast.sl.v279 (F := Ideal) c i M6 M10 M11 f6 f10 f11 hc3 = stepT (runLast.sl.v257 (F := Ideal) c i M6 M10 M11 f6 f10 f11 hc3) 32#32 (runLast.sl.v272 (F := Ideal) c i M6 M10 M11 f6 f10 f11 hc3) from rfl).trans (by rw [l_x, l_s1])

theorem l_s3 : runLast.sl.v286 (F := Ideal) c i M6 M10 M11 f6 f10 f11 hc3 = (stepT (xqT (mB (nM c i M6 M10 M11 f6 f10 f11))) 16#32 (stepT (xqT (mB (nM c i M6 M10 M11 f6 f10 f11))) 32#32 (stepT (xqT (mB (nM c i M6 M10 M11 f6 f10 f11))) 64#32 (stepT (xqT (mB (nM c i M6 M10 M11 f6 f10 f11))) 128#32 (broadcast S512x1 0#32))))) :=
  (show runLast.sl.v286 (F := Ideal) c i M6 M10 M11 f6 f10 f11 hc3 = stepT (runLast.sl.v257 (F := Ideal) c i M6 M10 M11 f6 f10 f11 hc3) 16#32 (runLast.sl.v279 (F := Ideal) c i M6 M10 M11 f6 f10 f11 hc3) from rfl).trans (by rw [l_x, l_s2])

theorem l_s4 : runLast.sl.v293 (F := Ideal) c i M6 M10 M11 f6 f10 f11 hc3 = (stepT (xqT (mB (nM c i M6 M10 M11 f6 f10 f11))) 8#32 (stepT (xqT (mB (nM c i M6 M10 M11 f6 f10 f11))) 16#32 (stepT (xqT (mB (nM c i M6 M10 M11 f6 f10 f11))) 32#32 (stepT (xqT (mB (nM c i M6 M10 M11 f6 f10 f11))) 64#32 (stepT (xqT (mB (nM c i M6 M10 M11 f6 f10 f11))) 128#32 (broadcast S512x1 0#32)))))) :=
  (show runLast.sl.v293 (F := Ideal) c i M6 M10 M11 f6 f10 f11 hc3 = stepT (runLast.sl.v257 (F := Ideal) c i M6 M10 M11 f6 f10 f11 hc3) 8#32 (runLast.sl.v286 (F := Ideal) c i M6 M10 M11 f6 f10 f11 hc3) from rfl).trans (by rw [l_x, l_s3])

theorem l_s5 : runLast.sl.v300 (F := Ideal) c i M6 M10 M11 f6 f10 f11 hc3 = (stepT (xqT (mB (nM c i M6 M10 M11 f6 f10 f11))) 4#32 (stepT (xqT (mB (nM c i M6 M10 M11 f6 f10 f11))) 8#32 (stepT (xqT (mB (nM c i M6 M10 M11 f6 f10 f11))) 16#32 (stepT (xqT (mB (nM c i M6 M10 M11 f6 f10 f11))) 32#32 (stepT (xqT (mB (nM c i M6 M10 M11 f6 f10 f11))) 64#32 (stepT (xqT (mB (nM c i M6 M10 M11 f6 f10 f11))) 128#32 (broadcast S512x1 0#32))))))) :=
  (show runLast.sl.v300 (F := Ideal) c i M6 M10 M11 f6 f10 f11 hc3 = stepT (runLast.sl.v257 (F := Ideal) c i M6 M10 M11 f6 f10 f11 hc3) 4#32 (runLast.sl.v293 (F := Ideal) c i M6 M10 M11 f6 f10 f11 hc3) from rfl).trans (by rw [l_x, l_s4])

theorem l_s6 : runLast.sl.v307 (F := Ideal) c i M6 M10 M11 f6 f10 f11 hc3 = (stepT (xqT (mB (nM c i M6 M10 M11 f6 f10 f11))) 2#32 (stepT (xqT (mB (nM c i M6 M10 M11 f6 f10 f11))) 4#32 (stepT (xqT (mB (nM c i M6 M10 M11 f6 f10 f11))) 8#32 (stepT (xqT (mB (nM c i M6 M10 M11 f6 f10 f11))) 16#32 (stepT (xqT (mB (nM c i M6 M10 M11 f6 f10 f11))) 32#32 (stepT (xqT (mB (nM c i M6 M10 M11 f6 f10 f11))) 64#32 (stepT (xqT (mB (nM c i M6 M10 M11 f6 f10 f11))) 128#32 (broadcast S512x1 0#32)))))))) :=
  (show runLast.sl.v307 (F := Ideal) c i M6 M10 M11 f6 f10 f11 hc3 = stepT (runLast.sl.v257 (F := Ideal) c i M6 M10 M11 f6 f10 f11 hc3) 2#32 (runLast.sl.v300 (F := Ideal) c i M6 M10 M11 f6 f10 f11 hc3) from rfl).trans (by rw [l_x, l_s5])

theorem l_s7 : runLast.sl.v314 (F := Ideal) c i M6 M10 M11 f6 f10 f11 hc3 = fieldT (xqT (mB (nM c i M6 M10 M11 f6 f10 f11))) :=
  (show runLast.sl.v314 (F := Ideal) c i M6 M10 M11 f6 f10 f11 hc3 = stepT (runLast.sl.v257 (F := Ideal) c i M6 M10 M11 f6 f10 f11 hc3) 1#32 (runLast.sl.v307 (F := Ideal) c i M6 M10 M11 f6 f10 f11 hc3) from rfl).trans (by rw [l_x, l_s6]; rfl)

theorem l_e : runLast.sl.v325 (F := Ideal) c i M6 M10 M11 f6 f10 f11 hc3 = eB (nM c i M6 M10 M11 f6 f10 f11) :=
  (show runLast.sl.v325 (F := Ideal) c i M6 M10 M11 f6 f10 f11 hc3 = eT (runLast.sl.v314 (F := Ideal) c i M6 M10 M11 f6 f10 f11 hc3) from rfl).trans (by rw [l_s7]; rfl)

theorem l_i : runLast.sl.v332 (F := Ideal) c i M6 M10 M11 f6 f10 f11 hc3 = invT (eB (nM c i M6 M10 M11 f6 f10 f11)) :=
  (show runLast.sl.v332 (F := Ideal) c i M6 M10 M11 f6 f10 f11 hc3 = invT (runLast.sl.v325 (F := Ideal) c i M6 M10 M11 f6 f10 f11 hc3) from rfl).trans (by rw [l_e])

theorem l_sc : runLast.sl.v341 (F := Ideal) c i M6 M10 M11 f6 f10 f11 hc3 = scT (eB (nM c i M6 M10 M11 f6 f10 f11)) :=
  (show runLast.sl.v341 (F := Ideal) c i M6 M10 M11 f6 f10 f11 hc3 = scT (runLast.sl.v325 (F := Ideal) c i M6 M10 M11 f6 f10 f11 hc3) from rfl).trans (by rw [l_e])

theorem lC_0 : runLast.sl.v389 (F := Ideal) c i M6 M10 M11 f6 f10 f11 hc3 = tile (cB (nM c i M6 M10 M11 f6 f10 f11)) 0 (by omega) := by
  refine (show runLast.sl.v389 (F := Ideal) c i M6 M10 M11 f6 f10 f11 hc3 = qT (nT (rT (M11.view.readAt (Elt Ideal) (Rect.unit (s := S512x128) ![0, 0] S512x128.size inb_S512x128_S512x128_0_0).toLoadRect f11)) (M10.view.readAt (Elt Ideal) (Rect.unit (s := S2x512x3840) (k0_off33 i) S1x512x256.size (k0_off33_inb i hc3)).toLoadRect f10) (M6.view.readAt (Elt Ideal) (Rect.unit (s := S1x3840) ![0, 0] S1x256.size inb_S1x3840_S1x256_0_0).toLoadRect f6)) (runLast.sl.v332 (F := Ideal) c i M6 M10 M11 f6 f10 f11 hc3) from rfl).trans ?_
  rw [lM_0 c i M6 M10 M11 f6 f10 f11 hc3, l_i c i M6 M10 M11 f6 f10 f11 hc3]
  exact qT_tile (nM c i M6 M10 M11 f6 f10 f11) 0 (by omega)

theorem lC_1 : runLast.sl.v443 (F := Ideal) c i M6 M10 M11 f6 f10 f11 hc3 = tile (cB (nM c i M6 M10 M11 f6 f10 f11)) 256 (by omega) := by
  refine (show runLast.sl.v443 (F := Ideal) c i M6 M10 M11 f6 f10 f11 hc3 = qT (nT (rT (M11.view.readAt (Elt Ideal) (Rect.unit (s := S512x128) ![0, 0] S512x128.size inb_S512x128_S512x128_0_0).toLoadRect f11)) (M10.view.readAt (Elt Ideal) (Rect.unit (s := S2x512x3840) (k0_off36 i) S1x512x256.size (k0_off36_inb i hc3)).toLoadRect f10) (M6.view.readAt (Elt Ideal) (Rect.unit (s := S1x3840) ![0, 256] S1x256.size inb_S1x3840_S1x256_0_256).toLoadRect f6)) (runLast.sl.v332 (F := Ideal) c i M6 M10 M11 f6 f10 f11 hc3) from rfl).trans ?_
  rw [lM_1 c i M6 M10 M11 f6 f10 f11 hc3, l_i c i M6 M10 M11 f6 f10 f11 hc3]
  exact qT_tile (nM c i M6 M10 M11 f6 f10 f11) 256 (by omega)

theorem lC_2 : runLast.sl.v479 (F := Ideal) c i M6 M10 M11 f6 f10 f11 hc3 = tile (cB (nM c i M6 M10 M11 f6 f10 f11)) 512 (by omega) := by
  refine (show runLast.sl.v479 (F := Ideal) c i M6 M10 M11 f6 f10 f11 hc3 = qT (nT (rT (M11.view.readAt (Elt Ideal) (Rect.unit (s := S512x128) ![0, 0] S512x128.size inb_S512x128_S512x128_0_0).toLoadRect f11)) (M10.view.readAt (Elt Ideal) (Rect.unit (s := S2x512x3840) (k0_off38 i) S1x512x256.size (k0_off38_inb i hc3)).toLoadRect f10) (M6.view.readAt (Elt Ideal) (Rect.unit (s := S1x3840) ![0, 512] S1x256.size inb_S1x3840_S1x256_0_512).toLoadRect f6)) (runLast.sl.v332 (F := Ideal) c i M6 M10 M11 f6 f10 f11 hc3) from rfl).trans ?_
  rw [lM_2 c i M6 M10 M11 f6 f10 f11 hc3, l_i c i M6 M10 M11 f6 f10 f11 hc3]
  exact qT_tile (nM c i M6 M10 M11 f6 f10 f11) 512 (by omega)

theorem lC_3 : runLast.sl.v515 (F := Ideal) c i M6 M10 M11 f6 f10 f11 hc3 = tile (cB (nM c i M6 M10 M11 f6 f10 f11)) 768 (by omega) := by
  refine (show runLast.sl.v515 (F := Ideal) c i M6 M10 M11 f6 f10 f11 hc3 = qT (nT (rT (M11.view.readAt (Elt Ideal) (Rect.unit (s := S512x128) ![0, 0] S512x128.size inb_S512x128_S512x128_0_0).toLoadRect f11)) (M10.view.readAt (Elt Ideal) (Rect.unit (s := S2x512x3840) (k0_off40 i) S1x512x256.size (k0_off40_inb i hc3)).toLoadRect f10) (M6.view.readAt (Elt Ideal) (Rect.unit (s := S1x3840) ![0, 768] S1x256.size inb_S1x3840_S1x256_0_768).toLoadRect f6)) (runLast.sl.v332 (F := Ideal) c i M6 M10 M11 f6 f10 f11 hc3) from rfl).trans ?_
  rw [lM_3 c i M6 M10 M11 f6 f10 f11 hc3, l_i c i M6 M10 M11 f6 f10 f11 hc3]
  exact qT_tile (nM c i M6 M10 M11 f6 f10 f11) 768 (by omega)

theorem lC_4 : runLast.sl.v551 (F := Ideal) c i M6 M10 M11 f6 f10 f11 hc3 = tile (cB (nM c i M6 M10 M11 f6 f10 f11)) 1024 (by omega) := by
  refine (show runLast.sl.v551 (F := Ideal) c i M6 M10 M11 f6 f10 f11 hc3 = qT (nT (rT (M11.view.readAt (Elt Ideal) (Rect.unit (s := S512x128) ![0, 0] S512x128.size inb_S512x128_S512x128_0_0).toLoadRect f11)) (M10.view.readAt (Elt Ideal) (Rect.unit (s := S2x512x3840) (k0_off42 i) S1x512x256.size (k0_off42_inb i hc3)).toLoadRect f10) (M6.view.readAt (Elt Ideal) (Rect.unit (s := S1x3840) ![0, 1024] S1x256.size inb_S1x3840_S1x256_0_1024).toLoadRect f6)) (runLast.sl.v332 (F := Ideal) c i M6 M10 M11 f6 f10 f11 hc3) from rfl).trans ?_
  rw [lM_4 c i M6 M10 M11 f6 f10 f11 hc3, l_i c i M6 M10 M11 f6 f10 f11 hc3]
  exact qT_tile (nM c i M6 M10 M11 f6 f10 f11) 1024 (by omega)

theorem lC_5 : runLast.sl.v587 (F := Ideal) c i M6 M10 M11 f6 f10 f11 hc3 = tile (cB (nM c i M6 M10 M11 f6 f10 f11)) 1280 (by omega) := by
  refine (show runLast.sl.v587 (F := Ideal) c i M6 M10 M11 f6 f10 f11 hc3 = qT (nT (rT (M11.view.readAt (Elt Ideal) (Rect.unit (s := S512x128) ![0, 0] S512x128.size inb_S512x128_S512x128_0_0).toLoadRect f11)) (M10.view.readAt (Elt Ideal) (Rect.unit (s := S2x512x3840) (k0_off44 i) S1x512x256.size (k0_off44_inb i hc3)).toLoadRect f10) (M6.view.readAt (Elt Ideal) (Rect.unit (s := S1x3840) ![0, 1280] S1x256.size inb_S1x3840_S1x256_0_1280).toLoadRect f6)) (runLast.sl.v332 (F := Ideal) c i M6 M10 M11 f6 f10 f11 hc3) from rfl).trans ?_
  rw [lM_5 c i M6 M10 M11 f6 f10 f11 hc3, l_i c i M6 M10 M11 f6 f10 f11 hc3]
  exact qT_tile (nM c i M6 M10 M11 f6 f10 f11) 1280 (by omega)

theorem lC_6 : runLast.sl.v623 (F := Ideal) c i M6 M10 M11 f6 f10 f11 hc3 = tile (cB (nM c i M6 M10 M11 f6 f10 f11)) 1536 (by omega) := by
  refine (show runLast.sl.v623 (F := Ideal) c i M6 M10 M11 f6 f10 f11 hc3 = qT (nT (rT (M11.view.readAt (Elt Ideal) (Rect.unit (s := S512x128) ![0, 0] S512x128.size inb_S512x128_S512x128_0_0).toLoadRect f11)) (M10.view.readAt (Elt Ideal) (Rect.unit (s := S2x512x3840) (k0_off46 i) S1x512x256.size (k0_off46_inb i hc3)).toLoadRect f10) (M6.view.readAt (Elt Ideal) (Rect.unit (s := S1x3840) ![0, 1536] S1x256.size inb_S1x3840_S1x256_0_1536).toLoadRect f6)) (runLast.sl.v332 (F := Ideal) c i M6 M10 M11 f6 f10 f11 hc3) from rfl).trans ?_
  rw [lM_6 c i M6 M10 M11 f6 f10 f11 hc3, l_i c i M6 M10 M11 f6 f10 f11 hc3]
  exact qT_tile (nM c i M6 M10 M11 f6 f10 f11) 1536 (by omega)

theorem lC_7 : runLast.sl.v407 (F := Ideal) c i M6 M10 M11 f6 f10 f11 hc3 = tile (cB (nM c i M6 M10 M11 f6 f10 f11)) 1792 (by omega) := by
  refine (show runLast.sl.v407 (F := Ideal) c i M6 M10 M11 f6 f10 f11 hc3 = qT (nT (rT (M11.view.readAt (Elt Ideal) (Rect.unit (s := S512x128) ![0, 0] S512x128.size inb_S512x128_S512x128_0_0).toLoadRect f11)) (M10.view.readAt (Elt Ideal) (Rect.unit (s := S2x512x3840) (k0_off34 i) S1x512x256.size (k0_off34_inb i hc3)).toLoadRect f10) (M6.view.readAt (Elt Ideal) (Rect.unit (s := S1x3840) ![0, 1792] S1x256.size inb_S1x3840_S1x256_0_1792).toLoadRect f6)) (runLast.sl.v332 (F := Ideal) c i M6 M10 M11 f6 f10 f11 hc3) from rfl).trans ?_
  rw [lM_7 c i M6 M10 M11 f6 f10 f11 hc3, l_i c i M6 M10 M11 f6 f10 f11 hc3]
  exact qT_tile (nM c i M6 M10 M11 f6 f10 f11) 1792 (by omega)

theorem lC_8 : runLast.sl.v461 (F := Ideal) c i M6 M10 M11 f6 f10 f11 hc3 = tile (cB (nM c i M6 M10 M11 f6 f10 f11)) 2048 (by omega) := by
  refine (show runLast.sl.v461 (F := Ideal) c i M6 M10 M11 f6 f10 f11 hc3 = qT (nT (rT (M11.view.readAt (Elt Ideal) (Rect.unit (s := S512x128) ![0, 0] S512x128.size inb_S512x128_S512x128_0_0).toLoadRect f11)) (M10.view.readAt (Elt Ideal) (Rect.unit (s := S2x512x3840) (k0_off37 i) S1x512x256.size (k0_off37_inb i hc3)).toLoadRect f10) (M6.view.readAt (Elt Ideal) (Rect.unit (s := S1x3840) ![0, 2048] S1x256.size inb_S1x3840_S1x256_0_2048).toLoadRect f6)) (runLast.sl.v332 (F := Ideal) c i M6 M10 M11 f6 f10 f11 hc3) from rfl).trans ?_
  rw [lM_8 c i M6 M10 M11 f6 f10 f11 hc3, l_i c i M6 M10 M11 f6 f10 f11 hc3]
  exact qT_tile (nM c i M6 M10 M11 f6 f10 f11) 2048 (by omega)

theorem lC_9 : runLast.sl.v497 (F := Ideal) c i M6 M10 M11 f6 f10 f11 hc3 = tile (cB (nM c i M6 M10 M11 f6 f10 f11)) 2304 (by omega) := by
  refine (show runLast.sl.v497 (F := Ideal) c i M6 M10 M11 f6 f10 f11 hc3 = qT (nT (rT (M11.view.readAt (Elt Ideal) (Rect.unit (s := S512x128) ![0, 0] S512x128.size inb_S512x128_S512x128_0_0).toLoadRect f11)) (M10.view.readAt (Elt Ideal) (Rect.unit (s := S2x512x3840) (k0_off39 i) S1x512x256.size (k0_off39_inb i hc3)).toLoadRect f10) (M6.view.readAt (Elt Ideal) (Rect.unit (s := S1x3840) ![0, 2304] S1x256.size inb_S1x3840_S1x256_0_2304).toLoadRect f6)) (runLast.sl.v332 (F := Ideal) c i M6 M10 M11 f6 f10 f11 hc3) from rfl).trans ?_
  rw [lM_9 c i M6 M10 M11 f6 f10 f11 hc3, l_i c i M6 M10 M11 f6 f10 f11 hc3]
  exact qT_tile (nM c i M6 M10 M11 f6 f10 f11) 2304 (by omega)

theorem lC_10 : runLast.sl.v533 (F := Ideal) c i M6 M10 M11 f6 f10 f11 hc3 = tile (cB (nM c i M6 M10 M11 f6 f10 f11)) 2560 (by omega) := by
  refine (show runLast.sl.v533 (F := Ideal) c i M6 M10 M11 f6 f10 f11 hc3 = qT (nT (rT (M11.view.readAt (Elt Ideal) (Rect.unit (s := S512x128) ![0, 0] S512x128.size inb_S512x128_S512x128_0_0).toLoadRect f11)) (M10.view.readAt (Elt Ideal) (Rect.unit (s := S2x512x3840) (k0_off41 i) S1x512x256.size (k0_off41_inb i hc3)).toLoadRect f10) (M6.view.readAt (Elt Ideal) (Rect.unit (s := S1x3840) ![0, 2560] S1x256.size inb_S1x3840_S1x256_0_2560).toLoadRect f6)) (runLast.sl.v332 (F := Ideal) c i M6 M10 M11 f6 f10 f11 hc3) from rfl).trans ?_
  rw [lM_10 c i M6 M10 M11 f6 f10 f11 hc3, l_i c i M6 M10 M11 f6 f10 f11 hc3]
  exact qT_tile (nM c i M6 M10 M11 f6 f10 f11) 2560 (by omega)

theorem lC_11 : runLast.sl.v569 (F := Ideal) c i M6 M10 M11 f6 f10 f11 hc3 = tile (cB (nM c i M6 M10 M11 f6 f10 f11)) 2816 (by omega) := by
  refine (show runLast.sl.v569 (F := Ideal) c i M6 M10 M11 f6 f10 f11 hc3 = qT (nT (rT (M11.view.readAt (Elt Ideal) (Rect.unit (s := S512x128) ![0, 0] S512x128.size inb_S512x128_S512x128_0_0).toLoadRect f11)) (M10.view.readAt (Elt Ideal) (Rect.unit (s := S2x512x3840) (k0_off43 i) S1x512x256.size (k0_off43_inb i hc3)).toLoadRect f10) (M6.view.readAt (Elt Ideal) (Rect.unit (s := S1x3840) ![0, 2816] S1x256.size inb_S1x3840_S1x256_0_2816).toLoadRect f6)) (runLast.sl.v332 (F := Ideal) c i M6 M10 M11 f6 f10 f11 hc3) from rfl).trans ?_
  rw [lM_11 c i M6 M10 M11 f6 f10 f11 hc3, l_i c i M6 M10 M11 f6 f10 f11 hc3]
  exact qT_tile (nM c i M6 M10 M11 f6 f10 f11) 2816 (by omega)

theorem lC_12 : runLast.sl.v605 (F := Ideal) c i M6 M10 M11 f6 f10 f11 hc3 = tile (cB (nM c i M6 M10 M11 f6 f10 f11)) 3072 (by omega) := by
  refine (show runLast.sl.v605 (F := Ideal) c i M6 M10 M11 f6 f10 f11 hc3 = qT (nT (rT (M11.view.readAt (Elt Ideal) (Rect.unit (s := S512x128) ![0, 0] S512x128.size inb_S512x128_S512x128_0_0).toLoadRect f11)) (M10.view.readAt (Elt Ideal) (Rect.unit (s := S2x512x3840) (k0_off45 i) S1x512x256.size (k0_off45_inb i hc3)).toLoadRect f10) (M6.view.readAt (Elt Ideal) (Rect.unit (s := S1x3840) ![0, 3072] S1x256.size inb_S1x3840_S1x256_0_3072).toLoadRect f6)) (runLast.sl.v332 (F := Ideal) c i M6 M10 M11 f6 f10 f11 hc3) from rfl).trans ?_
  rw [lM_12 c i M6 M10 M11 f6 f10 f11 hc3, l_i c i M6 M10 M11 f6 f10 f11 hc3]
  exact qT_tile (nM c i M6 M10 M11 f6 f10 f11) 3072 (by omega)

theorem lC_13 : k0_pay4 (runLast.sl.r (F := Ideal) c M11 f11) (runLast.sl.v332 (F := Ideal) c i M6 M10 M11 f6 f10 f11 hc3) (M10.view.readAt (Elt Ideal) (Rect.unit (s := S2x512x3840) (k0_off47 i) S1x512x256.size (k0_off47_inb i hc3)).toLoadRect f10) (M6.view.readAt (Elt Ideal) (Rect.unit (s := S1x3840) ![0, 3328] S1x256.size inb_S1x3840_S1x256_0_3328).toLoadRect f6) = tile (cB (nM c i M6 M10 M11 f6 f10 f11)) 3328 (by omega) := by
  refine (show k0_pay4 (runLast.sl.r (F := Ideal) c M11 f11) (runLast.sl.v332 (F := Ideal) c i M6 M10 M11 f6 f10 f11 hc3) (M10.view.readAt (Elt Ideal) (Rect.unit (s := S2x512x3840) (k0_off47 i) S1x512x256.size (k0_off47_inb i hc3)).toLoadRect f10) (M6.view.readAt (Elt Ideal) (Rect.unit (s := S1x3840) ![0, 3328] S1x256.size inb_S1x3840_S1x256_0_3328).toLoadRect f6) = qT (nT (rT (M11.view.readAt (Elt Ideal) (Rect.unit (s := S512x128) ![0, 0] S512x128.size inb_S512x128_S512x128_0_0).toLoadRect f11)) (M10.view.readAt (Elt Ideal) (Rect.unit (s := S2x512x3840) (k0_off47 i) S1x512x256.size (k0_off47_inb i hc3)).toLoadRect f10) (M6.view.readAt (Elt Ideal) (Rect.unit (s := S1x3840) ![0, 3328] S1x256.size inb_S1x3840_S1x256_0_3328).toLoadRect f6)) (runLast.sl.v332 (F := Ideal) c i M6 M10 M11 f6 f10 f11 hc3) from rfl).trans ?_
  rw [lM_13 c i M6 M10 M11 f6 f10 f11 hc3, l_i c i M6 M10 M11 f6 f10 f11 hc3]
  exact qT_tile (nM c i M6 M10 M11 f6 f10 f11) 3328 (by omega)

theorem lC_14 : runLast.sl.v425 (F := Ideal) c i M6 M10 M11 f6 f10 f11 hc3 = tile (cB (nM c i M6 M10 M11 f6 f10 f11)) 3584 (by omega) := by
  refine (show runLast.sl.v425 (F := Ideal) c i M6 M10 M11 f6 f10 f11 hc3 = qT (nT (rT (M11.view.readAt (Elt Ideal) (Rect.unit (s := S512x128) ![0, 0] S512x128.size inb_S512x128_S512x128_0_0).toLoadRect f11)) (M10.view.readAt (Elt Ideal) (Rect.unit (s := S2x512x3840) (k0_off35 i) S1x512x256.size (k0_off35_inb i hc3)).toLoadRect f10) (M6.view.readAt (Elt Ideal) (Rect.unit (s := S1x3840) ![0, 3584] S1x256.size inb_S1x3840_S1x256_0_3584).toLoadRect f6)) (runLast.sl.v332 (F := Ideal) c i M6 M10 M11 f6 f10 f11 hc3) from rfl).trans ?_
  rw [lM_14 c i M6 M10 M11 f6 f10 f11 hc3, l_i c i M6 M10 M11 f6 f10 f11 hc3]
  exact qT_tile (nM c i M6 M10 M11 f6 f10 f11) 3584 (by omega)

set_option maxRecDepth 4000 in
theorem H8_l : ∃ S, TilesOf (runLast.sl.H8_15 (F := Ideal) c i M6 M10 M11 f6 f10 f11 hc3) (cB (nM c i M6 M10 M11 f6 f10 f11)) S ∧ ∀ c, c < 3840 → S c :=
  ⟨_, ((((((((((((((((TilesOf.nil _).cons 0 (by omega) inb_S512x3840_S512x256_0_0 _ (lC_0 c i M6 M10 M11 f6 f10 f11 hc3)).cons 1792 (by omega) inb_S512x3840_S512x256_0_1792 _ (lC_7 c i M6 M10 M11 f6 f10 f11 hc3)).cons 3584 (by omega) inb_S512x3840_S512x256_0_3584 _ (lC_14 c i M6 M10 M11 f6 f10 f11 hc3)).cons 256 (by omega) inb_S512x3840_S512x256_0_256 _ (lC_1 c i M6 M10 M11 f6 f10 f11 hc3)).cons 2048 (by omega) inb_S512x3840_S512x256_0_2048 _ (lC_8 c i M6 M10 M11 f6 f10 f11 hc3)).cons 512 (by omega) inb_S512x3840_S512x256_0_512 _ (lC_2 c i M6 M10 M11 f6 f10 f11 hc3)).cons 2304 (by omega) inb_S512x3840_S512x256_0_2304 _ (lC_9 c i M6 M10 M11 f6 f10 f11 hc3)).cons 768 (by omega) inb_S512x3840_S512x256_0_768 _ (lC_3 c i M6 M10 M11 f6 f10 f11 hc3)).cons 2560 (by omega) inb_S512x3840_S512x256_0_2560 _ (lC_10 c i M6 M10 M11 f6 f10 f11 hc3)).cons 1024 (by omega) inb_S512x3840_S512x256_0_1024 _ (lC_4 c i M6 M10 M11 f6 f10 f11 hc3)).cons 2816 (by omega) inb_S512x3840_S512x256_0_2816 _ (lC_11 c i M6 M10 M11 f6 f10 f11 hc3)).cons 1280 (by omega) inb_S512x3840_S512x256_0_1280 _ (lC_5 c i M6 M10 M11 f6 f10 f11 hc3)).cons 3072 (by omega) inb_S512x3840_S512x256_0_3072 _ (lC_12 c i M6 M10 M11 f6 f10 f11 hc3)).cons 1536 (by omega) inb_S512x3840_S512x256_0_1536 _ (lC_6 c i M6 M10 M11 f6 f10 f11 hc3)).cons 3328 (by omega) inb_S512x3840_S512x256_0_3328 _ (lC_13 c i M6 M10 M11 f6 f10 f11 hc3)), fun c hc => by omega⟩

end Cert.KernelIdeal.Hand

end
-- ==== Proof.ValBody.lean ====
/-
  What the kernel body leaves in every buffer, at each of its points, as blocks.
-/
module

public import proofs.«01_k».proof.Proof.LastFacts

@[expose] public section

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- The 512 activation scales of block `p`. -/
def xsRow (p : Nat) (X2 : S16x2048.Idx → Elt Ideal .f32) : Vec Ideal S1x512 .f32 :=
  fun y => X2 (ix2 ⟨p / 4 % 16, by omega⟩ ⟨p % 4 * 512 + (y 1).val, by have := (y 1).isLt; have h : (y 1).val < 512 := this; omega⟩)

/-- The block a cell of the scales belongs to. -/
def rowOf (y : S16x2048.Idx) : Nat := (y 0).val * 4 + (y 1).val / 512

/-- The token within its block of a cell of the scales. -/
def tokOf (y : S16x2048.Idx) : Fin 512 := ⟨(y 1).val % 512, by omega⟩

/-- What a point leaves, of what it finds. -/
structure Left (i : Nat) (sr sw : Fin 2) (X1 : S512x4096.Idx → Elt Ideal .fp8e4m3) (X2 : S16x2048.Idx → Elt Ideal .f32) (X3 : S4096x3840.Idx → Elt Ideal .fp8e4m3)
    (X4 : S1x3840.Idx → Elt Ideal .f32) (X5 : S512x3840.Idx → Elt Ideal .bf16) (X6 : S1x3840.Idx → Elt Ideal .f32) (X7 : S512x3840.Idx → Elt Ideal .bf16)
    (X9 : S16x2048.Idx → Elt Ideal .f32) (X10 : S2x512x3840.Idx → Elt Ideal .bf16) (X11 : S512x128.Idx → Elt Ideal .f32)
    (Y7 : S512x3840.Idx → Elt Ideal .bf16) (Y8 : S512x3840.Idx → Elt Ideal .fp8e4m3) (Y9 : S16x2048.Idx → Elt Ideal .f32)
    (Y10 : S2x512x3840.Idx → Elt Ideal .bf16) (Y11 : S512x128.Idx → Elt Ideal .f32) : Prop where
  h : i < 64 → Y7 = hB X1 X3 (xsRow i X2) X4 X5
  h' : i = 64 → Y7 = X7
  q : 0 < i → Y8 = cB (nB (slotB X10 sr) X11 X6)
  s : 0 < i → ∀ y, rowOf y = i - 1 → Y9 y = kSc (xv (nB (slotB X10 sr) X11 X6) (tokOf y))
  s' : 0 < i → ∀ y, rowOf y ≠ i - 1 → Y9 y = X9 y
  z : i < 64 → slotB Y10 sw = hB X1 X3 (xsRow i X2) X4 X5
  ss : i < 64 → Y11 = ssB (hB X1 X3 (xsRow i X2) X4 X5)

theorem ld_row {sp : Space} (v : View sig .tc sp S16x2048 .f32) (f : v.ty.Contents (Elt Ideal)) (off : Fin 2 → Nat) (p : Nat) (hp : p < 64)
    (ho : off = ![p / 4, p % 4 * 512]) (inb : ∀ x, off x + S1x512.size x ≤ S16x2048.size x) :
    v.readAt (Elt Ideal) (Rect.unit (s := S16x2048) off S1x512.size inb).toLoadRect f = xsRow p (v.read (Elt Ideal) f) := by
  subst ho
  funext y
  rw [View.readAt_apply]
  unfold xsRow
  congr 1
  have h0 : (y 0).val < 1 := (y 0).isLt
  funext x
  match x with
  | ⟨0, _⟩ => exact Fin.ext (by show p / 4 + 1 * (y 0).val = p / 4 % 16; omega)
  | ⟨1, _⟩ => exact Fin.ext (by show p % 4 * 512 + 1 * (y 1).val = p % 4 * 512 + (y 1).val; omega)

theorem read_row_in {sp : Space} (v : View sig .tc sp S16x2048 .f32) (f : v.ty.Contents (Elt Ideal)) (off : Fin 2 → Nat) (p : Nat)
    (ho : off = ![p / 4, p % 4 * 512]) (inb : ∀ x, off x + S1x512.size x ≤ S16x2048.size x) (P : S1x512.Idx → Elt Ideal .f32)
    (G : Fin 512 → Elt Ideal .f32) (hP : ∀ j, P (ix2 0 j) = G j) (y : S16x2048.Idx) (hy : rowOf y = p) :
    v.read (Elt Ideal) (v.writes (Elt Ideal) f [⟨Rect.unit (s := S16x2048) off S1x512.size inb, P⟩]) y = G (tokOf y) := by
  subst ho
  have hy' : (y 0).val * 4 + (y 1).val / 512 = p := hy
  have h1 : (y 1).val < 2048 := (y 1).isLt
  refine View.read_writes_apply_of_pieces v f (fun y => G (tokOf y)) _ (List.forall_mem_cons.mpr ⟨fun x => ?_, by simp⟩) y
    ⟨_, List.mem_cons_self, (Rect.mem_set_unit (inb := inb)).mpr fun a => ?_⟩
  · obtain ⟨j, rfl⟩ : ∃ j : Fin 512, x = ix2 0 j := ⟨x 1, (eq_ix2 x).trans (congrArg (fun a => ix2 a (x 1)) (Subsingleton.elim (α := Fin 1) _ _))⟩
    refine (hP j).trans (congrArg G (Fin.ext ?_))
    show j.val = (p % 4 * 512 + 1 * j.val) % 512
    omega
  · match a with
    | ⟨0, _⟩ => exact ⟨by show p / 4 ≤ (y 0).val; omega, by show (y 0).val < p / 4 + 1; omega⟩
    | ⟨1, _⟩ => exact ⟨by show p % 4 * 512 ≤ (y 1).val; omega, by show (y 1).val < p % 4 * 512 + 512; omega⟩

theorem read_row_out {sp : Space} (v : View sig .tc sp S16x2048 .f32) (f : v.ty.Contents (Elt Ideal)) (off : Fin 2 → Nat) (p : Nat)
    (ho : off = ![p / 4, p % 4 * 512]) (inb : ∀ x, off x + S1x512.size x ≤ S16x2048.size x) (P : S1x512.Idx → Elt Ideal .f32)
    (y : S16x2048.Idx) (hy : rowOf y ≠ p) :
    v.read (Elt Ideal) (v.writes (Elt Ideal) f [⟨Rect.unit (s := S16x2048) off S1x512.size inb, P⟩]) y = v.read (Elt Ideal) f y := by
  subst ho
  refine View.read_writes_apply_of_forall_not_mem v f y _ (List.forall_mem_cons.mpr ⟨fun hm => hy ?_, by simp⟩)
  have h0 := (Rect.mem_set_unit (inb := inb)).mp hm 0
  have h1 := (Rect.mem_set_unit (inb := inb)).mp hm 1
  have h0' : p / 4 ≤ (y 0).val ∧ (y 0).val < p / 4 + 1 := h0
  have h1' : p % 4 * 512 ≤ (y 1).val ∧ (y 1).val < p % 4 * 512 + 512 := h1
  show (y 0).val * 4 + (y 1).val / 512 = p
  omega

theorem read_whole_write {sp : Space} (v : View sig .tc sp S512x128 .f32) (f : v.ty.Contents (Elt Ideal))
    (inb : ∀ x, (![0, 0] : Fin 2 → Nat) x + S512x128.size x ≤ S512x128.size x) (P : S512x128.Idx → Elt Ideal .f32) :
    v.read (Elt Ideal) (v.writes (Elt Ideal) f [⟨Rect.unit (s := S512x128) ![0, 0] S512x128.size inb, P⟩]) = P := by
  funext y
  refine View.read_writes_apply_of_pieces v f P _ (List.forall_mem_cons.mpr ⟨fun x => ?_, by simp⟩) y
    ⟨_, List.mem_cons_self, (Rect.mem_set_unit (inb := inb)).mpr fun a => ?_⟩
  · show P x = P _
    congr 1
    funext a
    match a with
    | ⟨0, _⟩ => exact Fin.ext (by show (x 0).val = 0 + 1 * (x 0).val; omega)
    | ⟨1, _⟩ => exact Fin.ext (by show (x 1).val = 0 + 1 * (x 1).val; omega)
  · match a with
    | ⟨0, _⟩ => exact ⟨Nat.zero_le _, by show (y 0).val < 0 + 512; have := (y 0).isLt; have h : (y 0).val < 512 := this; omega⟩
    | ⟨1, _⟩ => exact ⟨Nat.zero_le _, by show (y 1).val < 0 + 128; have := (y 1).isLt; have h : (y 1).val < 128 := this; omega⟩

/-- What the first point leaves. -/
theorem zeroOwns (c : Dev nD) (i : grid0.Coords) (hi : (i 0).val = 0)
    (M1 : Memref sig .tc .vmem S512x4096 .fp8e4m3) (h1 : M1.IsWhole)
    (M2 : Memref sig .tc .vmem S16x2048 .f32) (h2 : M2.IsWhole)
    (M3 : Memref sig .tc .vmem S4096x3840 .fp8e4m3) (h3 : M3.IsWhole)
    (M4 : Memref sig .tc .vmem S1x3840 .f32) (h4 : M4.IsWhole)
    (M5 : Memref sig .tc .vmem S512x3840 .bf16) (h5 : M5.IsWhole)
    (M6 : Memref sig .tc .vmem S1x3840 .f32) (h6 : M6.IsWhole)
    (M7 : Memref sig .tc .vmem S512x3840 .bf16) (h7 : M7.IsWhole)
    (M8 : Memref sig .tc .vmem S512x3840 .fp8e4m3) (h8 : M8.IsWhole)
    (M9 : Memref sig .tc .vmem S16x2048 .f32) (h9 : M9.IsWhole)
    (M10 : Memref sig .tc .vmem S2x512x3840 .bf16) (h10 : M10.IsWhole)
    (M11 : Memref sig .tc .vmem S512x128 .f32) (h11 : M11.IsWhole)
    (X1 : S512x4096.Idx → Elt Ideal .fp8e4m3) (X2 : S16x2048.Idx → Elt Ideal .f32) (X3 : S4096x3840.Idx → Elt Ideal .fp8e4m3) (X4 : S1x3840.Idx → Elt Ideal .f32) (X5 : S512x3840.Idx → Elt Ideal .bf16) (X6 : S1x3840.Idx → Elt Ideal .f32) (X7 : S512x3840.Idx → Elt Ideal .bf16) (X8 : S512x3840.Idx → Elt Ideal .fp8e4m3) (X9 : S16x2048.Idx → Elt Ideal .f32) (X10 : S2x512x3840.Idx → Elt Ideal .bf16) (X11 : S512x128.Idx → Elt Ideal .f32) (Q : PUnit → sProp 𝕄) :
    iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10 ∗ owns (c : Thread nD τ) M11 fullShare X11
        ∗ (iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ ∃ Y7 Y8 Y9 Y10 Y11, ⌜Left (i 0).val (slotR i) (slotW i) X1 X2 X3 X4 X5 X6 X7 X9 X10 X11 Y7 Y8 Y9 Y10 Y11⌝ ∗ owns (c : Thread nD τ) M7 fullShare Y7 ∗ owns (c : Thread nD τ) M8 fullShare Y8 ∗ owns (c : Thread nD τ) M9 fullShare Y9 ∗ owns (c : Thread nD τ) M10 fullShare Y10 ∗ owns (c : Thread nD τ) M11 fullShare Y11) -∗ Q ⟨⟩))
      ⊢ wp frame (wpE (defs₀ (F := Ideal)) Variants.none c none) Set.univ
          (cc0_o_proj_rmsnorm_fp8 i M1 h1 M2 h2 M3 h3 M4 h4 M5 h5 M6 h6 M7 h7 M8 h8 M9 h9 M10 h10 M11 h11) Q := by
  rw [owns_pt c M1 h1, owns_pt c M2 h2, owns_pt c M3 h3, owns_pt c M4 h4, owns_pt c M5 h5, owns_pt c M6 h6, owns_pt c M7 h7, owns_pt c M8 h8, owns_pt c M9 h9, owns_pt c M10 h10, owns_pt c M11 h11]
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, Hk⟩
  iapply (zeroVal c i hi M1 h1 M2 h2 M3 h3 M4 h4 M5 h5 M6 h6 M7 h7 M8 h8 M9 h9 M10 h10 M11 h11 f1 f2 f3 f4 f5 f6 f7 f8 f9 f10 f11 Set.univ Q)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H1, H2, H3, H4, H5, H6, H7, ⟨%g8, H8⟩, ⟨%g9, H9⟩, H10, H11⟩
  iapply Hk
  subst e1 e2 e3 e4 e5 e6 e7 e8 e9 e10 e11
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _, _, _, _, _
  isplitr
  rotate_left
  · rw [owns_pt c M7 h7, owns_pt c M8 h8, owns_pt c M9 h9, owns_pt c M10 h10, owns_pt c M11 h11]
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; rfl
    isplitl [H10]
    · iexists _; isplitr; swap; · iexact H10
      ipureintro; rfl
    iexists _; isplitr; swap; · iexact H11
    ipureintro; rfl
  · ipureintro
    have hi' : (i 0).val < 64 := by omega
    have hc : k0_cond2 i = 1#1 := (cond2_iff i).mpr hi'
    have hM_eq : hM c i M1 M2 M3 M4 M5 f1 f2 f3 f4 f5 hc = hB (M1.view.read (Elt Ideal) f1) (M3.view.read (Elt Ideal) f3) (xsRow (i 0).val (M2.view.read (Elt Ideal) f2)) (M4.view.read (Elt Ideal) f4) (M5.view.read (Elt Ideal) f5) :=
      congrArg (fun r => hB _ _ r _ _) (ld_row M2.view f2 _ (i 0).val hi' (off1_eq i) (k0_off1_inb i hc))
    obtain ⟨S7, t7, c7⟩ := H7_tiles c i M1 M2 M3 M4 M5 f1 f2 f3 f4 f5 hc
    obtain ⟨S10, t10, c10⟩ := H10_15_slot c i M1 M2 M3 M4 M5 f1 f2 f3 f4 f5 hc
    have e11 := ss_14 c i M1 M2 M3 M4 M5 f1 f2 f3 f4 f5 hc
    rw [hM_eq] at t7 t10 e11
    exact {
      h := fun _ => t7.read c7 M7.view _
      h' := fun h => absurd h (by omega)
      q := fun h => absurd h (by omega)
      s := fun h => absurd h (by omega)
      s' := fun h => absurd h (by omega)
      z := fun _ => (congrArg (fun f => slotB (M10.view.read (Elt Ideal) f) (slotW i)) (View.writes_append M10.view f10 (_ :: _) _)).trans (t10.read c10 M10.view _)
      ss := fun _ => (congrArg (M11.view.read (Elt Ideal)) (View.writes_append M11.view M11.view.junk _ _)).trans ((read_whole_write M11.view _ _ _).trans e11) }

/-- What a point in between leaves. -/
theorem midOwns (c : Dev nD) (i : grid0.Coords) (h0 : 0 < (i 0).val) (hi : (i 0).val < 64)
    (M1 : Memref sig .tc .vmem S512x4096 .fp8e4m3) (h1 : M1.IsWhole)
    (M2 : Memref sig .tc .vmem S16x2048 .f32) (h2 : M2.IsWhole)
    (M3 : Memref sig .tc .vmem S4096x3840 .fp8e4m3) (h3 : M3.IsWhole)
    (M4 : Memref sig .tc .vmem S1x3840 .f32) (h4 : M4.IsWhole)
    (M5 : Memref sig .tc .vmem S512x3840 .bf16) (h5 : M5.IsWhole)
    (M6 : Memref sig .tc .vmem S1x3840 .f32) (h6 : M6.IsWhole)
    (M7 : Memref sig .tc .vmem S512x3840 .bf16) (h7 : M7.IsWhole)
    (M8 : Memref sig .tc .vmem S512x3840 .fp8e4m3) (h8 : M8.IsWhole)
    (M9 : Memref sig .tc .vmem S16x2048 .f32) (h9 : M9.IsWhole)
    (M10 : Memref sig .tc .vmem S2x512x3840 .bf16) (h10 : M10.IsWhole)
    (M11 : Memref sig .tc .vmem S512x128 .f32) (h11 : M11.IsWhole)
    (X1 : S512x4096.Idx → Elt Ideal .fp8e4m3) (X2 : S16x2048.Idx → Elt Ideal .f32) (X3 : S4096x3840.Idx → Elt Ideal .fp8e4m3) (X4 : S1x3840.Idx → Elt Ideal .f32) (X5 : S512x3840.Idx → Elt Ideal .bf16) (X6 : S1x3840.Idx → Elt Ideal .f32) (X7 : S512x3840.Idx → Elt Ideal .bf16) (X8 : S512x3840.Idx → Elt Ideal .fp8e4m3) (X9 : S16x2048.Idx → Elt Ideal .f32) (X10 : S2x512x3840.Idx → Elt Ideal .bf16) (X11 : S512x128.Idx → Elt Ideal .f32) (Q : PUnit → sProp 𝕄) :
    iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10 ∗ owns (c : Thread nD τ) M11 fullShare X11
        ∗ (iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ ∃ Y7 Y8 Y9 Y10 Y11, ⌜Left (i 0).val (slotR i) (slotW i) X1 X2 X3 X4 X5 X6 X7 X9 X10 X11 Y7 Y8 Y9 Y10 Y11⌝ ∗ owns (c : Thread nD τ) M7 fullShare Y7 ∗ owns (c : Thread nD τ) M8 fullShare Y8 ∗ owns (c : Thread nD τ) M9 fullShare Y9 ∗ owns (c : Thread nD τ) M10 fullShare Y10 ∗ owns (c : Thread nD τ) M11 fullShare Y11) -∗ Q ⟨⟩))
      ⊢ wp frame (wpE (defs₀ (F := Ideal)) Variants.none c none) Set.univ
          (cc0_o_proj_rmsnorm_fp8 i M1 h1 M2 h2 M3 h3 M4 h4 M5 h5 M6 h6 M7 h7 M8 h8 M9 h9 M10 h10 M11 h11) Q := by
  rw [owns_pt c M1 h1, owns_pt c M2 h2, owns_pt c M3 h3, owns_pt c M4 h4, owns_pt c M5 h5, owns_pt c M6 h6, owns_pt c M7 h7, owns_pt c M8 h8, owns_pt c M9 h9, owns_pt c M10 h10, owns_pt c M11 h11]
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, Hk⟩
  iapply (midVal c i h0 hi M1 h1 M2 h2 M3 h3 M4 h4 M5 h5 M6 h6 M7 h7 M8 h8 M9 h9 M10 h10 M11 h11 f1 f2 f3 f4 f5 f6 f7 f8 f9 f10 f11 Set.univ Q)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H1, H2, H3, H4, H5, H6, H7, H8, H9, H10, H11⟩
  iapply Hk
  subst e1 e2 e3 e4 e5 e6 e7 e8 e9 e10 e11
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _, _, _, _, _
  isplitr
  rotate_left
  · rw [owns_pt c M7 h7, owns_pt c M8 h8, owns_pt c M9 h9, owns_pt c M10 h10, owns_pt c M11 h11]
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; rfl
    isplitl [H10]
    · iexists _; isplitr; swap; · iexact H10
      ipureintro; rfl
    iexists _; isplitr; swap; · iexact H11
    ipureintro; rfl
  · ipureintro
    have hi' := hi
    have hc : k0_cond2 i = 1#1 := (cond2_iff i).mpr hi'
    have hM_eq : hM c i M1 M2 M3 M4 M5 f1 f2 f3 f4 f5 hc = hB (M1.view.read (Elt Ideal) f1) (M3.view.read (Elt Ideal) f3) (xsRow (i 0).val (M2.view.read (Elt Ideal) f2)) (M4.view.read (Elt Ideal) f4) (M5.view.read (Elt Ideal) f5) :=
      congrArg (fun r => hB _ _ r _ _) (ld_row M2.view f2 _ (i 0).val hi' (off1_eq i) (k0_off1_inb i hc))
    obtain ⟨S7, t7, c7⟩ := H7_tiles c i M1 M2 M3 M4 M5 f1 f2 f3 f4 f5 hc
    obtain ⟨S10, t10, c10⟩ := H10_15_slot c i M1 M2 M3 M4 M5 f1 f2 f3 f4 f5 hc
    have e11 := ss_14 c i M1 M2 M3 M4 M5 f1 f2 f3 f4 f5 hc
    rw [hM_eq] at t7 t10 e11
    obtain ⟨S8, t8, c8⟩ := H8_n c i M1 M2 M3 M4 M5 M6 M10 M11 f1 f2 f3 f4 f5 f6 f10 f11 hc
    have esc := n_sc c i M6 M10 M11 f6 f10 f11 hc
    exact {
      h := fun _ => t7.read c7 M7.view _
      h' := fun h => absurd h (by omega)
      q := fun _ => t8.read c8 M8.view _
      s := fun _ y hy => read_row_in M9.view f9 _ ((i 0).val - 1) (off24_eq i) (k0_off24_inb i hc) _ (fun j => kSc (xv (nM c i M6 M10 M11 f6 f10 f11) j)) (fun j => (congrFun esc _).trans (scT_eB _ j)) y hy
      s' := fun _ y hy => read_row_out M9.view f9 _ ((i 0).val - 1) (off24_eq i) (k0_off24_inb i hc) _ y hy
      z := fun _ => t10.read c10 M10.view _
      ss := fun _ => (read_whole_write M11.view _ _ _).trans e11 }

/-- What the last point leaves. -/
theorem lastOwns (c : Dev nD) (i : grid0.Coords) (hi : (i 0).val = 64)
    (M1 : Memref sig .tc .vmem S512x4096 .fp8e4m3) (h1 : M1.IsWhole)
    (M2 : Memref sig .tc .vmem S16x2048 .f32) (h2 : M2.IsWhole)
    (M3 : Memref sig .tc .vmem S4096x3840 .fp8e4m3) (h3 : M3.IsWhole)
    (M4 : Memref sig .tc .vmem S1x3840 .f32) (h4 : M4.IsWhole)
    (M5 : Memref sig .tc .vmem S512x3840 .bf16) (h5 : M5.IsWhole)
    (M6 : Memref sig .tc .vmem S1x3840 .f32) (h6 : M6.IsWhole)
    (M7 : Memref sig .tc .vmem S512x3840 .bf16) (h7 : M7.IsWhole)
    (M8 : Memref sig .tc .vmem S512x3840 .fp8e4m3) (h8 : M8.IsWhole)
    (M9 : Memref sig .tc .vmem S16x2048 .f32) (h9 : M9.IsWhole)
    (M10 : Memref sig .tc .vmem S2x512x3840 .bf16) (h10 : M10.IsWhole)
    (M11 : Memref sig .tc .vmem S512x128 .f32) (h11 : M11.IsWhole)
    (X1 : S512x4096.Idx → Elt Ideal .fp8e4m3) (X2 : S16x2048.Idx → Elt Ideal .f32) (X3 : S4096x3840.Idx → Elt Ideal .fp8e4m3) (X4 : S1x3840.Idx → Elt Ideal .f32) (X5 : S512x3840.Idx → Elt Ideal .bf16) (X6 : S1x3840.Idx → Elt Ideal .f32) (X7 : S512x3840.Idx → Elt Ideal .bf16) (X8 : S512x3840.Idx → Elt Ideal .fp8e4m3) (X9 : S16x2048.Idx → Elt Ideal .f32) (X10 : S2x512x3840.Idx → Elt Ideal .bf16) (X11 : S512x128.Idx → Elt Ideal .f32) (Q : PUnit → sProp 𝕄) :
    iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10 ∗ owns (c : Thread nD τ) M11 fullShare X11
        ∗ (iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ ∃ Y7 Y8 Y9 Y10 Y11, ⌜Left (i 0).val (slotR i) (slotW i) X1 X2 X3 X4 X5 X6 X7 X9 X10 X11 Y7 Y8 Y9 Y10 Y11⌝ ∗ owns (c : Thread nD τ) M7 fullShare Y7 ∗ owns (c : Thread nD τ) M8 fullShare Y8 ∗ owns (c : Thread nD τ) M9 fullShare Y9 ∗ owns (c : Thread nD τ) M10 fullShare Y10 ∗ owns (c : Thread nD τ) M11 fullShare Y11) -∗ Q ⟨⟩))
      ⊢ wp frame (wpE (defs₀ (F := Ideal)) Variants.none c none) Set.univ
          (cc0_o_proj_rmsnorm_fp8 i M1 h1 M2 h2 M3 h3 M4 h4 M5 h5 M6 h6 M7 h7 M8 h8 M9 h9 M10 h10 M11 h11) Q := by
  rw [owns_pt c M1 h1, owns_pt c M2 h2, owns_pt c M3 h3, owns_pt c M4 h4, owns_pt c M5 h5, owns_pt c M6 h6, owns_pt c M7 h7, owns_pt c M8 h8, owns_pt c M9 h9, owns_pt c M10 h10, owns_pt c M11 h11]
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, Hk⟩
  iapply (lastVal c i hi M1 h1 M2 h2 M3 h3 M4 h4 M5 h5 M6 h6 M7 h7 M8 h8 M9 h9 M10 h10 M11 h11 f1 f2 f3 f4 f5 f6 f7 f8 f9 f10 f11 Set.univ Q)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H1, H2, H3, H4, H5, H6, H7, H8, H9, ⟨%g10, H10⟩, ⟨%g11, H11⟩⟩
  iapply Hk
  subst e1 e2 e3 e4 e5 e6 e7 e8 e9 e10 e11
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _, _, _, _, _
  isplitr
  rotate_left
  · rw [owns_pt c M7 h7, owns_pt c M8 h8, owns_pt c M9 h9, owns_pt c M10 h10, owns_pt c M11 h11]
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; rfl
    isplitl [H10]
    · iexists _; isplitr; swap; · iexact H10
      ipureintro; rfl
    iexists _; isplitr; swap; · iexact H11
    ipureintro; rfl
  · ipureintro
    have hc : k0_cond3 i = 1#1 := (cond3_iff i).mpr hi
    obtain ⟨S8, t8, c8⟩ := H8_l c i M6 M10 M11 f6 f10 f11 hc
    have esc := l_sc c i M6 M10 M11 f6 f10 f11 hc
    exact {
      h := fun h => absurd h (by omega)
      h' := fun _ => rfl
      q := fun _ => t8.read c8 M8.view _
      s := fun _ y hy => read_row_in M9.view f9 _ ((i 0).val - 1) (off48_eq i) (k0_off48_inb i hc) _ (fun j => kSc (xv (nM c i M6 M10 M11 f6 f10 f11) j)) (fun j => (congrFun esc _).trans (scT_eB _ j)) y hy
      s' := fun _ y hy => read_row_out M9.view f9 _ ((i 0).val - 1) (off48_eq i) (k0_off48_inb i hc) _ y hy
      z := fun h => absurd h (by omega)
      ss := fun h => absurd h (by omega) }

/-- What any point leaves. -/
theorem valOwns (c : Dev nD) (i : grid0.Coords)
    (M1 : Memref sig .tc .vmem S512x4096 .fp8e4m3) (h1 : M1.IsWhole)
    (M2 : Memref sig .tc .vmem S16x2048 .f32) (h2 : M2.IsWhole)
    (M3 : Memref sig .tc .vmem S4096x3840 .fp8e4m3) (h3 : M3.IsWhole)
    (M4 : Memref sig .tc .vmem S1x3840 .f32) (h4 : M4.IsWhole)
    (M5 : Memref sig .tc .vmem S512x3840 .bf16) (h5 : M5.IsWhole)
    (M6 : Memref sig .tc .vmem S1x3840 .f32) (h6 : M6.IsWhole)
    (M7 : Memref sig .tc .vmem S512x3840 .bf16) (h7 : M7.IsWhole)
    (M8 : Memref sig .tc .vmem S512x3840 .fp8e4m3) (h8 : M8.IsWhole)
    (M9 : Memref sig .tc .vmem S16x2048 .f32) (h9 : M9.IsWhole)
    (M10 : Memref sig .tc .vmem S2x512x3840 .bf16) (h10 : M10.IsWhole)
    (M11 : Memref sig .tc .vmem S512x128 .f32) (h11 : M11.IsWhole)
    (X1 : S512x4096.Idx → Elt Ideal .fp8e4m3) (X2 : S16x2048.Idx → Elt Ideal .f32) (X3 : S4096x3840.Idx → Elt Ideal .fp8e4m3) (X4 : S1x3840.Idx → Elt Ideal .f32) (X5 : S512x3840.Idx → Elt Ideal .bf16) (X6 : S1x3840.Idx → Elt Ideal .f32) (X7 : S512x3840.Idx → Elt Ideal .bf16) (X8 : S512x3840.Idx → Elt Ideal .fp8e4m3) (X9 : S16x2048.Idx → Elt Ideal .f32) (X10 : S2x512x3840.Idx → Elt Ideal .bf16) (X11 : S512x128.Idx → Elt Ideal .f32) (Q : PUnit → sProp 𝕄) :
    iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10 ∗ owns (c : Thread nD τ) M11 fullShare X11
        ∗ (iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ ∃ Y7 Y8 Y9 Y10 Y11, ⌜Left (i 0).val (slotR i) (slotW i) X1 X2 X3 X4 X5 X6 X7 X9 X10 X11 Y7 Y8 Y9 Y10 Y11⌝ ∗ owns (c : Thread nD τ) M7 fullShare Y7 ∗ owns (c : Thread nD τ) M8 fullShare Y8 ∗ owns (c : Thread nD τ) M9 fullShare Y9 ∗ owns (c : Thread nD τ) M10 fullShare Y10 ∗ owns (c : Thread nD τ) M11 fullShare Y11) -∗ Q ⟨⟩))
      ⊢ wp frame (wpE (defs₀ (F := Ideal)) Variants.none c none) Set.univ
          (cc0_o_proj_rmsnorm_fp8 i M1 h1 M2 h2 M3 h3 M4 h4 M5 h5 M6 h6 M7 h7 M8 h8 M9 h9 M10 h10 M11 h11) Q := by
  have hlt : (i 0).val < 65 := (i 0).isLt
  rcases Nat.eq_zero_or_pos (i 0).val with h | h
  · exact zeroOwns c i h M1 h1 M2 h2 M3 h3 M4 h4 M5 h5 M6 h6 M7 h7 M8 h8 M9 h9 M10 h10 M11 h11 X1 X2 X3 X4 X5 X6 X7 X8 X9 X10 X11 Q
  rcases Nat.lt_or_ge (i 0).val 64 with h' | h'
  · exact midOwns c i h h' M1 h1 M2 h2 M3 h3 M4 h4 M5 h5 M6 h6 M7 h7 M8 h8 M9 h9 M10 h10 M11 h11 X1 X2 X3 X4 X5 X6 X7 X8 X9 X10 X11 Q
  exact lastOwns c i (by omega) M1 h1 M2 h2 M3 h3 M4 h4 M5 h5 M6 h6 M7 h7 M8 h8 M9 h9 M10 h10 M11 h11 X1 X2 X3 X4 X5 X6 X7 X8 X9 X10 X11 Q

end Cert.KernelIdeal.Hand

end
-- ==== Proof.ValFrame.lean ====
/-
  Proof data that track what every buffer holds between the kernel's points, the body obligation at them, and the launch:
  the arrays after the run hold what those data allow.
-/
module

public import proofs.«01_k».proof.Proof.ValBody
public import proofs.«01_k».proof.Proof.FrameIdeal
public import Idealize.ShloMosaic.Lib.Pipeline.ValueKit.Geometry

@[expose] public section

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ
open Idealize.ShloMosaic.Pipeline (RDat)

variable (m : (ℓ : Loc nD τ sig) → Buf (Elt Ideal) ℓ) (ρ : Dev nD → PrngReg)

/-- The hidden state of the block at point `t`, from the blocks the windows hold there. -/
def hBlk (c : Dev nD) (t : Fin cfg0.N) : FVec Ideal S512x3840 .bf16 :=
  hB (iblk m c 0 t) (iblk m c 2 t) (xsRow t.val (iblk m c 1 t)) (iblk m c 3 t) (iblk m c 4 t)

/-- That block, normalised. -/
def nBlk (c : Dev nD) (t : Fin cfg0.N) : FVec Ideal S512x3840 .f32 :=
  nB (hBlk m c t) (ssB (hBlk m c t)) (iblk m c 5 t)

theorem coord_val (t : Fin cfg0.N) : (grid0.coords t 0).val = t.val := by
  have h := Pipeline.Grid.coords_val (G := grid0) t 0 (S := 1) (B := 65) (by decide) rfl
  have ht : t.val < 65 := t.isLt
  rw [h]; omega

/-- What the two scratch buffers hold before point `t`: the previous block's hidden state in its slot, and its squares
    summed per lane. -/
def Track (c : Dev nD) (t : Nat) (Z : S2x512x3840.Idx → Elt Ideal .bf16) (S : S512x128.Idx → Elt Ideal .f32) : Prop :=
  ∀ p : Fin cfg0.N, p.val + 1 = t → p.val < 64 → slotB Z ⟨p.val % 2, by omega⟩ = hBlk m c p ∧ S = ssB (hBlk m c p)

/-- The invariant between points. -/
def PhiV (c : Dev nD) (t : Nat) : sProp 𝕄 :=
  iprop(∃ Z S, ⌜Track m c t Z S⌝ ∗ owns (c : Thread nD τ) (Memref.whole cc0_scratch0) fullShare Z
    ∗ owns (c : Thread nD τ) (Memref.whole cc0_scratch1) fullShare S ∗ ∃ r, prngReg c r)

/-- What the body leaves in window 6's buffer. -/
def aft6 (c : Dev nD) (t : Fin cfg0.N) (Y X : S512x3840.Idx → Elt Ideal .bf16) : Prop :=
  (t.val < 64 → X = hBlk m c t) ∧ (t.val = 64 → X = Y)

/-- What the body leaves in window 7's buffer. -/
def aft7 (c : Dev nD) (t : Fin cfg0.N) (X : S512x3840.Idx → Elt Ideal .fp8e4m3) : Prop :=
  ∀ p : Fin cfg0.N, p.val + 1 = t.val → X = cB (nBlk m c p)

/-- What the body leaves in window 8's buffer. -/
def aft8 (c : Dev nD) (t : Fin cfg0.N) (Y X : S16x2048.Idx → Elt Ideal .f32) : Prop :=
  ∀ p : Fin cfg0.N, p.val + 1 = t.val →
    (∀ y, rowOf y = p.val → X y = kSc (xv (nBlk m c p) (tokOf y))) ∧ ∀ y, rowOf y ≠ p.val → X y = Y y

/-- The proof data on core `c`. -/
def rv (c : Dev nD) : RDat τ (Elt Ideal) Unit ℕ (UR sig nD τ) ℕ cfg0 c where
  A w := V m c (Pipeline.arrRef spec0 w)
  after := fun
    | 0 => fun t Y X => X = Y
    | 1 => fun t Y X => X = Y
    | 2 => fun t Y X => X = Y
    | 3 => fun t Y X => X = Y
    | 4 => fun t Y X => X = Y
    | 5 => fun t Y X => X = Y
    | 6 => fun t Y X => aft6 m c t Y X
    | 7 => fun t Y X => aft7 m c t X
    | 8 => fun t Y X => aft8 m c t Y X
    | ⟨_ + 9, h⟩ => absurd h (Nat.not_lt.2 (Nat.le_add_left _ _))
  Φ t := PhiV m c t.val
  q _ := fullShare
  owed _ := 0

theorem finds_0 (c : Dev nD) (t : Fin cfg0.N) (Y) (h : (rv m c).Finds 0 t Y) : Y = iblk m c 0 t := by
  obtain ⟨d, hd⟩ := (rv m c).finds_in_eq_fetched 0 rfl (fun _ _ _ => rfl) (fun _ _ _ h => h) t Y h
  exact hd

theorem finds_1 (c : Dev nD) (t : Fin cfg0.N) (Y) (h : (rv m c).Finds 1 t Y) : Y = iblk m c 1 t := by
  obtain ⟨d, hd⟩ := (rv m c).finds_in_eq_fetched 1 rfl (fun _ _ _ => rfl) (fun _ _ _ h => h) t Y h
  exact hd

theorem finds_2 (c : Dev nD) (t : Fin cfg0.N) (Y) (h : (rv m c).Finds 2 t Y) : Y = iblk m c 2 t := by
  obtain ⟨d, hd⟩ := (rv m c).finds_in_eq_fetched 2 rfl (fun _ _ _ => rfl) (fun _ _ _ h => h) t Y h
  exact hd

theorem finds_3 (c : Dev nD) (t : Fin cfg0.N) (Y) (h : (rv m c).Finds 3 t Y) : Y = iblk m c 3 t := by
  obtain ⟨d, hd⟩ := (rv m c).finds_in_eq_fetched 3 rfl (fun _ _ _ => rfl) (fun _ _ _ h => h) t Y h
  exact hd

theorem finds_4 (c : Dev nD) (t : Fin cfg0.N) (Y) (h : (rv m c).Finds 4 t Y) : Y = iblk m c 4 t := by
  obtain ⟨d, hd⟩ := (rv m c).finds_in_eq_fetched 4 rfl (fun _ _ _ => rfl) (fun _ _ _ h => h) t Y h
  exact hd

theorem finds_5 (c : Dev nD) (t : Fin cfg0.N) (Y) (h : (rv m c).Finds 5 t Y) : Y = iblk m c 5 t := by
  obtain ⟨d, hd⟩ := (rv m c).finds_in_eq_fetched 5 rfl (fun _ _ _ => rfl) (fun _ _ _ h => h) t Y h
  exact hd

theorem iblk_1 (c : Dev nD) (t : Fin cfg0.N) : (iblk m c 1 t : S16x2048.Idx → Elt Ideal .f32) = (V m c main_v1 : S16x2048.Idx → Elt Ideal .f32) := by
  funext y
  show (V m c main_v1 : S16x2048.Idx → Elt Ideal .f32) ((win0_1.rect t).emb y) = _
  congr 1
  funext a
  match a with
  | ⟨0, _⟩ => exact Fin.ext (Pipeline.Window.rect_emb_val_of_index_zero win0_1 t 0 rfl y)
  | ⟨1, _⟩ => exact Fin.ext (Pipeline.Window.rect_emb_val_of_index_zero win0_1 t 1 rfl y)

theorem iblk_2 (c : Dev nD) (t : Fin cfg0.N) : (iblk m c 2 t : S4096x3840.Idx → Elt Ideal .fp8e4m3) = (V m c main_arg2 : S4096x3840.Idx → Elt Ideal .fp8e4m3) := by
  funext y
  show (V m c main_arg2 : S4096x3840.Idx → Elt Ideal .fp8e4m3) ((win0_2.rect t).emb y) = _
  congr 1
  funext a
  match a with
  | ⟨0, _⟩ => exact Fin.ext (Pipeline.Window.rect_emb_val_of_index_zero win0_2 t 0 rfl y)
  | ⟨1, _⟩ => exact Fin.ext (Pipeline.Window.rect_emb_val_of_index_zero win0_2 t 1 rfl y)

theorem iblk_3 (c : Dev nD) (t : Fin cfg0.N) : (iblk m c 3 t : S1x3840.Idx → Elt Ideal .f32) = (V m c main_v2 : S1x3840.Idx → Elt Ideal .f32) := by
  funext y
  show (V m c main_v2 : S1x3840.Idx → Elt Ideal .f32) ((win0_3.rect t).emb y) = _
  congr 1
  funext a
  match a with
  | ⟨0, _⟩ => exact Fin.ext (Pipeline.Window.rect_emb_val_of_index_zero win0_3 t 0 rfl y)
  | ⟨1, _⟩ => exact Fin.ext (Pipeline.Window.rect_emb_val_of_index_zero win0_3 t 1 rfl y)

theorem iblk_5 (c : Dev nD) (t : Fin cfg0.N) : (iblk m c 5 t : S1x3840.Idx → Elt Ideal .f32) = (V m c main_v4 : S1x3840.Idx → Elt Ideal .f32) := by
  funext y
  show (V m c main_v4 : S1x3840.Idx → Elt Ideal .f32) ((win0_5.rect t).emb y) = _
  congr 1
  funext a
  match a with
  | ⟨0, _⟩ => exact Fin.ext (Pipeline.Window.rect_emb_val_of_index_zero win0_5 t 0 rfl y)
  | ⟨1, _⟩ => exact Fin.ext (Pipeline.Window.rect_emb_val_of_index_zero win0_5 t 1 rfl y)

/-- What a point leaves is what the data allow. -/
theorem left_after (c : Dev nD) (t : Fin cfg0.N) (Y : (w : Fin cfg0.W) → (cfg0.win w).block.Idx → Elt Ideal (cfg0.win w).elt)
    (hY : ∀ w, (rv m c).Finds w t (Y w)) (Z : S2x512x3840.Idx → Elt Ideal .bf16) (S : S512x128.Idx → Elt Ideal .f32) (hT : Track m c t.val Z S)
    (Y7 : S512x3840.Idx → Elt Ideal .bf16) (Y8 : S512x3840.Idx → Elt Ideal .fp8e4m3) (Y9 : S16x2048.Idx → Elt Ideal .f32)
    (Y10 : S2x512x3840.Idx → Elt Ideal .bf16) (Y11 : S512x128.Idx → Elt Ideal .f32)
    (h : Left (grid0.coords t 0).val (slotR (grid0.coords t)) (slotW (grid0.coords t)) (Y 0) (Y 1) (Y 2) (Y 3) (Y 4) (Y 5) (Y 6) (Y 8) Z S Y7 Y8 Y9 Y10 Y11) :
    aft6 m c t (Y 6) Y7 ∧ aft7 m c t Y8 ∧ aft8 m c t (Y 8) Y9 ∧ Track m c (t.val + 1) Y10 Y11 := by
  have e0 := finds_0 m c t _ (hY 0)
  have e1 := finds_1 m c t _ (hY 1)
  have e2 := finds_2 m c t _ (hY 2)
  have e3 := finds_3 m c t _ (hY 3)
  have e4 := finds_4 m c t _ (hY 4)
  have e5 := finds_5 m c t _ (hY 5)
  have ec := coord_val t
  have ht : t.val < 65 := t.isLt
  have eh : hB (Y 0) (Y 2) (xsRow (grid0.coords t 0).val (Y 1)) (Y 3) (Y 4) = hBlk m c t := by
    unfold hBlk; rw [e0, e1, e2, e3, e4, ec]
  have en : ∀ p : Fin cfg0.N, p.val + 1 = t.val → nB (slotB Z (slotR (grid0.coords t))) S (Y 5) = nBlk m c p := by
    intro p hp
    obtain ⟨h1, h2⟩ := hT p hp (by omega)
    have es : slotR (grid0.coords t) = ⟨p.val % 2, by omega⟩ := Fin.ext (by
      show 1 - (grid0.coords t 0).val % 2 = p.val % 2
      omega)
    have e5' : (Y 5 : S1x3840.Idx → Elt Ideal .f32) = iblk m c 5 p := by rw [e5]; exact (iblk_5 m c t).trans (iblk_5 m c p).symm
    unfold nBlk
    rw [es, h1, h2]
    exact congrArg (nB _ _) e5'
  refine ⟨⟨fun h1 => (h.h (by omega)).trans eh, fun h1 => h.h' (by omega)⟩, fun p hp => ?_, fun p hp => ⟨fun y hy => ?_, fun y hy => ?_⟩, fun p hp hp' => ?_⟩
  · rw [← en p hp]; exact h.q (by omega)
  · rw [← en p hp]; exact h.s (by omega) y (by omega)
  · exact h.s' (by omega) y (by omega)
  · obtain rfl : p = t := Fin.ext (by omega)
    have hz := h.z (by omega)
    have hs := h.ss (by omega)
    rw [eh] at hz hs
    refine ⟨?_, hs⟩
    rw [← hz]
    congr 1
    exact Fin.ext (by show p.val % 2 = (grid0.coords p 0).val % 2; omega)

/-- The body at a point. -/
theorem val_body (c : Dev nD) (t : Fin cfg0.N) (Y : (w : Fin cfg0.W) → (cfg0.win w).block.Idx → Elt Ideal (cfg0.win w).elt)
    (hY : ∀ w, (rv m c).Finds w t (Y w)) :
    iprop((rv m c).Φ t.castSucc ∗ (rv m c).owesAt () t.castSucc
        ∗ owns (c : Thread nD τ) (win0_0.stage (cfg0.slots t 0)) fullShare (Y 0) ∗ owns (c : Thread nD τ) (win0_1.stage (cfg0.slots t 1)) fullShare (Y 1) ∗ owns (c : Thread nD τ) (win0_2.stage (cfg0.slots t 2)) fullShare (Y 2) ∗ owns (c : Thread nD τ) (win0_3.stage (cfg0.slots t 3)) fullShare (Y 3) ∗ owns (c : Thread nD τ) (win0_4.stage (cfg0.slots t 4)) fullShare (Y 4) ∗ owns (c : Thread nD τ) (win0_5.stage (cfg0.slots t 5)) fullShare (Y 5) ∗ owns (c : Thread nD τ) (win0_6.stage (cfg0.slots t 6)) fullShare (Y 6) ∗ owns (c : Thread nD τ) (win0_7.stage (cfg0.slots t 7)) fullShare (Y 7) ∗ owns (c : Thread nD τ) (win0_8.stage (cfg0.slots t 8)) fullShare (Y 8))
      ⊢ wp frame (wpE (defs₀ (F := Ideal)) Variants.none c none) Set.univ (bodyAt0 t) fun _ =>
        iprop((rv m c).Φ t.succ ∗ (rv m c).owesAt () t.succ
        ∗ (∃ X, ⌜(rv m c).after 0 t (Y 0) X⌝ ∗ owns (c : Thread nD τ) (win0_0.stage (cfg0.slots t 0)) fullShare X) ∗ (∃ X, ⌜(rv m c).after 1 t (Y 1) X⌝ ∗ owns (c : Thread nD τ) (win0_1.stage (cfg0.slots t 1)) fullShare X) ∗ (∃ X, ⌜(rv m c).after 2 t (Y 2) X⌝ ∗ owns (c : Thread nD τ) (win0_2.stage (cfg0.slots t 2)) fullShare X) ∗ (∃ X, ⌜(rv m c).after 3 t (Y 3) X⌝ ∗ owns (c : Thread nD τ) (win0_3.stage (cfg0.slots t 3)) fullShare X) ∗ (∃ X, ⌜(rv m c).after 4 t (Y 4) X⌝ ∗ owns (c : Thread nD τ) (win0_4.stage (cfg0.slots t 4)) fullShare X) ∗ (∃ X, ⌜(rv m c).after 5 t (Y 5) X⌝ ∗ owns (c : Thread nD τ) (win0_5.stage (cfg0.slots t 5)) fullShare X) ∗ (∃ X, ⌜(rv m c).after 6 t (Y 6) X⌝ ∗ owns (c : Thread nD τ) (win0_6.stage (cfg0.slots t 6)) fullShare X) ∗ (∃ X, ⌜(rv m c).after 7 t (Y 7) X⌝ ∗ owns (c : Thread nD τ) (win0_7.stage (cfg0.slots t 7)) fullShare X) ∗ (∃ X, ⌜(rv m c).after 8 t (Y 8) X⌝ ∗ owns (c : Thread nD τ) (win0_8.stage (cfg0.slots t 8)) fullShare X)) := by
  unfold bodyAt0
  rw [show (rv m c).owesAt () t.succ = (rv m c).owesAt () t.castSucc from rfl,
    show (rv m c).Φ t.succ = PhiV m c (t.val + 1) from rfl, show (rv m c).Φ t.castSucc = PhiV m c t.val from rfl]
  unfold PhiV
  iintro ⟨⟨%Z, %S, %hT, H10, H11, Hg⟩, HO, H1, H2, H3, H4, H5, H6, H7, H8, H9⟩
  iapply (valOwns c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) (Memref.whole cc0_scratch0) (Memref.isWhole_whole _) (Memref.whole cc0_scratch1) (Memref.isWhole_whole _)
    (Y 0) (Y 1) (Y 2) (Y 3) (Y 4) (Y 5) (Y 6) (Y 7) (Y 8) Z S _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H1, H2, H3, H4, H5, H6, %Y7, %Y8, %Y9, %Y10, %Y11, %hL, H7, H8, H9, H10, H11⟩
  have hA := left_after m c t Y hY Z S hT Y7 Y8 Y9 Y10 Y11 hL
  isplitl [H10 H11 Hg]
  · iexists Y10, Y11
    isplitr; · ipureintro; exact hA.2.2.2
    isplitl [H10]; · iexact H10
    isplitl [H11]; · iexact H11
    iexact Hg
  isplitl [HO]; · iexact HO
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; exact hA.1
  isplitl [H8]
  · iexists _; isplitr; swap; · iexact H8
    ipureintro; exact hA.2.1
  iexists _; isplitr; swap; · iexact H9
  ipureintro; exact hA.2.2.1

/-- The library's body obligation. -/
theorem val_obligation (c : Dev nD) : (rv m c).BodyObligation (defs₀ (F := Ideal)) Variants.none () Set.univ := fun t Y hY => by
  rw [bigSep_W0, bigSep_W0, defs₀_row]
  exact triple_restated (val_body m c t Y hY) rfl .rfl fun _ => .rfl

theorem val_in (c : Dev nD) : (Pipeline.ΦA (Val := Elt Ideal) spec0 c : sProp 𝕄) ⊢ (rv m c).Φ 0 := by
  rw [show (rv m c).Φ 0 = PhiV m c 0 from rfl, PhiA0_eq]
  unfold PhiV
  simp only [owns_pt _ _ (Memref.isWhole_whole _)]
  iintro ⟨⟨⟨%f10, H10⟩, ⟨%f11, H11⟩⟩, Hg⟩
  iexists f10, f11
  isplitr; · ipureintro; intro p hp; omega
  isplitl [H10]
  · iexists f10; isplitr; · ipureintro; rfl
    iexact H10
  isplitl [H11]
  · iexists f11; isplitr; · ipureintro; rfl
    iexact H11
  iexact Hg

theorem val_out (c : Dev nD) : (rv m c).Φ (Fin.last cfg0.N) ⊢ (Pipeline.ΦA (Val := Elt Ideal) spec0 c : sProp 𝕄) := by
  rw [show (rv m c).Φ (Fin.last cfg0.N) = PhiV m c cfg0.N from rfl, PhiA0_eq]
  unfold PhiV
  simp only [owns_pt _ _ (Memref.isWhole_whole _)]
  iintro ⟨%Z, %S, %hT, ⟨%f10, %e10, H10⟩, ⟨%f11, %e11, H11⟩, Hg⟩
  isplitl [H10 H11]
  · isplitl [H10]
    · iexists _; iexact H10
    iexists _; iexact H11
  iexact Hg

set_option backward.isDefEq.respectTransparency.types false in
/-- Every weakly fair execution terminates, and at every final state the arrays are at contents the proof data allow and
    every semaphore counter is zero. -/
theorem val_run :
    θ_run defs (onTc (τ := τ) (main (F := Ideal))) (s₀ m ρ)
      (fun r => RDat.FramePost (cfgs 0) (fun c => rv m c) (V m) r ∧ r.2.sem = fun _ => 0) :=
  RDat.θ_run_frame_track (Q' := _) cfgs (0 : Fin 1) launch0 defs₀ Variants.none (fun c => rv m c) m ρ main
    (hbody := val_obligation m) (hshare := fun c => (rv m c).share_full fun _ => rfl)
    (howed := fun _ _ => rfl) (V := V m) (hmain := hmain m Variants.none) (hA := fun _ _ => rfl)
    (hin := val_in m) (hout := val_out m)

end Cert.KernelIdeal.Hand

end
-- ==== Proof.ValArrays.lean ====
/-
  The three result arrays after the run, cell by cell, from what each point leaves in the windows' buffers.
-/
module

public import proofs.«01_k».proof.Proof.ValFrame
public import Idealize.ShloMosaic.Lib.Pipeline.ArrRel

@[expose] public section

noncomputable section

namespace Cert.KernelIdeal.Hand

open Cert.KernelIdeal Cert.KernelIdeal.Gen Cert.Hand
open Idealize.ShloMosaic Idealize.ShloMosaic.TcCoe Idealize.ShloMosaic.Tactic
open Idealize.SL.Sem
open Idealize.ShloMosaic.Rounds
open Idealize.ShloMosaic.Pipeline (RDat)

variable (m : (ℓ : Loc nD τ sig) → Buf (Elt Ideal) ℓ) (ρ : Dev nD → PrngReg)

/-! ## Where the output windows write back -/

theorem flush6 : ∀ t : Fin grid0.N, win0_6.flush t = true → t.val ≠ 63 := by decide +kernel
theorem flush7 : ∀ t : Fin grid0.N, win0_7.flush t = true → t.val ≠ 0 := by decide +kernel
theorem noflush6 : ∀ t : Fin grid0.N, t.val = 63 → win0_6.flush t = false := by decide +kernel
theorem noflush8 : ∀ t : Fin grid0.N, t.val < 64 → win0_8.flush t = false := by decide +kernel
theorem index6 : ∀ t : Fin grid0.N, win0_6.index t 0 = min t.val 63 ∧ win0_6.index t 1 = 0 := by decide +kernel
theorem index7 : ∀ t : Fin grid0.N, win0_7.index t 0 = t.val - 1 ∧ win0_7.index t 1 = 0 := by decide +kernel
theorem covers6 : win0_6.Covers := by decide +kernel
theorem covers7 : win0_7.Covers := by decide +kernel
theorem whole8 : win0_8.WholeAt ⟨64, by decide⟩ := by decide +kernel

/-! ## What the points leave -/

theorem leaves6_lt (c : Dev nD) (t : Fin cfg0.N) (X) (h : (rv m c).Leaves 6 t X) (ht : t.val < 64) : X = hBlk m c t := by
  obtain ⟨Y, _, hX⟩ := h
  exact hX.1 ht

theorem leaves6_last (c : Dev nD) (t : Fin cfg0.N) (X) (h : (rv m c).Leaves 6 t X) (ht : t.val = 64) :
    X = hBlk m c ⟨63, by decide⟩ := by
  obtain ⟨Y, hY, hX⟩ := h
  rw [hX.2 ht]
  have ht0 : t.val ≠ 0 := by omega
  rcases ((rv m c).finds_of_pos rfl ht0 Y).mp hY with hf | hl
  · exact absurd hf (by
      rw [show (cfg0.win 6).flush ⟨t.val - 1, _⟩ = false from noflush6 _ (by show t.val - 1 = 63; omega)]
      exact Bool.false_ne_true)
  · have h63 := leaves6_lt m c _ Y hl (by show t.val - 1 < 64; omega)
    rw [h63]
    congr 1
    exact Fin.ext (by show t.val - 1 = 63; omega)

theorem leaves7 (c : Dev nD) (t : Fin cfg0.N) (X) (h : (rv m c).Leaves 7 t X) (p : Fin cfg0.N) (hp : p.val + 1 = t.val) :
    X = cB (nBlk m c p) := by
  obtain ⟨Y, _, hX⟩ := h
  exact hX p hp

theorem leaves8 (c : Dev nD) : ∀ (n : Nat) (t : Fin cfg0.N), t.val = n → ∀ X : S16x2048.Idx → Elt Ideal .f32, (rv m c).Leaves 8 t X →
    ∀ p : Fin cfg0.N, p.val + 1 ≤ n → ∀ y, rowOf y = p.val → X y = kSc (xv (nBlk m c p) (tokOf y)) := by
  intro n
  induction n with
  | zero => intro t ht X h p hp; omega
  | succ n ih =>
    intro t ht X h p hp y hy
    obtain ⟨Y, hY, hX⟩ := h
    have ht' : t.val < 65 := t.isLt
    rcases Nat.lt_or_ge n (p.val + 1) with hlt | hge
    · exact (hX p (by omega)).1 y hy
    · rw [(hX ⟨n, by show n < 65; omega⟩ (by show n + 1 = t.val; omega)).2 y (by show rowOf y ≠ n; omega)]
      rcases ((rv m c).finds_of_pos rfl (by omega) Y).mp hY with hf | hl
      · exact absurd hf (by
          rw [show (cfg0.win 8).flush ⟨t.val - 1, _⟩ = false from noflush8 _ (by show t.val - 1 < 64; omega)]
          exact Bool.false_ne_true)
      · exact ih _ (by show t.val - 1 = n; omega) Y hl p hge y hy

/-! ## The arrays -/

/-- The hidden state. -/
def hG (c : Dev nD) : S32768x3840.Idx → EReal :=
  fun i => hBlk m c ⟨(i 0).val / 512, by show (i 0).val / 512 < 65; have h : (i 0).val < 32768 := (i 0).isLt; omega⟩ (ix2 ⟨(i 0).val % 512, by omega⟩ (i 1))

/-- The codes. -/
def cG (c : Dev nD) : S32768x3840.Idx → EReal :=
  fun i => cB (nBlk m c ⟨(i 0).val / 512, by show (i 0).val / 512 < 65; have h : (i 0).val < 32768 := (i 0).isLt; omega⟩) (ix2 ⟨(i 0).val % 512, by omega⟩ (i 1))

/-- The scales. -/
def sG (c : Dev nD) : S16x2048.Idx → EReal :=
  fun y => kSc (xv (nBlk m c ⟨rowOf y, by show rowOf y < 65; unfold rowOf; have h : (y 0).val < 16 := (y 0).isLt; have h' : (y 1).val < 2048 := (y 1).isLt; omega⟩) (tokOf y))

theorem hG_at (c : Dev nD) (i : S32768x3840.Idx) (p : Fin cfg0.N) (y : S512x3840.Idx) (h0 : (i 0).val = p.val * 512 + (y 0).val)
    (h1 : (i 1).val = (y 1).val) : hG m c i = hBlk m c p y := by
  have hy : (y 0).val < 512 := (y 0).isLt
  have ey : y = ix2 ⟨(i 0).val % 512, by omega⟩ (i 1) := by
    funext a
    match a with
    | ⟨0, _⟩ => exact Fin.ext (by show (y 0).val = (i 0).val % 512; omega)
    | ⟨1, _⟩ => exact Fin.ext h1.symm
  have ep : p = ⟨(i 0).val / 512, by show (i 0).val / 512 < 65; have h : (i 0).val < 32768 := (i 0).isLt; omega⟩ :=
    Fin.ext (by show p.val = (i 0).val / 512; omega)
  unfold hG
  rw [← ep]
  exact congrArg (hBlk m c p) ey.symm

theorem cG_at (c : Dev nD) (i : S32768x3840.Idx) (p : Fin cfg0.N) (y : S512x3840.Idx) (h0 : (i 0).val = p.val * 512 + (y 0).val)
    (h1 : (i 1).val = (y 1).val) : cG m c i = cB (nBlk m c p) y := by
  have hy : (y 0).val < 512 := (y 0).isLt
  have ey : y = ix2 ⟨(i 0).val % 512, by omega⟩ (i 1) := by
    funext a
    match a with
    | ⟨0, _⟩ => exact Fin.ext (by show (y 0).val = (i 0).val % 512; omega)
    | ⟨1, _⟩ => exact Fin.ext h1.symm
  have ep : p = ⟨(i 0).val / 512, by show (i 0).val / 512 < 65; have h : (i 0).val < 32768 := (i 0).isLt; omega⟩ :=
    Fin.ext (by show p.val = (i 0).val / 512; omega)
  unfold cG
  rw [← ep]
  exact congrArg (cB (nBlk m c p)) ey.symm

theorem h_array (c : Dev nD) (after : (w : Fin cfg0.W) → (u : Fin cfg0.N) → (cfg0.win w).block.Idx → Elt Ideal (cfg0.win w).elt)
    (hl : ∀ w u, (cfg0.win w).flush u = true → (rv m c).Leaves w u (after w u)) :
    ((rv m c).withAfter after).arrAt 6 cfg0.N = hG m c := by
  refine Pipeline.Dat.arrAt_eq_of_covers ((rv m c).withAfter after) 6 (hG m c) covers6 (fun t hf y => ?_)
  have hL := hl 6 t hf
  have ht : t.val < 65 := t.isLt
  have hn := flush6 t hf
  have e0 := Pipeline.Window.rect_emb_val win0_6 t y 0
  have e1 := Pipeline.Window.rect_emb_val win0_6 t y 1
  rw [(index6 t).1] at e0
  rw [(index6 t).2] at e1
  show after 6 t y = hG m c ((win0_6.rect t).emb y)
  rcases Nat.lt_or_ge t.val 64 with h | h
  · rw [leaves6_lt m c t _ hL h]
    refine (hG_at m c _ t y ?_ ?_).symm
    · refine e0.trans ?_
      show min t.val 63 * 512 + (y 0).val = _
      rw [Nat.min_eq_left (by omega)]
    · refine e1.trans ?_
      show 0 * 3840 + (y 1).val = _
      omega
  · rw [leaves6_last m c t _ hL (by omega)]
    refine (hG_at m c _ _ y ?_ ?_).symm
    · refine e0.trans ?_
      show min t.val 63 * 512 + (y 0).val = 63 * 512 + _
      rw [Nat.min_eq_right (by omega)]
    · refine e1.trans ?_
      show 0 * 3840 + (y 1).val = _
      omega

theorem c_array (c : Dev nD) (after : (w : Fin cfg0.W) → (u : Fin cfg0.N) → (cfg0.win w).block.Idx → Elt Ideal (cfg0.win w).elt)
    (hl : ∀ w u, (cfg0.win w).flush u = true → (rv m c).Leaves w u (after w u)) :
    ((rv m c).withAfter after).arrAt 7 cfg0.N = cG m c := by
  refine Pipeline.Dat.arrAt_eq_of_covers ((rv m c).withAfter after) 7 (cG m c) covers7 (fun t hf y => ?_)
  have hL := hl 7 t hf
  have ht : t.val < 65 := t.isLt
  have hn := flush7 t hf
  have e0 := Pipeline.Window.rect_emb_val win0_7 t y 0
  have e1 := Pipeline.Window.rect_emb_val win0_7 t y 1
  rw [(index7 t).1] at e0
  rw [(index7 t).2] at e1
  show after 7 t y = cG m c ((win0_7.rect t).emb y)
  rw [leaves7 m c t _ hL ⟨t.val - 1, by show t.val - 1 < 65; omega⟩ (by show t.val - 1 + 1 = t.val; omega)]
  refine (cG_at m c _ _ y ?_ ?_).symm
  · exact e0
  · refine e1.trans ?_
    show 0 * 3840 + (y 1).val = _
    omega

theorem s_array (c : Dev nD) (after : (w : Fin cfg0.W) → (u : Fin cfg0.N) → (cfg0.win w).block.Idx → Elt Ideal (cfg0.win w).elt)
    (hl : ∀ w u, (cfg0.win w).flush u = true → (rv m c).Leaves w u (after w u)) :
    ((rv m c).withAfter after).arrAt 8 cfg0.N = sG m c := by
  refine Pipeline.Dat.arrAt_eq_of_after_last ((rv m c).withAfter after) 8 ⟨64, by decide⟩ whole8 (sG m c) (fun y => ?_)
  have hL := hl 8 ⟨64, by decide⟩ whole8.1
  have hy : (y 0).val < 16 := (y 0).isLt
  have hy' : (y 1).val < 2048 := (y 1).isLt
  exact leaves8 m c 64 _ rfl _ hL ⟨rowOf y, by show rowOf y < 65; unfold rowOf; omega⟩ (by show rowOf y + 1 ≤ 64; unfold rowOf; omega) y rfl

/-- Every weakly fair execution terminates with the three results at these arrays and the arguments unchanged. -/
theorem value : θ_run defs (onTc (τ := τ) (main (F := Ideal))) ⟨m, fun _ => 0, ρ⟩ (fun r => ∀ c : Dev nD,
      r.2.mem ((c.tc : Thread nD τ).loc main_v5_0) = hG m c
      ∧ r.2.mem ((c.tc : Thread nD τ).loc main_v5_1) = cG m c
      ∧ r.2.mem ((c.tc : Thread nD τ).loc main_v5_2) = sG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (val_run m ρ)
  obtain ⟨after, hl, ha⟩ := RDat.FramePost.exists_exact h.1 c
  refine ⟨(ha 6).trans (h_array m c after hl), (ha 7).trans (c_array m c after hl), (ha 8).trans (s_array m c after hl),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((congrFun (RDat.ArrAt_in (rv m c) 2 rfl _) _).mp ((h.1 c).1 2)).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩

end Cert.KernelIdeal.Hand

end
-- ==== Proof.RowMath.lean ====
/-
  One token's row, as functions of its hidden state and of gamma: the inverse root mean square, the normalised row, the
  greatest absolute value over 448. And that the kernel's sums and maxima, taken lane by lane and tile by tile, are these.
-/
module

public import proofs.«01_k».proof.Proof.Blocks
public import Mathlib.Logic.Equiv.Fin.Basic

@[expose] public section

noncomputable section

namespace Cert.Hand

open Idealize.ShloMosaic

/-- The row's inverse root mean square. -/
def rowI (h : Fin 3840 → EReal) : EReal :=
  Ideal.rsqrt ((∑ c, h c * h c) * ((1 / 3840 : ℝ) : EReal) + Ideal.ofBits .f32 0x3727C5AC#32)

/-- The row, normalised. -/
def rowN (h g : Fin 3840 → EReal) (c : Fin 3840) : EReal := h c * rowI h * g c

/-- The normalised row's greatest absolute value over 448. -/
def rowX (h g : Fin 3840 → EReal) : EReal :=
  (Finset.univ.fold max (⊥ : EReal) fun c => max (rowN h g c) (-(rowN h g c))) * Ideal.ofBits .f32 0x3B124925#32

/-- A row as a function of any number. -/
def ext (f : Fin 3840 → EReal) (n : Nat) : EReal := if h : n < 3840 then f ⟨n, h⟩ else 0

theorem ext_of (f : Fin 3840 → EReal) (n : Nat) (h : n < 3840) : ext f n = f ⟨n, h⟩ := dif_pos h

/-- A row's sum, lane by lane. -/
theorem sum_lanes (f : Fin 3840 → EReal) :
    (∑ l : Fin 128, ∑ t ∈ Finset.range 30, ext f (128 * t + l.val)) = ∑ c, f c := by
  have e1 : (∑ c : Fin 3840, f c) = ∑ c : Fin (30 * 128), ext f c.val :=
    Finset.sum_congr rfl fun c _ => (ext_of f c.val c.isLt).symm
  rw [e1, ← Equiv.sum_comp (finProdFinEquiv (m := 30) (n := 128)) (fun c : Fin (30 * 128) => ext f c.val), Fintype.sum_prod_type, Finset.sum_comm]
  rw [Finset.sum_range]
  refine Finset.sum_congr rfl fun t _ => Finset.sum_congr rfl fun l _ => ?_
  rw [finProdFinEquiv_apply_val, add_comm]

end Cert.Hand

namespace Cert.KernelIdeal.Hand

open Cert.KernelIdeal Cert.KernelIdeal.Gen Cert.Hand
open Idealize.ShloMosaic

theorem addf_ix {s : Shape} (a b : FVec Ideal s .f32) (i : s.Idx) : addf a b i = (a i : EReal) + b i := rfl
theorem maximumf_ix {s : Shape} (a b : FVec Ideal s .f32) (i : s.Idx) : maximumf a b i = max (a i : EReal) (b i) := rfl

theorem sq_at (H : FVec Ideal S512x3840 .bf16) (col : Nat) (h : col + 256 ≤ 3840) (j : Fin 512) (l : Fin 128) :
    (sqT (tile H col h) (ix2 j l) : EReal)
      = ext (fun c => (H (ix2 j c) : EReal) * H (ix2 j c)) (col + l.val) + ext (fun c => (H (ix2 j c) : EReal) * H (ix2 j c)) (col + 128 + l.val) := by
  have hl := l.isLt
  rw [sqT_apply, ext_of _ _ (by omega), ext_of _ _ (by omega)]
  have e : (⟨col + 128 + l.val, by omega⟩ : Fin 3840) = ⟨col + (128 + l.val), by omega⟩ := Fin.ext (by show _ + _ + _ = _ + (_ + _); omega)
  rw [e]
  rfl

theorem m_at (n : FVec Ideal S512x3840 .f32) (col : Nat) (h : col + 256 ≤ 3840) (j : Fin 512) (l : Fin 128) :
    (mT (tile n col h) (ix2 j l) : EReal)
      = max (ext (fun c => max (n (ix2 j c) : EReal) (-(n (ix2 j c)))) (col + l.val)) (ext (fun c => max (n (ix2 j c) : EReal) (-(n (ix2 j c)))) (col + 128 + l.val)) := by
  have hl := l.isLt
  rw [mT_apply, ext_of _ _ (by omega), ext_of _ _ (by omega)]
  have e : (⟨col + 128 + l.val, by omega⟩ : Fin 3840) = ⟨col + (128 + l.val), by omega⟩ := Fin.ext (by show _ + _ + _ = _ + (_ + _); omega)
  rw [e]
  rfl

/-- A lane's sum of squares. -/
theorem ssB_apply (H : FVec Ideal S512x3840 .bf16) (j : Fin 512) (l : Fin 128) :
    (ssB H (ix2 j l) : EReal) = ∑ t ∈ Finset.range 30, ext (fun c => (H (ix2 j c) : EReal) * H (ix2 j c)) (128 * t + l.val) := by
  generalize hF : ext (fun c => (H (ix2 j c) : EReal) * H (ix2 j c)) = F
  have hs : ∀ col h, (sqT (tile H col h) (ix2 j l) : EReal) = F (col + l.val) + F (col + 128 + l.val) := fun col h => by
    rw [← hF]; exact sq_at H col h j l
  simp only [ssB, addf_ix, hs, Finset.sum_range_succ, Finset.sum_range_zero, zero_add, Nat.reduceAdd, Nat.reduceMul]
  simp only [add_assoc]

/-- What a lane's greatest absolute value is at most. -/
theorem mB_le (n : FVec Ideal S512x3840 .f32) (j : Fin 512) (l : Fin 128) (b : EReal) :
    (mB n (ix2 j l) : EReal) ≤ b ↔ ∀ t : Nat, t < 30 → ext (fun c => max (n (ix2 j c) : EReal) (-(n (ix2 j c)))) (128 * t + l.val) ≤ b := by
  generalize hF : ext (fun c => max (n (ix2 j c) : EReal) (-(n (ix2 j c)))) = F
  have hs : ∀ col h, (mT (tile n col h) (ix2 j l) : EReal) = max (F (col + l.val)) (F (col + 128 + l.val)) := fun col h => by
    rw [← hF]; exact m_at n col h j l
  simp only [mB, maximumf_ix, hs, max_le_iff, zero_add, Nat.reduceAdd]
  constructor
  · intro h t ht
    interval_cases t <;> simp only [Nat.reduceMul, zero_add, h]
  · intro h
    have h0 := h 0 (by omega)
    have h1 := h 1 (by omega)
    have h2 := h 2 (by omega)
    have h3 := h 3 (by omega)
    have h4 := h 4 (by omega)
    have h5 := h 5 (by omega)
    have h6 := h 6 (by omega)
    have h7 := h 7 (by omega)
    have h8 := h 8 (by omega)
    have h9 := h 9 (by omega)
    have h10 := h 10 (by omega)
    have h11 := h 11 (by omega)
    have h12 := h 12 (by omega)
    have h13 := h 13 (by omega)
    have h14 := h 14 (by omega)
    have h15 := h 15 (by omega)
    have h16 := h 16 (by omega)
    have h17 := h 17 (by omega)
    have h18 := h 18 (by omega)
    have h19 := h 19 (by omega)
    have h20 := h 20 (by omega)
    have h21 := h 21 (by omega)
    have h22 := h 22 (by omega)
    have h23 := h 23 (by omega)
    have h24 := h 24 (by omega)
    have h25 := h 25 (by omega)
    have h26 := h 26 (by omega)
    have h27 := h 27 (by omega)
    have h28 := h 28 (by omega)
    have h29 := h 29 (by omega)
    simp only [Nat.reduceMul, zero_add] at h0 h1 h2 h3 h4 h5 h6 h7 h8 h9 h10 h11 h12 h13 h14 h15 h16 h17 h18 h19 h20 h21 h22 h23 h24 h25 h26 h27 h28 h29
    simp only [h0, h1, h2, h3, h4, h5, h6, h7, h8, h9, h10, h11, h12, h13, h14, h15, h16, h17, h18, h19, h20, h21, h22, h23, h24, h25, h26, h27, h28, h29, and_self]

/-- A row's greatest absolute value, lane by lane. -/
theorem max_lanes (n : FVec Ideal S512x3840 .f32) (j : Fin 512) :
    (Finset.univ.fold max (⊥ : EReal) fun l : Fin 128 => (mB n (ix2 j l) : EReal))
      = Finset.univ.fold max (⊥ : EReal) fun c : Fin 3840 => max (n (ix2 j c) : EReal) (-(n (ix2 j c))) := by
  refine eq_of_forall_ge_iff fun b => ?_
  rw [Finset.fold_max_le, Finset.fold_max_le]
  refine and_congr_right fun _ => ⟨fun h c _ => ?_, fun h l _ => ?_⟩
  · have hc := c.isLt
    have := (mB_le n j ⟨c.val % 128, by omega⟩ b).mp (h _ (Finset.mem_univ _)) (c.val / 128) (by omega)
    rw [ext_of _ _ (by show 128 * (c.val / 128) + c.val % 128 < 3840; omega)] at this
    have e : (⟨128 * (c.val / 128) + c.val % 128, by omega⟩ : Fin 3840) = c := Fin.ext (by show 128 * (c.val / 128) + c.val % 128 = c.val; omega)
    rw [e] at this
    exact this
  · refine (mB_le n j l b).mpr fun t ht => ?_
    have hl := l.isLt
    rw [ext_of _ _ (by omega)]
    exact h _ (Finset.mem_univ _)

theorem rI_row (H : FVec Ideal S512x3840 .bf16) (j : Fin 512) : rI (ssB H) j = rowI fun c => H (ix2 j c) := by
  unfold rI rowI
  rw [← sum_lanes]
  simp only [ssB_apply]

theorem nB_row (H : FVec Ideal S512x3840 .bf16) (g : Vec Ideal S1x3840 .f32) (j : Fin 512) (c : Fin 3840) :
    (nB H (ssB H) g (ix2 j c) : EReal) = rowN (fun c => H (ix2 j c)) (fun c => g (ix2 0 c)) c := by
  show (H (ix2 j c) : EReal) * rI (ssB H) j * g (ix2 0 c) = _
  rw [rI_row]
  rfl

theorem xv_row (H : FVec Ideal S512x3840 .bf16) (g : Vec Ideal S1x3840 .f32) (j : Fin 512) :
    xv (nB H (ssB H) g) j = rowX (fun c => H (ix2 j c)) (fun c => g (ix2 0 c)) := by
  unfold xv rowX
  rw [max_lanes]
  simp only [nB_row]

end Cert.KernelIdeal.Hand

end
-- ==== Proof.RowBound.lean ====
/-
  A row's greatest absolute value over 448 is a number below 2¹²⁶ whatever the hidden state, when gamma's entries are below 2¹²⁸: an entry is
  at most √3840 times the root mean square, and a row with an infinite entry has inverse root mean square zero.
-/
module

public import proofs.«01_k».proof.Proof.RowMath
public import proofs.«01_k».proof.Proof.ExpMath

@[expose] public section

noncomputable section

namespace Cert.Hand

open Idealize.ShloMosaic

theorem eps_eq : ∃ e : ℝ, 0 < e ∧ (Ideal.ofBits .f32 0x3727C5AC#32 : EReal) = (e : EReal) := by
  refine ⟨10995116 * (2 : ℝ) ^ (-40 : Int), by positivity, ?_⟩
  show (Ideal.ieee 8 23 (0x3727C5AC#32) : EReal) = _
  unfold Ideal.ieee
  rw [show (BitVec.extractLsb' (8 + 23) 1 (0x3727C5AC#32) == 1#1) = false from rfl,
    show (BitVec.extractLsb' 23 8 (0x3727C5AC#32)).toNat = 110 from rfl, show (BitVec.extractLsb' 0 23 (0x3727C5AC#32)).toNat = 2606508 from rfl]
  norm_num

theorem inv448_eq : ∃ k : ℝ, 0 ≤ k ∧ k * 248 ≤ 1 ∧ (Ideal.ofBits .f32 0x3B124925#32 : EReal) = (k : EReal) := by
  refine ⟨9586981 * (2 : ℝ) ^ (-32 : Int), by positivity, by norm_num, ?_⟩
  show (Ideal.ieee 8 23 (0x3B124925#32) : EReal) = _
  unfold Ideal.ieee
  rw [show (BitVec.extractLsb' (8 + 23) 1 (0x3B124925#32) == 1#1) = false from rfl,
    show (BitVec.extractLsb' 23 8 (0x3B124925#32)).toNat = 118 from rfl, show (BitVec.extractLsb' 0 23 (0x3B124925#32)).toNat = 1198373 from rfl]
  norm_num

/-- The greatest finite value is below 2¹²⁸. -/
theorem big_lt : (Ideal.ofBits .f32 0x7F7FFFFF#32 : EReal) < (((2 : ℝ) ^ (128 : Int) : ℝ) : EReal) := by
  have h : (Ideal.ofBits .f32 0x7F7FFFFF#32 : EReal) = ((16777215 * (2 : ℝ) ^ (104 : Int) : ℝ) : EReal) := by
    show (Ideal.ieee 8 23 (0x7F7FFFFF#32) : EReal) = _
    unfold Ideal.ieee
    rw [show (BitVec.extractLsb' (8 + 23) 1 (0x7F7FFFFF#32) == 1#1) = false from rfl,
      show (BitVec.extractLsb' 23 8 (0x7F7FFFFF#32)).toNat = 254 from rfl, show (BitVec.extractLsb' 0 23 (0x7F7FFFFF#32)).toNat = 8388607 from rfl]
    norm_num
  rw [h, EReal.coe_lt_coe_iff]
  norm_num

theorem abs_nonneg' (x : EReal) : 0 ≤ max x (-x) := by
  rcases le_total 0 x with h | h
  · exact le_max_of_le_left h
  · exact le_max_of_le_right (by simpa using EReal.neg_le_neg_iff.mpr h)

theorem mul_self_nonneg' (x : EReal) : 0 ≤ x * x := by
  rcases le_total 0 x with h | h
  · exact mul_nonneg h h
  · have h' : 0 ≤ -x := by simpa using EReal.neg_le_neg_iff.mpr h
    simpa using mul_nonneg h' h'

/-- Each entry's absolute value, normalised, is below 62 times the bound. -/
theorem rowN_lt (h g : Fin 3840 → EReal) (hg : ∀ c, max (g c) (-(g c)) < (((2 : ℝ) ^ (128 : Int) : ℝ) : EReal)) (c : Fin 3840) :
    max (rowN h g c) (-(rowN h g c)) < ((62 * (2 : ℝ) ^ (128 : Int) : ℝ) : EReal) := by
  have hB : (0 : ℝ) < (2 : ℝ) ^ (128 : Int) := by positivity
  obtain ⟨e, he, hE⟩ := eps_eq
  by_cases hinf : ∃ c0, h c0 = ⊤ ∨ h c0 = ⊥
  · obtain ⟨c0, h0⟩ := hinf
    have hsq : h c0 * h c0 = ⊤ := by rcases h0 with h0 | h0 <;> rw [h0] <;> simp
    have hS : (∑ c, h c * h c) = ⊤ := top_le_iff.mp (by
      rw [← hsq]
      exact Finset.single_le_sum (f := fun c => h c * h c) (fun c _ => mul_self_nonneg' (h c)) (Finset.mem_univ c0))
    have hI : rowI h = 0 := by
      unfold rowI
      rw [hS, hE, EReal.top_mul_coe_of_pos (by norm_num), EReal.top_add_coe]
      rfl
    have hn : rowN h g c = 0 := by unfold rowN; rw [hI]; simp
    rw [hn, neg_zero, max_self]
    exact_mod_cast (by positivity : (0 : ℝ) < 62 * (2 : ℝ) ^ (128 : Int))
  · push Not at hinf
    have hr : ∀ c, ∃ r : ℝ, h c = (r : EReal) := fun c => ⟨(h c).toReal, (EReal.coe_toReal (hinf c).1 (hinf c).2).symm⟩
    choose η hη using hr
    have hgr : ∃ r : ℝ, g c = (r : EReal) ∧ |r| < (2 : ℝ) ^ (128 : Int) := by
      have h1 := lt_of_le_of_lt (le_max_left _ _) (hg c)
      have h2 := lt_of_le_of_lt (le_max_right _ _) (hg c)
      have t1 : g c ≠ ⊤ := ne_top_of_lt h1
      have t2 : g c ≠ ⊥ := fun h => by rw [h, EReal.neg_bot] at h2; exact absurd h2 not_top_lt
      refine ⟨(g c).toReal, (EReal.coe_toReal t1 t2).symm, ?_⟩
      rw [← EReal.coe_toReal t1 t2] at h1 h2
      rw [abs_lt]
      have h1' : (g c).toReal < (2 : ℝ) ^ (128 : Int) := by exact_mod_cast h1
      have h2' : -(g c).toReal < (2 : ℝ) ^ (128 : Int) := by exact_mod_cast h2
      constructor <;> linarith
    obtain ⟨γ, hγ, hγb⟩ := hgr
    have hS : (∑ c, h c * h c) = ((∑ c, η c * η c : ℝ) : EReal) := by
      have hc : ∀ s : Finset (Fin 3840), (∑ c ∈ s, h c * h c) = ((∑ c ∈ s, η c * η c : ℝ) : EReal) := fun s => by
        induction s using Finset.induction_on with
        | empty => simp
        | insert a s ha ih => rw [Finset.sum_insert ha, Finset.sum_insert ha, ih, hη a, EReal.coe_add, EReal.coe_mul]
      exact hc _
    have hS0 : η c * η c ≤ ∑ c, η c * η c :=
      Finset.single_le_sum (f := fun c => η c * η c) (fun c _ => mul_self_nonneg (η c)) (Finset.mem_univ c)
    generalize (∑ c, η c * η c : ℝ) = S at hS hS0
    have hsq0 := mul_self_nonneg (η c)
    have hm : 0 < S * (1 / 3840) + e := by linarith
    have hI : rowI h = (((Real.sqrt (S * (1 / 3840) + e))⁻¹ : ℝ) : EReal) := by
      unfold rowI
      rw [hS, hE, ← EReal.coe_mul, ← EReal.coe_add]
      show (if S * (1 / 3840) + e < 0 then _ else if S * (1 / 3840) + e = 0 then _ else _ : EReal) = _
      rw [if_neg (not_lt.mpr hm.le), if_neg hm.ne']
    have hq : |η c * (Real.sqrt (S * (1 / 3840) + e))⁻¹| ≤ 62 := by
      have hsp := Real.sqrt_pos.mpr hm
      rw [abs_mul, abs_inv, abs_of_pos hsp, ← div_eq_mul_inv, div_le_iff₀ hsp]
      refine abs_le_of_sq_le_sq (a := η c) ?_ (by positivity)
      rw [mul_pow, Real.sq_sqrt hm.le]
      nlinarith
    have hn : rowN h g c = ((η c * (Real.sqrt (S * (1 / 3840) + e))⁻¹ * γ : ℝ) : EReal) := by
      unfold rowN
      rw [hI, hη c, hγ, ← EReal.coe_mul, ← EReal.coe_mul]
    have hb : |η c * (Real.sqrt (S * (1 / 3840) + e))⁻¹ * γ| < 62 * (2 : ℝ) ^ (128 : Int) := by
      rw [abs_mul]
      nlinarith [abs_nonneg γ]
    rw [hn, ← EReal.coe_neg]
    refine max_lt ?_ ?_
    · exact_mod_cast (abs_lt.mp hb).2
    · have := (abs_lt.mp hb).1
      exact_mod_cast (by linarith : -(η c * (Real.sqrt (S * (1 / 3840) + e))⁻¹ * γ) < 62 * (2 : ℝ) ^ (128 : Int))

/-- A row's greatest absolute value over 448 is a number below 2¹²⁶. -/
theorem rowX_real (h g : Fin 3840 → EReal) (hg : ∀ c, max (g c) (-(g c)) ≤ (Ideal.ofBits .f32 0x7F7FFFFF#32 : EReal)) :
    ∃ x : ℝ, rowX h g = (x : EReal) ∧ 0 ≤ x ∧ x < (2 : ℝ) ^ (126 : Int) := by
  obtain ⟨k, hk0, hk1, hk⟩ := inv448_eq
  have hlt := rowN_lt h g fun c => lt_of_le_of_lt (hg c) big_lt
  have hB : (2 : ℝ) ^ (128 : Int) = 4 * (2 : ℝ) ^ (126 : Int) := by norm_num
  have hB' : (0 : ℝ) < (2 : ℝ) ^ (126 : Int) := by positivity
  have hM : (Finset.univ.fold max (⊥ : EReal) fun c => max (rowN h g c) (-(rowN h g c))) < ((62 * (2 : ℝ) ^ (128 : Int) : ℝ) : EReal) :=
    (Finset.fold_max_lt _).mpr ⟨EReal.bot_lt_coe _, fun c _ => hlt c⟩
  have h0 : 0 ≤ (Finset.univ.fold max (⊥ : EReal) fun c => max (rowN h g c) (-(rowN h g c))) :=
    (Finset.le_fold_max _).mpr (Or.inr ⟨0, Finset.mem_univ _, abs_nonneg' _⟩)
  unfold rowX
  generalize (Finset.univ.fold max (⊥ : EReal) fun c => max (rowN h g c) (-(rowN h g c))) = M at hM h0
  have t1 : M ≠ ⊤ := ne_top_of_lt hM
  have t2 : M ≠ ⊥ := fun h => by rw [h] at h0; exact absurd h0 (by simp)
  lift M to ℝ using ⟨t1, t2⟩
  have hM' : M < 62 * (2 : ℝ) ^ (128 : Int) := by exact_mod_cast hM
  have h0' : 0 ≤ M := by exact_mod_cast h0
  refine ⟨M * k, by rw [hk, EReal.coe_mul], by positivity, ?_⟩
  rw [hB] at hM'
  nlinarith

end Cert.Hand

end
-- ==== Proof.Spec.lean ====
/-
  The three results as functions of the six arguments: a token's hidden state, its scale, its codes.
-/
module

public import proofs.«01_k».proof.Proof.RowBound

@[expose] public section

noncomputable section

namespace Cert.Hand

open Idealize.ShloMosaic

variable (a0 : (⟨3, ![16, 2048, 4096]⟩ : Shape).Idx → EReal) (a1 : (⟨3, ![16, 2048, 1]⟩ : Shape).Idx → EReal)
  (a2 : (⟨2, ![4096, 3840]⟩ : Shape).Idx → EReal) (a3 : (⟨1, ![3840]⟩ : Shape).Idx → EReal)
  (a4 : (⟨3, ![16, 2048, 3840]⟩ : Shape).Idx → EReal) (a5 : (⟨1, ![3840]⟩ : Shape).Idx → EReal)

/-- Token `r`'s hidden state. -/
def hid (r : Fin 32768) (c : Fin 3840) : EReal :=
  a4 (ix3 ⟨r.val / 2048, by omega⟩ ⟨r.val % 2048, by omega⟩ c)
    + (∑ k : Fin 4096, a0 (ix3 ⟨r.val / 2048, by omega⟩ ⟨r.val % 2048, by omega⟩ k) * a2 (ix2 k c))
      * a1 (ix3 ⟨r.val / 2048, by omega⟩ ⟨r.val % 2048, by omega⟩ 0) * a3 (ix1 c)

/-- Gamma as a row. -/
def gam (c : Fin 3840) : EReal := a5 (ix1 c)

/-- The hidden state. -/
def resH : (⟨2, ![32768, 3840]⟩ : Shape).Idx → EReal := fun i => hid a0 a1 a2 a3 a4 (i 0) (i 1)

/-- The codes. -/
def resC : (⟨2, ![32768, 3840]⟩ : Shape).Idx → EReal := fun i =>
  min (Ideal.ofBits .f32 0x43E00000#32) (max (Ideal.ofBits .f32 0xC3E00000#32)
    (rowN (hid a0 a1 a2 a3 a4 (i 0)) (gam a5) (i 1) * rInv (rowX (hid a0 a1 a2 a3 a4 (i 0)) (gam a5))))

/-- The scales. -/
def resS : (⟨2, ![16, 2048]⟩ : Shape).Idx → EReal := fun y =>
  rSc (rowX (hid a0 a1 a2 a3 a4 ⟨(y 0).val * 2048 + (y 1).val, by
    have h : (y 0).val < 16 := (y 0).isLt
    have h' : (y 1).val < 2048 := (y 1).isLt
    omega⟩) (gam a5))

end Cert.Hand

end
-- ==== Proof.KerVal.lean ====
/-
  The kernel's results after its run, as the same functions of the arguments, when gamma's entries are below 2¹²⁶.
-/
module

public import proofs.«01_k».proof.Proof.ValArrays
public import proofs.«01_k».proof.Proof.Spec
public import Idealize.ShloMosaic.Lib.StableHlo.ReadAt

@[expose] public section

noncomputable section

namespace Cert.KernelIdeal.Hand

open Cert.KernelIdeal Cert.KernelIdeal.Gen Cert.Hand
open Idealize.ShloMosaic Idealize.ShloMosaic.TcCoe Idealize.ShloMosaic.Tactic
open Idealize.SL.Sem

variable (m : (ℓ : Loc nD τ sig) → Buf (Elt Ideal) ℓ) (ρ : Dev nD → PrngReg)

/-! ## The reshaped arguments -/

theorem V_v0 (c : Dev nD) (r : Fin 32768) (k : Fin 4096) :
    (Gen.V m c main_v0 : S32768x4096.Idx → Elt Ideal .fp8e4m3) (ix2 r k)
      = (m ((c : Thread nD τ).loc main_arg0) : S16x2048x4096.Idx → Elt Ideal .fp8e4m3) (ix3 ⟨r.val / 2048, by omega⟩ ⟨r.val % 2048, by omega⟩ k) := by
  unfold Gen.V
  after_reads_at

theorem V_v1 (c : Dev nD) (b : Fin 16) (s : Fin 2048) :
    (Gen.V m c main_v1 : S16x2048.Idx → Elt Ideal .f32) (ix2 b s)
      = (m ((c : Thread nD τ).loc main_arg1) : S16x2048x1.Idx → Elt Ideal .f32) (ix3 b s 0) := by
  unfold Gen.V
  after_reads_at

theorem V_v2 (c : Dev nD) (k : Fin 3840) :
    (Gen.V m c main_v2 : S1x3840.Idx → Elt Ideal .f32) (ix2 0 k)
      = (m ((c : Thread nD τ).loc main_arg3) : S3840.Idx → Elt Ideal .f32) (ix1 k) := by
  unfold Gen.V
  after_reads_at

theorem V_v3 (c : Dev nD) (r : Fin 32768) (k : Fin 3840) :
    (Gen.V m c main_v3 : S32768x3840.Idx → Elt Ideal .bf16) (ix2 r k)
      = (m ((c : Thread nD τ).loc main_arg4) : S16x2048x3840.Idx → Elt Ideal .bf16) (ix3 ⟨r.val / 2048, by omega⟩ ⟨r.val % 2048, by omega⟩ k) := by
  unfold Gen.V
  after_reads_at

theorem V_v4 (c : Dev nD) (k : Fin 3840) :
    (Gen.V m c main_v4 : S1x3840.Idx → Elt Ideal .f32) (ix2 0 k)
      = (m ((c : Thread nD τ).loc main_arg5) : S3840.Idx → Elt Ideal .f32) (ix1 k) := by
  unfold Gen.V
  after_reads_at

/-- Argument arrays at their shapes. -/
abbrev A0 (c : Dev nD) : S16x2048x4096.Idx → EReal := m ((c : Thread nD τ).loc main_arg0)
abbrev A1 (c : Dev nD) : S16x2048x1.Idx → EReal := m ((c : Thread nD τ).loc main_arg1)
abbrev A2 (c : Dev nD) : S4096x3840.Idx → EReal := m ((c : Thread nD τ).loc main_arg2)
abbrev A3 (c : Dev nD) : S3840.Idx → EReal := m ((c : Thread nD τ).loc main_arg3)
abbrev A4 (c : Dev nD) : S16x2048x3840.Idx → EReal := m ((c : Thread nD τ).loc main_arg4)
abbrev A5 (c : Dev nD) : S3840.Idx → EReal := m ((c : Thread nD τ).loc main_arg5)

/-! ## The blocks of the tokens' windows -/

theorem index0 : ∀ t : Fin grid0.N, win0_0.index t 0 = min t.val 63 ∧ win0_0.index t 1 = 0 := by decide +kernel
theorem index4 : ∀ t : Fin grid0.N, win0_4.index t 0 = min t.val 63 ∧ win0_4.index t 1 = 0 := by decide +kernel

theorem iblk_0 (c : Dev nD) (t : Fin cfg0.N) (ht : t.val < 64) (j : Fin 512) (k : Fin 4096) (r : Fin 32768) (hr : r.val = t.val * 512 + j.val) :
    (iblk m c 0 t : S512x4096.Idx → Elt Ideal .fp8e4m3) (ix2 j k) = (Gen.V m c main_v0 : S32768x4096.Idx → Elt Ideal .fp8e4m3) (ix2 r k) := by
  show (Gen.V m c main_v0 : S32768x4096.Idx → Elt Ideal .fp8e4m3) ((win0_0.rect t).emb (ix2 j k)) = _
  have e0 := Pipeline.Window.rect_emb_val win0_0 t (ix2 j k) 0
  have e1 := Pipeline.Window.rect_emb_val win0_0 t (ix2 j k) 1
  rw [(index0 t).1] at e0
  rw [(index0 t).2] at e1
  congr 1
  funext a
  match a with
  | ⟨0, _⟩ => exact Fin.ext (e0.trans (by show min t.val 63 * 512 + j.val = r.val; rw [Nat.min_eq_left (by omega)]; omega))
  | ⟨1, _⟩ => exact Fin.ext (e1.trans (by show 0 * 4096 + k.val = k.val; omega))

theorem iblk_4 (c : Dev nD) (t : Fin cfg0.N) (ht : t.val < 64) (j : Fin 512) (k : Fin 3840) (r : Fin 32768) (hr : r.val = t.val * 512 + j.val) :
    (iblk m c 4 t : S512x3840.Idx → Elt Ideal .bf16) (ix2 j k) = (Gen.V m c main_v3 : S32768x3840.Idx → Elt Ideal .bf16) (ix2 r k) := by
  show (Gen.V m c main_v3 : S32768x3840.Idx → Elt Ideal .bf16) ((win0_4.rect t).emb (ix2 j k)) = _
  have e0 := Pipeline.Window.rect_emb_val win0_4 t (ix2 j k) 0
  have e1 := Pipeline.Window.rect_emb_val win0_4 t (ix2 j k) 1
  rw [(index4 t).1] at e0
  rw [(index4 t).2] at e1
  congr 1
  funext a
  match a with
  | ⟨0, _⟩ => exact Fin.ext (e0.trans (by show min t.val 63 * 512 + j.val = r.val; rw [Nat.min_eq_left (by omega)]; omega))
  | ⟨1, _⟩ => exact Fin.ext (e1.trans (by show 0 * 3840 + k.val = k.val; omega))

/-- A token's hidden state. -/
theorem hBlk_at (c : Dev nD) (t : Fin cfg0.N) (ht : t.val < 64) (j : Fin 512) (k : Fin 3840) (r : Fin 32768) (hr : r.val = t.val * 512 + j.val) :
    (hBlk m c t (ix2 j k) : EReal) = hid (A0 m c) (A1 m c) (A2 m c) (A3 m c) (A4 m c) r k := by
  have es : (xsRow t.val (iblk m c 1 t) (ix2 0 j) : EReal) = A1 m c (ix3 ⟨r.val / 2048, by omega⟩ ⟨r.val % 2048, by omega⟩ 0) := by
    rw [iblk_1]
    have hb : (⟨t.val / 4 % 16, by omega⟩ : Fin 16) = ⟨r.val / 2048, by omega⟩ := Fin.ext (by show t.val / 4 % 16 = r.val / 2048; omega)
    have hs : (⟨t.val % 4 * 512 + j.val, by omega⟩ : Fin 2048) = ⟨r.val % 2048, by omega⟩ := Fin.ext (by show t.val % 4 * 512 + j.val = r.val % 2048; omega)
    show (Gen.V m c main_v1 : S16x2048.Idx → Elt Ideal .f32) (ix2 ⟨t.val / 4 % 16, by omega⟩ ⟨t.val % 4 * 512 + j.val, by omega⟩) = _
    rw [hb, hs]
    exact V_v1 m c _ _
  exact congrArg₂ (· + ·) ((iblk_4 m c t ht j k r hr).trans (V_v3 m c r k))
    (congrArg₂ (· * ·) (congrArg₂ (· * ·)
      (Finset.sum_congr rfl fun k' _ => congrArg₂ (· * ·) ((iblk_0 m c t ht j k' r hr).trans (V_v0 m c r k'))
        ((congrFun (iblk_2 m c t) _).trans (congrFun (V_main_arg2 m c) _)))
      es)
      ((congrFun (iblk_3 m c t) _).trans (V_v2 m c k)))

theorem g_at (c : Dev nD) (t : Fin cfg0.N) : (fun k : Fin 3840 => ((iblk m c 5 t : S1x3840.Idx → EReal) (ix2 0 k) : EReal)) = gam (A5 m c) := by
  funext k
  exact (congrFun (iblk_5 m c t) _).trans (V_v4 m c k)

theorem row_at (c : Dev nD) (t : Fin cfg0.N) (ht : t.val < 64) (j : Fin 512) (r : Fin 32768) (hr : r.val = t.val * 512 + j.val) :
    (fun k : Fin 3840 => (hBlk m c t (ix2 j k) : EReal)) = hid (A0 m c) (A1 m c) (A2 m c) (A3 m c) (A4 m c) r :=
  funext fun k => hBlk_at m c t ht j k r hr

theorem nBlk_at (c : Dev nD) (t : Fin cfg0.N) (ht : t.val < 64) (j : Fin 512) (k : Fin 3840) (r : Fin 32768) (hr : r.val = t.val * 512 + j.val) :
    (nBlk m c t (ix2 j k) : EReal) = rowN (hid (A0 m c) (A1 m c) (A2 m c) (A3 m c) (A4 m c) r) (gam (A5 m c)) k := by
  unfold nBlk
  rw [nB_row, row_at m c t ht j r hr, g_at]

theorem xv_at (c : Dev nD) (t : Fin cfg0.N) (ht : t.val < 64) (j : Fin 512) (r : Fin 32768) (hr : r.val = t.val * 512 + j.val) :
    xv (nBlk m c t) j = rowX (hid (A0 m c) (A1 m c) (A2 m c) (A3 m c) (A4 m c) r) (gam (A5 m c)) := by
  unfold nBlk
  rw [xv_row, row_at m c t ht j r hr, g_at]

/-! ## The arrays -/

theorem hG_eq (c : Dev nD) : hG m c = resH (A0 m c) (A1 m c) (A2 m c) (A3 m c) (A4 m c) := by
  funext i
  have h0 : (i 0).val < 32768 := (i 0).isLt
  exact hBlk_at m c _ (by show (i 0).val / 512 < 64; omega) _ (i 1) (i 0) (by show (i 0).val = (i 0).val / 512 * 512 + (i 0).val % 512; omega)

/-- A token's scale and its inverse, by the kernel's field arithmetic, are the reference's. -/
theorem exps (c : Dev nD) (hg : ∀ k, max (gam (A5 m c) k) (-(gam (A5 m c) k)) ≤ (Ideal.ofBits .f32 0x7F7FFFFF#32 : EReal))
    (t : Fin cfg0.N) (ht : t.val < 64) (j : Fin 512) (r : Fin 32768) (hr : r.val = t.val * 512 + j.val) :
    kSc (xv (nBlk m c t) j) = rSc (rowX (hid (A0 m c) (A1 m c) (A2 m c) (A3 m c) (A4 m c) r) (gam (A5 m c)))
      ∧ kInv (xv (nBlk m c t) j) = rInv (rowX (hid (A0 m c) (A1 m c) (A2 m c) (A3 m c) (A4 m c) r) (gam (A5 m c))) := by
  obtain ⟨x, hx, hx0, hx1⟩ := rowX_real (hid (A0 m c) (A1 m c) (A2 m c) (A3 m c) (A4 m c) r) (gam (A5 m c)) hg
  rw [xv_at m c t ht j r hr, hx]
  exact exp_all x hx0 hx1

theorem cG_eq (c : Dev nD) (hg : ∀ k, max (gam (A5 m c) k) (-(gam (A5 m c) k)) ≤ (Ideal.ofBits .f32 0x7F7FFFFF#32 : EReal)) :
    cG m c = resC (A0 m c) (A1 m c) (A2 m c) (A3 m c) (A4 m c) (A5 m c) := by
  funext i
  have h0 : (i 0).val < 32768 := (i 0).isLt
  have ht : (i 0).val / 512 < 64 := by omega
  have hr : (i 0).val = (i 0).val / 512 * 512 + (i 0).val % 512 := by omega
  have ex := (exps m c hg ⟨(i 0).val / 512, by show (i 0).val / 512 < 65; omega⟩ ht ⟨(i 0).val % 512, by omega⟩ (i 0) hr).2
  have en := nBlk_at m c ⟨(i 0).val / 512, by show (i 0).val / 512 < 65; omega⟩ ht ⟨(i 0).val % 512, by omega⟩ (i 1) (i 0) hr
  exact congrArg (fun z => min (Ideal.ofBits .f32 0x43E00000#32) (max (Ideal.ofBits .f32 0xC3E00000#32) z)) (congrArg₂ (· * ·) en ex)

theorem sG_eq (c : Dev nD) (hg : ∀ k, max (gam (A5 m c) k) (-(gam (A5 m c) k)) ≤ (Ideal.ofBits .f32 0x7F7FFFFF#32 : EReal)) :
    sG m c = resS (A0 m c) (A1 m c) (A2 m c) (A3 m c) (A4 m c) (A5 m c) := by
  funext y
  have h0 : (y 0).val < 16 := (y 0).isLt
  have h1 : (y 1).val < 2048 := (y 1).isLt
  exact (exps m c hg ⟨rowOf y, by show rowOf y < 65; unfold rowOf; omega⟩ (by show rowOf y < 64; unfold rowOf; omega) (tokOf y)
    ⟨(y 0).val * 2048 + (y 1).val, by omega⟩ (by show (y 0).val * 2048 + (y 1).val = ((y 0).val * 4 + (y 1).val / 512) * 512 + (y 1).val % 512; omega)).1

end Cert.KernelIdeal.Hand

end
-- ==== Proof.RefRows.lean ====
/-
  The reference's payloads, entry by entry: a token's hidden state, its normalised row, its greatest absolute value over
  448, its scale and its codes.
-/
module

public import proofs.«01_k».proof.Proof.Gen.ReferenceIdeal.Skeleton
public import proofs.«01_k».proof.Proof.RowMath
public import proofs.«01_k».proof.Proof.ExpMath
public import Idealize.ShloMosaic.Lib.Pointwise

@[expose] public section

noncomputable section

namespace Cert.ReferenceIdeal.Hand

open Cert.ReferenceIdeal Cert.ReferenceIdeal.Gen Cert.Hand
open Idealize.ShloMosaic

theorem d_out_eq : (Ideal.ofBits .f32 0x45700000#32 : EReal) = ((3840 : ℝ) : EReal) := by
  show (Ideal.ieee 8 23 (0x45700000#32) : EReal) = _
  unfold Ideal.ieee
  rw [show (BitVec.extractLsb' (8 + 23) 1 (0x45700000#32) == 1#1) = false from rfl,
    show (BitVec.extractLsb' 23 8 (0x45700000#32)).toNat = 138 from rfl, show (BitVec.extractLsb' 0 23 (0x45700000#32)).toNat = 7340032 from rfl]
  norm_num

theorem div_d_out (x : EReal) : Ideal.div x (Ideal.ofBits .f32 0x45700000#32) = x * ((1 / 3840 : ℝ) : EReal) := by
  rw [d_out_eq]
  unfold Ideal.div
  rw [if_neg (by exact_mod_cast (by norm_num : (3840 : ℝ) ≠ 0)), ← EReal.coe_inv, one_div]

theorem neg_inf : (Ideal.ofBits FTy.f32 4286578688#32 : EReal) = ⊥ := by simp [Ideal.ofBits, Ideal.ieee]

variable (v0 : Vec Ideal S32768x4096 .fp8e4m3) (v2 : Vec Ideal S4096x3840 .fp8e4m3) (v4 : Vec Ideal S32768x1 .f32)
  (v8 : Vec Ideal S1x3840 .f32) (v12 : Vec Ideal S32768x3840 .bf16) (v29 : Vec Ideal S1x3840 .f32)

/-- A token's hidden state. -/
theorem pay4_at (r : Fin 32768) (c : Fin 3840) :
    (k0_pay4 v0 v2 v4 v8 v12 (ix2 r c) : EReal)
      = v12 (ix2 r c) + (∑ k : Fin 4096, (v0 (ix2 r k) : EReal) * v2 (ix2 k c)) * v4 (ix2 r 0) * v8 (ix2 0 c) := by
  pointwise [k0_pay4]

/-- The rows of a hidden state, normalised. -/
def nV (h : FVec Ideal S32768x3840 .bf16) (v29 : Vec Ideal S1x3840 .f32) : FVec Ideal S32768x3840 .f32 :=
  have v18 : FVec Ideal S32768x3840 .f32 := extf .f32 h bitsLt_bf16_f32
  have v19 : FVec Ideal S32768x3840 .f32 := mulf v18 v18
  have v20 : FVec Ideal S32768 .f32 := multiReduction .add [1] S32768 v19 0x00000000#32 reduces_S32768x3840_S32768 (.inl rfl) rfl
  have v21 : FVec Ideal S32768x1 .f32 := shapeCast S32768x1 v20 shapeCasts_S32768_S32768x1
  have cst_12 : Ideal .f32 := Scalar.ofBits .f32 0x45700000#32
  have v22 : FVec Ideal S32768x1 .f32 := broadcast S32768x1 cst_12
  have v23 : FVec Ideal S32768x1 .f32 := divf v21 v22
  have cst_13 : Ideal .f32 := Scalar.ofBits .f32 0x3727C5AC#32
  have v24 : FVec Ideal S32768x1 .f32 := broadcast S32768x1 cst_13
  have v25 : FVec Ideal S32768x1 .f32 := addf v23 v24
  have v26 : FVec Ideal S32768x1 .f32 := rsqrt v25
  have v27 : FVec Ideal S32768x3840 .f32 := broadcastTo S32768x3840 v26 broadcasts_S32768x1_S32768x3840
  have v28 : FVec Ideal S32768x3840 .f32 := mulf v18 v27
  have v30 : FVec Ideal S1x3840 .f32 := shapeCast S1x3840 v29 shapeCasts_S1x3840_S1x3840
  have v31 : FVec Ideal S32768x3840 .f32 := broadcastTo S32768x3840 v30 broadcasts_S1x3840_S32768x3840
  have v32 : FVec Ideal S32768x3840 .f32 := mulf v28 v31
  v32

/-- The greatest absolute values over 448 of normalised rows. -/
def xV (n : FVec Ideal S32768x3840 .f32) : FVec Ideal S32768x1 .f32 :=
  have v33 : FVec Ideal S32768x3840 .f32 := absf n
  have v34 : FVec Ideal S32768 .f32 := multiReduction .maximumf [1] S32768 v33 0xFF800000#32 reduces_S32768x3840_S32768 (.inl rfl) rfl
  have v35 : FVec Ideal S32768x1 .f32 := shapeCast S32768x1 v34 shapeCasts_S32768_S32768x1
  have cst_17 : Ideal .f32 := Scalar.ofBits .f32 0x3B124925#32
  have v36 : FVec Ideal S32768x1 .f32 := broadcast S32768x1 cst_17
  have v37 : FVec Ideal S32768x1 .f32 := mulf v35 v36
  v37

theorem pay5_eq : k0_pay5 v0 v2 v4 v8 v12 v29 = nV (k0_pay4 v0 v2 v4 v8 v12) v29 := rfl
theorem pay6_eq : k0_pay6 v0 v2 v4 v8 v12 v29 = xV (k0_pay5 v0 v2 v4 v8 v12 v29) := rfl

theorem nV_at (h : FVec Ideal S32768x3840 .bf16) (r : Fin 32768) (c : Fin 3840) :
    (nV h v29 (ix2 r c) : EReal) = rowN (fun c => h (ix2 r c)) (fun c => v29 (ix2 0 c)) c := by
  unfold rowN rowI
  rw [← div_d_out]
  pointwise [nV]

theorem fold_max {n : Nat} (b : EReal) (f : Fin n → EReal) (s : Finset (Fin n)) :
    s.fold (FloatOps.maximumf : Ideal .f32 → Ideal .f32 → Ideal .f32) b f = s.fold (max : EReal → EReal → EReal) b f := rfl

theorem max_at {R C : Nat} (a : (⟨2, ![R, C]⟩ : Shape).Idx → EReal) (t : Shape) (h : (⟨2, ![R, C]⟩ : Shape).Reduces [1] t)
    (hφ : FKind.Formats .f32) (hacc : 0xFF800000#32 = FKind.maximumf.neutral .f32 hφ) (j : t.Idx) :
    (multiReduction (F := Ideal) (φ := .f32) .maximumf [1] t a 0xFF800000#32 h hφ hacc j : EReal)
      = Finset.univ.fold max (⊥ : EReal) fun k : Fin C => a (ix2 ⟨(j ⟨0, h.lt_r2_a1_0⟩).val, Shape.coordLt (j ⟨0, h.lt_r2_a1_0⟩) h.size_r2_a1_0⟩ k) := by
  rw [multiReduction_maximumf_eq_fold, Shape.Reduces.fold_fiber_r2_a1]
  refine (fold_max _ _ _).trans ?_
  rw [show (FloatOps.ofBits FTy.f32 0xFF800000#32 : Ideal .f32) = (⊥ : EReal) from neg_inf]

theorem row_max (n : FVec Ideal S32768x3840 .f32) (r : Fin 32768) :
    (multiReduction (F := Ideal) (φ := .f32) .maximumf [1] S32768 (absf n) 0xFF800000#32 reduces_S32768x3840_S32768 (.inl rfl) rfl (ix1 r) : EReal)
      = Finset.univ.fold max (⊥ : EReal) fun c => max (n (ix2 r c) : EReal) (-(n (ix2 r c))) :=
  max_at (R := 32768) (C := 3840) (absf n) S32768 reduces_S32768x3840_S32768 (.inl rfl) rfl (ix1 r)

theorem over_max (M : FVec Ideal S32768 .f32) (r : Fin 32768) :
    (mulf (shapeCast S32768x1 M shapeCasts_S32768_S32768x1) (broadcast S32768x1 (Scalar.ofBits .f32 0x3B124925#32)) (ix2 r 0) : EReal)
      = (M (ix1 r) : EReal) * Ideal.ofBits .f32 0x3B124925#32 := by
  pointwise

theorem xV_eq (n : FVec Ideal S32768x3840 .f32) :
    xV n = mulf (shapeCast S32768x1 (multiReduction (F := Ideal) (φ := .f32) .maximumf [1] S32768 (absf n) 0xFF800000#32 reduces_S32768x3840_S32768 (.inl rfl) rfl) shapeCasts_S32768_S32768x1)
      (broadcast S32768x1 (Scalar.ofBits .f32 0x3B124925#32)) := rfl

theorem xV_at (n : FVec Ideal S32768x3840 .f32) (r : Fin 32768) :
    (xV n (ix2 r 0) : EReal)
      = (Finset.univ.fold max (⊥ : EReal) fun c => max (n (ix2 r c) : EReal) (-(n (ix2 r c)))) * Ideal.ofBits .f32 0x3B124925#32 := by
  rw [xV_eq, over_max, row_max]

/-- A token's row, normalised. -/
theorem pay5_at (r : Fin 32768) (c : Fin 3840) :
    (k0_pay5 v0 v2 v4 v8 v12 v29 (ix2 r c) : EReal)
      = rowN (fun c => k0_pay4 v0 v2 v4 v8 v12 (ix2 r c)) (fun c => v29 (ix2 0 c)) c := by
  rw [pay5_eq]
  exact nV_at v29 _ r c

/-- Its greatest absolute value over 448. -/
theorem pay6_at (r : Fin 32768) :
    (k0_pay6 v0 v2 v4 v8 v12 v29 (ix2 r 0) : EReal)
      = rowX (fun c => k0_pay4 v0 v2 v4 v8 v12 (ix2 r c)) (fun c => v29 (ix2 0 c)) := by
  rw [pay6_eq, xV_at]
  unfold rowX
  simp only [pay5_at]

theorem one_word : (Ideal.ofBits .f32 0x3F800000#32 : EReal) = 1 := by rw [one_eq, EReal.coe_one]
theorem zero_word : (Ideal.ofBits .f32 0x00000000#32 : EReal) = 0 := by rw [zero_eq, EReal.coe_zero]

/-- Its scale. -/
theorem pay2_at (x : FVec Ideal S32768x1 .f32) (r : Fin 32768) :
    (k0_pay2 x (Scalar.ofBits .f32 0x00800000#32) (ix2 r 0) : EReal) = rSc (x (ix2 r 0)) := by
  unfold rSc rExp
  rw [one_word, zero_word]
  pointwise [k0_pay2, k0_pay1]
  rfl

/-- Its codes. -/
theorem pay3_at (n : FVec Ideal S32768x3840 .f32) (x : FVec Ideal S32768x1 .f32) (r : Fin 32768) (c : Fin 3840) :
    (k0_pay3 n x (Scalar.ofBits .f32 0x00800000#32) (ix2 r c) : EReal)
      = min (Ideal.ofBits .f32 0x43E00000#32) (max (Ideal.ofBits .f32 0xC3E00000#32) ((n (ix2 r c) : EReal) * rInv (x (ix2 r 0)))) := by
  unfold rInv rExp
  rw [one_word, zero_word]
  pointwise [k0_pay3, k0_pay1]
  rfl

end Cert.ReferenceIdeal.Hand

end
-- ==== Proof.RefVal.lean ====
/-
  The reference's results after its run, as functions of the arguments.
-/
module

public import proofs.«01_k».proof.Proof.Gen.ReferenceIdeal.Frame
public import proofs.«01_k».proof.Proof.RefRows
public import proofs.«01_k».proof.Proof.Spec
public import Idealize.ShloMosaic.Lib.StableHlo.ReadAt
public import Idealize.ShloMosaic.Lib.Pipeline.ValueKit

@[expose] public section

noncomputable section

namespace Cert.ReferenceIdeal.Hand

open Cert.ReferenceIdeal Cert.ReferenceIdeal.Gen Cert.Hand
open Idealize.ShloMosaic Idealize.ShloMosaic.TcCoe Idealize.ShloMosaic.Tactic
open Idealize.SL.Sem

variable (m : (ℓ : Loc nD τ sig) → Buf (Elt Ideal) ℓ) (ρ : Dev nD → PrngReg)

/-! ## The reshaped arguments -/

theorem V_v0 (c : Dev nD) (r : Fin 32768) (k : Fin 4096) :
    (Gen.V m c main_v0 : S32768x4096.Idx → Elt Ideal .fp8e4m3) (ix2 r k)
      = (m ((c : Thread nD τ).loc main_arg0) : S16x2048x4096.Idx → Elt Ideal .fp8e4m3) (ix3 ⟨r.val / 2048, by omega⟩ ⟨r.val % 2048, by omega⟩ k) := by
  unfold Gen.V Gen.V0
  after_reads_at

theorem V_v1 (c : Dev nD) (r : Fin 32768) :
    (Gen.V m c main_v1 : S32768x1.Idx → Elt Ideal .f32) (ix2 r 0)
      = (m ((c : Thread nD τ).loc main_arg1) : S16x2048x1.Idx → Elt Ideal .f32) (ix3 ⟨r.val / 2048, by omega⟩ ⟨r.val % 2048, by omega⟩ 0) := by
  unfold Gen.V Gen.V0
  after_reads_at

theorem V_v2 (c : Dev nD) (k : Fin 3840) :
    (Gen.V m c main_v2 : S1x3840.Idx → Elt Ideal .f32) (ix2 0 k)
      = (m ((c : Thread nD τ).loc main_arg3) : S3840.Idx → Elt Ideal .f32) (ix1 k) := by
  unfold Gen.V Gen.V0
  after_reads_at

theorem V_v3 (c : Dev nD) (r : Fin 32768) (k : Fin 3840) :
    (Gen.V m c main_v3 : S32768x3840.Idx → Elt Ideal .bf16) (ix2 r k)
      = (m ((c : Thread nD τ).loc main_arg4) : S16x2048x3840.Idx → Elt Ideal .bf16) (ix3 ⟨r.val / 2048, by omega⟩ ⟨r.val % 2048, by omega⟩ k) := by
  unfold Gen.V Gen.V0
  after_reads_at

theorem V_v4 (c : Dev nD) (k : Fin 3840) :
    (Gen.V m c main_v4 : S1x3840.Idx → Elt Ideal .f32) (ix2 0 k)
      = (m ((c : Thread nD τ).loc main_arg5) : S3840.Idx → Elt Ideal .f32) (ix1 k) := by
  unfold Gen.V Gen.V0
  after_reads_at

/-! ## The windows' blocks: the whole arrays -/

theorem iblk_0 (c : Dev nD) (t : Fin cfg0.N) : (iblk m c 0 t : S32768x4096.Idx → Elt Ideal .fp8e4m3) = (Gen.V m c main_v0 : S32768x4096.Idx → Elt Ideal .fp8e4m3) := by
  funext y
  show (Gen.V m c main_v0 : S32768x4096.Idx → Elt Ideal .fp8e4m3) ((win0_0.rect t).emb y) = _
  congr 1
  funext a
  match a with
  | ⟨0, _⟩ => exact Fin.ext (Pipeline.Window.rect_emb_val_of_index_zero win0_0 t 0 rfl y)
  | ⟨1, _⟩ => exact Fin.ext (Pipeline.Window.rect_emb_val_of_index_zero win0_0 t 1 rfl y)

theorem iblk_1 (c : Dev nD) (t : Fin cfg0.N) : (iblk m c 1 t : S32768x1.Idx → Elt Ideal .f32) = (Gen.V m c main_v1 : S32768x1.Idx → Elt Ideal .f32) := by
  funext y
  show (Gen.V m c main_v1 : S32768x1.Idx → Elt Ideal .f32) ((win0_1.rect t).emb y) = _
  congr 1
  funext a
  match a with
  | ⟨0, _⟩ => exact Fin.ext (Pipeline.Window.rect_emb_val_of_index_zero win0_1 t 0 rfl y)
  | ⟨1, _⟩ => exact Fin.ext (Pipeline.Window.rect_emb_val_of_index_zero win0_1 t 1 rfl y)

theorem iblk_2 (c : Dev nD) (t : Fin cfg0.N) : (iblk m c 2 t : S4096x3840.Idx → Elt Ideal .fp8e4m3) = (Gen.V m c main_arg2 : S4096x3840.Idx → Elt Ideal .fp8e4m3) := by
  funext y
  show (Gen.V m c main_arg2 : S4096x3840.Idx → Elt Ideal .fp8e4m3) ((win0_2.rect t).emb y) = _
  congr 1
  funext a
  match a with
  | ⟨0, _⟩ => exact Fin.ext (Pipeline.Window.rect_emb_val_of_index_zero win0_2 t 0 rfl y)
  | ⟨1, _⟩ => exact Fin.ext (Pipeline.Window.rect_emb_val_of_index_zero win0_2 t 1 rfl y)

theorem iblk_3 (c : Dev nD) (t : Fin cfg0.N) : (iblk m c 3 t : S1x3840.Idx → Elt Ideal .f32) = (Gen.V m c main_v2 : S1x3840.Idx → Elt Ideal .f32) := by
  funext y
  show (Gen.V m c main_v2 : S1x3840.Idx → Elt Ideal .f32) ((win0_3.rect t).emb y) = _
  congr 1
  funext a
  match a with
  | ⟨0, _⟩ => exact Fin.ext (Pipeline.Window.rect_emb_val_of_index_zero win0_3 t 0 rfl y)
  | ⟨1, _⟩ => exact Fin.ext (Pipeline.Window.rect_emb_val_of_index_zero win0_3 t 1 rfl y)

theorem iblk_4 (c : Dev nD) (t : Fin cfg0.N) : (iblk m c 4 t : S32768x3840.Idx → Elt Ideal .bf16) = (Gen.V m c main_v3 : S32768x3840.Idx → Elt Ideal .bf16) := by
  funext y
  show (Gen.V m c main_v3 : S32768x3840.Idx → Elt Ideal .bf16) ((win0_4.rect t).emb y) = _
  congr 1
  funext a
  match a with
  | ⟨0, _⟩ => exact Fin.ext (Pipeline.Window.rect_emb_val_of_index_zero win0_4 t 0 rfl y)
  | ⟨1, _⟩ => exact Fin.ext (Pipeline.Window.rect_emb_val_of_index_zero win0_4 t 1 rfl y)

theorem iblk_5 (c : Dev nD) (t : Fin cfg0.N) : (iblk m c 5 t : S1x3840.Idx → Elt Ideal .f32) = (Gen.V m c main_v4 : S1x3840.Idx → Elt Ideal .f32) := by
  funext y
  show (Gen.V m c main_v4 : S1x3840.Idx → Elt Ideal .f32) ((win0_5.rect t).emb y) = _
  congr 1
  funext a
  match a with
  | ⟨0, _⟩ => exact Fin.ext (Pipeline.Window.rect_emb_val_of_index_zero win0_5 t 0 rfl y)
  | ⟨1, _⟩ => exact Fin.ext (Pipeline.Window.rect_emb_val_of_index_zero win0_5 t 1 rfl y)

/-! ## What the body leaves -/

section
variable (x0 : Vec Ideal S32768x4096 .fp8e4m3) (x1 : Vec Ideal S32768x1 .f32) (x2 : Vec Ideal S4096x3840 .fp8e4m3)
  (x3 : Vec Ideal S1x3840 .f32) (x4 : Vec Ideal S32768x3840 .bf16) (x5 : Vec Ideal S1x3840 .f32)

theorem pay7_eq : k0_pay7 x0 x1 x2 x3 x4 x5 = k0_pay6 x0 x2 x1 x3 x4 x5 := by
  unfold k0_pay7
  rw [View.ld_unit_lit _ x0 (by decide), View.ld_unit_lit _ x1 (by decide), View.ld_unit_lit _ x2 (by decide),
    View.ld_unit_lit _ x3 (by decide), View.ld_unit_lit _ x4 (by decide), View.ld_unit_lit _ x5 (by decide)]

theorem out6_eq : out0_6 x0 x1 x2 x3 x4 x5 = k0_pay4 x0 x2 x1 x3 x4 := by
  unfold out0_6
  rw [View.canon_cons_unit_lit _ _ _ (by decide), View.ld_unit_lit _ x0 (by decide), View.ld_unit_lit _ x1 (by decide),
    View.ld_unit_lit _ x2 (by decide), View.ld_unit_lit _ x3 (by decide), View.ld_unit_lit _ x4 (by decide)]

theorem out7_eq : out0_7 x0 x1 x2 x3 x4 x5
    = k0_pay3 (k0_pay5 x0 x2 x1 x3 x4 x5) (k0_pay6 x0 x2 x1 x3 x4 x5) (Scalar.ofBits .f32 0x00800000#32) := by
  unfold out0_7
  rw [View.canon_cons_unit_lit _ _ _ (by decide), pay7_eq, View.ld_unit_lit _ x0 (by decide), View.ld_unit_lit _ x1 (by decide),
    View.ld_unit_lit _ x2 (by decide), View.ld_unit_lit _ x3 (by decide), View.ld_unit_lit _ x4 (by decide),
    View.ld_unit_lit _ x5 (by decide)]

theorem out8_eq : out0_8 x0 x1 x2 x3 x4 x5 = k0_pay2 (k0_pay6 x0 x2 x1 x3 x4 x5) (Scalar.ofBits .f32 0x00800000#32) := by
  unfold out0_8
  rw [View.canon_cons_unit_lit _ _ _ (by decide), pay7_eq]

end

/-! ## The arrays -/

/-- Argument arrays at their shapes. -/
abbrev A0 (c : Dev nD) : S16x2048x4096.Idx → EReal := m ((c : Thread nD τ).loc main_arg0)
abbrev A1 (c : Dev nD) : S16x2048x1.Idx → EReal := m ((c : Thread nD τ).loc main_arg1)
abbrev A2 (c : Dev nD) : S4096x3840.Idx → EReal := m ((c : Thread nD τ).loc main_arg2)
abbrev A3 (c : Dev nD) : S3840.Idx → EReal := m ((c : Thread nD τ).loc main_arg3)
abbrev A4 (c : Dev nD) : S16x2048x3840.Idx → EReal := m ((c : Thread nD τ).loc main_arg4)
abbrev A5 (c : Dev nD) : S3840.Idx → EReal := m ((c : Thread nD τ).loc main_arg5)

/-- The hidden state's entry. -/
theorem h_at (c : Dev nD) (t : Fin cfg0.N) (r : Fin 32768) (k : Fin 3840) :
    (k0_pay4 (iblk m c 0 t) (iblk m c 2 t) (iblk m c 1 t) (iblk m c 3 t) (iblk m c 4 t) (ix2 r k) : EReal)
      = hid (A0 m c) (A1 m c) (A2 m c) (A3 m c) (A4 m c) r k := by
  rw [pay4_at]
  exact congrArg₂ (· + ·) ((congrFun (iblk_4 m c t) _).trans (V_v3 m c r k))
    (congrArg₂ (· * ·) (congrArg₂ (· * ·)
      (Finset.sum_congr rfl fun k' _ => congrArg₂ (· * ·) ((congrFun (iblk_0 m c t) _).trans (V_v0 m c r k'))
        ((congrFun (iblk_2 m c t) _).trans (congrFun (V_main_arg2 m c) _)))
      ((congrFun (iblk_1 m c t) _).trans (V_v1 m c r)))
      ((congrFun (iblk_3 m c t) _).trans (V_v2 m c k)))

theorem g_at (c : Dev nD) (t : Fin cfg0.N) : (fun k : Fin 3840 => ((iblk m c 5 t : S1x3840.Idx → EReal) (ix2 0 k) : EReal)) = gam (A5 m c) := by
  funext k
  exact (congrFun (iblk_5 m c t) _).trans (V_v4 m c k)

theorem x_at (c : Dev nD) (t : Fin cfg0.N) (r : Fin 32768) :
    (k0_pay6 (iblk m c 0 t) (iblk m c 2 t) (iblk m c 1 t) (iblk m c 3 t) (iblk m c 4 t) (iblk m c 5 t) (ix2 r 0) : EReal)
      = rowX (hid (A0 m c) (A1 m c) (A2 m c) (A3 m c) (A4 m c) r) (gam (A5 m c)) := by
  rw [pay6_at]
  congr 1
  · funext k; exact h_at m c t r k
  · exact g_at m c t

theorem n_at (c : Dev nD) (t : Fin cfg0.N) (r : Fin 32768) (k : Fin 3840) :
    (k0_pay5 (iblk m c 0 t) (iblk m c 2 t) (iblk m c 1 t) (iblk m c 3 t) (iblk m c 4 t) (iblk m c 5 t) (ix2 r k) : EReal)
      = rowN (hid (A0 m c) (A1 m c) (A2 m c) (A3 m c) (A4 m c) r) (gam (A5 m c)) k := by
  rw [pay5_at]
  congr 1
  · funext k; exact h_at m c t r k
  · exact g_at m c t

theorem whole6 : win0_6.WholeAt ⟨0, by decide⟩ := by decide +kernel
theorem whole7 : win0_7.WholeAt ⟨0, by decide⟩ := by decide +kernel
theorem whole8 : win0_8.WholeAt ⟨0, by decide⟩ := by decide +kernel

theorem ix_eta {n0 n1 : Nat} (y : (⟨2, ![n0, n1]⟩ : Shape).Idx) : ∃ (r : Fin n0) (k : Fin n1), y = ix2 r k :=
  ⟨y 0, y 1, by
    funext a
    match a with
    | ⟨0, _⟩ => rfl
    | ⟨1, _⟩ => rfl⟩

/-- The scales as the region leaves them: one a token. -/
def resT (c : Dev nD) : S32768x1.Idx → EReal := fun i =>
  rSc (rowX (hid (A0 m c) (A1 m c) (A2 m c) (A3 m c) (A4 m c) (i 0)) (gam (A5 m c)))

theorem c_at (c : Dev nD) (t : Fin cfg0.N) (r : Fin 32768) (k : Fin 3840) :
    (k0_pay3 (k0_pay5 (iblk m c 0 t) (iblk m c 2 t) (iblk m c 1 t) (iblk m c 3 t) (iblk m c 4 t) (iblk m c 5 t)) (k0_pay6 (iblk m c 0 t) (iblk m c 2 t) (iblk m c 1 t) (iblk m c 3 t) (iblk m c 4 t) (iblk m c 5 t)) (Scalar.ofBits .f32 0x00800000#32) (ix2 r k) : EReal)
      = resC (A0 m c) (A1 m c) (A2 m c) (A3 m c) (A4 m c) (A5 m c) (ix2 r k) := by
  rw [pay3_at, x_at, n_at]
  rfl

theorem s_at (c : Dev nD) (t : Fin cfg0.N) (r : Fin 32768) :
    (k0_pay2 (k0_pay6 (iblk m c 0 t) (iblk m c 2 t) (iblk m c 1 t) (iblk m c 3 t) (iblk m c 4 t) (iblk m c 5 t)) (Scalar.ofBits .f32 0x00800000#32) (ix2 r 0) : EReal) = resT m c (ix2 r 0) := by
  rw [pay2_at, x_at]
  rfl

theorem h_fn (c : Dev nD) (t : Fin cfg0.N) :
    ((dats m 0 c).after 6 t : S32768x3840.Idx → EReal) = resH (A0 m c) (A1 m c) (A2 m c) (A3 m c) (A4 m c) := by
  rw [after0_6, out6_eq]
  funext y
  obtain ⟨r, k, rfl⟩ := ix_eta (n0 := 32768) (n1 := 3840) y
  exact h_at m c t r k

theorem c_fn (c : Dev nD) (t : Fin cfg0.N) :
    ((dats m 0 c).after 7 t : S32768x3840.Idx → EReal) = resC (A0 m c) (A1 m c) (A2 m c) (A3 m c) (A4 m c) (A5 m c) := by
  rw [after0_7, out7_eq]
  funext y
  obtain ⟨r, k, rfl⟩ := ix_eta (n0 := 32768) (n1 := 3840) y
  exact c_at m c t r k

theorem s_fn (c : Dev nD) (t : Fin cfg0.N) : ((dats m 0 c).after 8 t : S32768x1.Idx → EReal) = resT m c := by
  rw [after0_8, out8_eq]
  funext y
  obtain ⟨r, k, rfl⟩ := ix_eta (n0 := 32768) (n1 := 1) y
  rw [Subsingleton.elim k 0]
  exact s_at m c t r

theorem arr6 (c : Dev nD) (G : S32768x3840.Idx → EReal) (h : ∀ t, ((dats m 0 c).after 6 t : S32768x3840.Idx → EReal) = G) :
    (dats m 0 c).arrAt 6 cfg0.N = G := by
  refine Pipeline.Dat.arrAt_eq_of_after_last (dats m 0 c) 6 ⟨0, by decide⟩ whole6 _ (fun y => ?_)
  exact congrFun (h _) y

theorem arr7 (c : Dev nD) (G : S32768x3840.Idx → EReal) (h : ∀ t, ((dats m 0 c).after 7 t : S32768x3840.Idx → EReal) = G) :
    (dats m 0 c).arrAt 7 cfg0.N = G := by
  refine Pipeline.Dat.arrAt_eq_of_after_last (dats m 0 c) 7 ⟨0, by decide⟩ whole7 _ (fun y => ?_)
  exact congrFun (h _) y

theorem arr8 (c : Dev nD) (G : S32768x1.Idx → EReal) (h : ∀ t, ((dats m 0 c).after 8 t : S32768x1.Idx → EReal) = G) :
    (dats m 0 c).arrAt 8 cfg0.N = G := by
  refine Pipeline.Dat.arrAt_eq_of_after_last (dats m 0 c) 8 ⟨0, by decide⟩ whole8 _ (fun y => ?_)
  exact congrFun (h _) y

theorem h_array (c : Dev nD) : (dats m 0 c).arrAt 6 cfg0.N = resH (A0 m c) (A1 m c) (A2 m c) (A3 m c) (A4 m c) :=
  arr6 m c _ (h_fn m c)

theorem c_array (c : Dev nD) : (dats m 0 c).arrAt 7 cfg0.N = resC (A0 m c) (A1 m c) (A2 m c) (A3 m c) (A4 m c) (A5 m c) :=
  arr7 m c _ (c_fn m c)

theorem s_array (c : Dev nD) : (dats m 0 c).arrAt 8 cfg0.N = resT m c := arr8 m c _ (s_fn m c)

/-- The scales after the last reshape. -/
theorem s_tail (c : Dev nD) :
    (Pipeline.afterTail₀ cfgs (dats m) 0 (V0 m) [hostOps1] c main_v6 : S16x2048.Idx → EReal)
      = resS (A0 m c) (A1 m c) (A2 m c) (A3 m c) (A4 m c) (A5 m c) := by
  have hw : Pipeline.withArrays spec0 c (V0 m c) (fun w => (dats m 0 c).arrAt w cfg0.N) (Proc.devRef .tc main_v5_2) = resT m c :=
    (Pipeline.withArrays_arr spec0 launch0.win.arr_inj c (V0 m c) (fun w => (dats m 0 c).arrAt w cfg0.N) 8).trans (s_array m c)
  funext y
  obtain ⟨r, k, rfl⟩ := ix_eta (n0 := 16) (n1 := 2048) y
  unfold Pipeline.afterTail₀
  after_reads_at
  exact congrFun hw _

/-- Every weakly fair execution terminates with the three results at these arrays and the arguments unchanged. -/
theorem value : θ_run defs (onTc (τ := τ) (main (F := Ideal))) ⟨m, fun _ => 0, ρ⟩ (fun r => ∀ c : Dev nD,
      r.2.mem ((c.tc : Thread nD τ).loc main_v5_0) = resH (A0 m c) (A1 m c) (A2 m c) (A3 m c) (A4 m c)
      ∧ r.2.mem ((c.tc : Thread nD τ).loc main_v5_1) = resC (A0 m c) (A1 m c) (A2 m c) (A3 m c) (A4 m c) (A5 m c)
      ∧ r.2.mem ((c.tc : Thread nD τ).loc main_v6) = resS (A0 m c) (A1 m c) (A2 m c) (A3 m c) (A4 m c) (A5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (run_main m ρ)
  exact ⟨((h c).1 6).trans (h_array m c), ((h c).1 7).trans (c_array m c),
      ((h c).2 main_v6 (Pipeline.mem_restRefs_of main_v6 (by decide) (by decide))).trans (s_tail m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩

end Cert.ReferenceIdeal.Hand

end
-- ==== Proof.PreGamma.lean ====
/-
  What the precondition says of gamma, entry by entry.
-/
module

public import proofs.«01_k».proof.Pre_gamma_bounded
public import proofs.«01_k».proof.Proof.Spec
public import Idealize.ShloMosaic.Lib.Pointwise

@[expose] public section

noncomputable section

namespace Cert.Pre_gamma_bounded.Hand

open Idealize.ShloMosaic Cert.Hand Cert.Pre_gamma_bounded

theorem facts : Cert.Pre_gamma_bounded.Facts where
  bcast_S_S3840 := by decide

attribute [local instance] facts

theorem gamma_le (a0 : FVec Ideal S16x2048x4096 .fp8e4m3) (a1 : FVec Ideal S16x2048x1 .f32) (a2 : FVec Ideal S4096x3840 .fp8e4m3)
    (a3 : FVec Ideal S3840 .f32) (a4 : FVec Ideal S16x2048x3840 .bf16) (a5 : FVec Ideal S3840 .f32)
    (h : fn a0 a1 a2 a3 a4 a5 = fun _ => 1#1) (k : Fin 3840) :
    max (gam a5 k) (-(gam a5 k)) ≤ (Ideal.ofBits .f32 0x7F7FFFFF#32 : EReal) := by
  have e : fn a0 a1 a2 a3 a4 a5 (ix1 k)
      = BitVec.ofBool (decide (FloatOps.absf (a5 (ix1 k)) ≤ (Ideal.ofBits .f32 0x7F7FFFFF#32 : EReal))) := by
    pointwise [fn]
  rw [congrFun h (ix1 k)] at e
  by_contra hn
  rw [decide_eq_false (p := FloatOps.absf (a5 (ix1 k)) ≤ (Ideal.ofBits .f32 0x7F7FFFFF#32 : EReal)) hn] at e
  exact absurd e (by decide)

end Cert.Pre_gamma_bounded.Hand

end
-- ==== Proof.Algebraic.lean ====
/-
  The kernel and the reference, idealized, end with equal results.
-/
module

public import proofs.«01_k».proof.Defs
public import proofs.«01_k».proof.Proof.KerVal
public import proofs.«01_k».proof.Proof.RefVal
public import proofs.«01_k».proof.Proof.PreGamma

@[expose] public section

noncomputable section

namespace Cert.Hand

open Idealize.ShloMosaic
open Idealize.SL.Sem

theorem algebraic : Cert.algebraic_KernelIdeal_ReferenceIdeal_pre_gamma_bounded (hKernelIdeal := Cert.KernelIdeal.Gen.facts)
    (hReferenceIdeal := Cert.ReferenceIdeal.Gen.facts) (hPre_gamma_bounded := Cert.Pre_gamma_bounded.Hand.facts) := by
  intro m g m' g' hp hm
  have hg : ∀ (c : Dev Cert.KernelIdeal.nD) (k : Fin 3840), max (gam (Cert.KernelIdeal.Hand.A5 m c) k) (-(gam (Cert.KernelIdeal.Hand.A5 m c) k)) ≤ (Ideal.ofBits .f32 0x7F7FFFFF#32 : EReal) :=
    fun c k => Cert.Pre_gamma_bounded.Hand.gamma_le _ _ _ _ _ _ (hp c) k
  refine ⟨Cert.KernelIdeal.Hand.hG m, Cert.KernelIdeal.Hand.cG m, Cert.KernelIdeal.Hand.sG m, Cert.KernelIdeal.Hand.value m g, ?_⟩
  refine (θ_run _ _ _).mono (fun r h c => ?_) (Cert.ReferenceIdeal.Hand.value m' g')
  obtain ⟨h0, h1, h2, h3, h4, h5⟩ := hm c
  have e0 : Cert.ReferenceIdeal.Hand.A0 m' c = Cert.KernelIdeal.Hand.A0 m c := h0
  have e1 : Cert.ReferenceIdeal.Hand.A1 m' c = Cert.KernelIdeal.Hand.A1 m c := h1
  have e2 : Cert.ReferenceIdeal.Hand.A2 m' c = Cert.KernelIdeal.Hand.A2 m c := h2
  have e3 : Cert.ReferenceIdeal.Hand.A3 m' c = Cert.KernelIdeal.Hand.A3 m c := h3
  have e4 : Cert.ReferenceIdeal.Hand.A4 m' c = Cert.KernelIdeal.Hand.A4 m c := h4
  have e5 : Cert.ReferenceIdeal.Hand.A5 m' c = Cert.KernelIdeal.Hand.A5 m c := h5
  obtain ⟨r0, r1, r2, rest⟩ := h c
  rw [e0, e1, e2, e3, e4] at r0
  rw [e0, e1, e2, e3, e4, e5] at r1 r2
  exact ⟨r0.trans (Cert.KernelIdeal.Hand.hG_eq m c).symm, r1.trans (Cert.KernelIdeal.Hand.cG_eq m c (hg c)).symm,
    r2.trans (Cert.KernelIdeal.Hand.sG_eq m c (hg c)).symm, rest⟩

end Cert.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.FrameBits
public import proofs.«01_k».proof.Proof.FrameIdeal
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Pre_gamma_bounded.Hand.facts,
  fun m g _ => Cert.Kernel.Hand.frame m g, fun m g _ => Cert.KernelIdeal.Hand.frame_claim m g,
  fun m g _ => Cert.KernelIdeal.Hand.frame_claim m g,
  fun m g _ => Cert.ReferenceIdeal.Gen.frame m g, fun m g _ => Cert.ReferenceIdeal.Gen.frame m g,
  IdealRules.named_const.statement Cert.KernelIdeal.κ "inv_d_out" .f32 0x39888889#32 ((1 / 3840 : ℝ) : EReal) rfl,
  Cert.Hand.algebraic⟩

end Cert.Proof

end
